-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_v88) = v2 c
          ∧ r.2.mem ((c.tc : Thread Cert.Reference4Ideal.nD Cert.Reference4Ideal.τ).loc Cert.Reference4Ideal.main_v89) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_queries_and_keys.lean ====
abbrev S2x8192x1024 : Shape := ⟨3, ![2, 8192, 1024]⟩
abbrev S2x8192x256 : Shape := ⟨3, ![2, 8192, 256]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  bcast_S_S2x8192x256 : S_.BroadcastsInDim S2x8192x256 (![] : Fin 0 → Fin S2x8192x256.rank)

variable [Facts]

def fn {F : FTy → Type} [FloatOps F] (main_arg0 : FVec F S2x8192x1024 .bf16) (main_arg1 : FVec F S2x8192x256 .bf16) (main_arg2 : FVec F S2x8192x256 .bf16) : IVec S2x8192x1024 1 × IVec S2x8192x256 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S2x8192x256 .f32 := (extf .f32 · bitsLt_bf16_f32) main_arg1
  let main_v5 : FVec F S2x8192x256 .f32 := Host.absf main_v4
  let main_cst_0 : FVec F S_ .f32 := constant S_ .f32 0x7F800000#32
  let main_v6 : FVec F S2x8192x256 .f32 := broadcastInDim S2x8192x256 ![] bcast_S_S2x8192x256 main_cst_0
  let main_v7 : IVec S2x8192x256 1 := cmpf .olt main_v5 main_v6
  (main_v3, main_v7)
-- ==== Kernel.lean ====
abbrev S2x8192x1024 : Shape := ⟨3, ![2, 8192, 1024]⟩
abbrev S2x8192x256 : Shape := ⟨3, ![2, 8192, 256]⟩
abbrev S1x512x512 : Shape := ⟨3, ![1, 512, 512]⟩
abbrev S1x1024x128 : Shape := ⟨3, ![1, 1024, 128]⟩
abbrev S4x512x128 : Shape := ⟨3, ![4, 512, 128]⟩
abbrev S1024x128 : Shape := ⟨2, ![1024, 128]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S2x8192x256, .bf16⟩
  | .hbm, ⟨3, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x512x512, .f32⟩
  | .local _ .vmem, ⟨7, _⟩ => ⟨S1x512x512, .f32⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 2, 16, 8], ![false, false, false, false]⟩

def k0_cond2 (i : grid0.Coords) : BitVec 1 :=
  let arg3 : BitVec 32 := BitVec.ofNat 32 (i 3).val
  let c7_i32 : BitVec 32 := 7#32
  let v151 : BitVec 1 := Scalar.cmpi .eq arg3 c7_i32
  let v152 : BitVec 32 := Scalar.extui v151
  let c0_i32_99 : BitVec 32 := 0#32
  let v153 : BitVec 1 := Scalar.cmpi .ne v152 c0_i32_99
  v153

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S2x8192x1024 : Shape := ⟨3, ![2, 8192, 1024]⟩
abbrev S2x8192x256 : Shape := ⟨3, ![2, 8192, 256]⟩
abbrev S2x8192x2x4x128 : Shape := ⟨5, ![2, 8192, 2, 4, 128]⟩
abbrev S2x8192x2x128 : Shape := ⟨4, ![2, 8192, 2, 128]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S2x8192x256, .bf16⟩
  | .hbm, ⟨3, _⟩ => ⟨S2x8192x1024, .f32⟩
  | .hbm, ⟨4, _⟩ => ⟨S2x8192x2x4x128, .f32⟩
  | .hbm, ⟨5, _⟩ => ⟨S2x8192x256, .f32⟩
  | .hbm, ⟨6, _⟩ => ⟨S2x8192x2x128, .f32⟩
  | .hbm, ⟨7, _⟩ => ⟨S2x8192x256, .f32⟩
  | .hbm, ⟨8, _⟩ => ⟨S2x8192x2x128, .f32⟩
  | .hbm, ⟨9, _⟩ => ⟨S2x2x8192x8192x4, .f32⟩
  | .hbm, ⟨10, _⟩ => ⟨S2x2x4x8192x8192, .f32⟩
  | .hbm, ⟨11, _⟩ => ⟨S_, .f32⟩
  | .hbm, ⟨12, _⟩ => ⟨S2x2x4x8192, .f32⟩
  | .hbm, ⟨13, _⟩ => ⟨S_, .f32⟩
  | .hbm, ⟨14, _⟩ => ⟨S2x2x4x8192, .f32⟩
  | .hbm, ⟨15, _⟩ => ⟨S2x2x4x8192, .f32⟩
  | .hbm, ⟨16, _⟩ => ⟨S2x2x4x8192x1, .f32⟩
  | .hbm, ⟨17, _⟩ => ⟨S2x2x4x8192x8192, .f32⟩
  | .hbm, ⟨18, _⟩ => ⟨S2x2x4x8192x8192, .f32⟩
  | .hbm, ⟨19, _⟩ => ⟨S2x2x4x8192x8192, .f32⟩
  | .hbm, ⟨20, _⟩ => ⟨S_, .f32⟩
  | .hbm, ⟨21, _⟩ => ⟨S2x2x4x8192, .f32⟩
  | .hbm, ⟨22, _⟩ => ⟨S2x2x4x8192x1, .f32⟩
  | .hbm, ⟨23, _⟩ => ⟨S2x2x4x8192x8192, .f32⟩
  | .hbm, ⟨24, _⟩ => ⟨S2x2x4x8192x8192, .f32⟩
  | .hbm, ⟨25, _⟩ => ⟨S2x2x128x4x8192, .f32⟩
  | .hbm, ⟨26, _⟩ => ⟨S2x8192x2x4x128, .f32⟩
  | .hbm, ⟨27, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel2.lean ====
abbrev S16384x2048 : Shape := ⟨2, ![16384, 2048]⟩
abbrev S16384x1024 : Shape := ⟨2, ![16384, 1024]⟩
abbrev S16384x512 : Shape := ⟨2, ![16384, 512]⟩
abbrev S3x512 : Shape := ⟨2, ![3, 512]⟩
abbrev S1x2048 : Shape := ⟨2, ![1, 2048]⟩
abbrev S2048x2048 : Shape := ⟨2, ![2048, 2048]⟩
abbrev S512x2048 : Shape := ⟨2, ![512, 2048]⟩
abbrev S512x1024 : Shape := ⟨2, ![512, 1024]⟩
abbrev S512x512 : Shape := ⟨2, ![512, 512]⟩
abbrev S8x512 : Shape := ⟨2, ![8, 512]⟩
abbrev S512 : Shape := ⟨1, ![512]⟩
abbrev S512x1 : Shape := ⟨2, ![512, 1]⟩
abbrev S1x1024 : Shape := ⟨2, ![1, 1024]⟩
abbrev S1x512 : Shape := ⟨2, ![1, 512]⟩

abbrev nBuf : Space → Nat
  | .hbm => 13
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S3x512, .f32⟩
  | .hbm, ⟨9, _⟩ => ⟨S1x2048, .f32⟩
  | .hbm, ⟨10, _⟩ => ⟨S2048x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S3x512, .f32⟩
  | .local _ .vmem, ⟨21, _⟩ => ⟨S1x2048, .f32⟩
  | .local _ .vmem, ⟨22, _⟩ => ⟨S2048x2048, .bf16⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x2048 : Shape := ⟨2, ![16384, 2048]⟩
abbrev S16384x1024 : Shape := ⟨2, ![16384, 1024]⟩
abbrev S16384x512 : Shape := ⟨2, ![16384, 512]⟩
abbrev S3x512 : Shape := ⟨2, ![3, 512]⟩
abbrev S1x2048 : Shape := ⟨2, ![1, 2048]⟩
abbrev S2048x2048 : Shape := ⟨2, ![2048, 2048]⟩
abbrev S2048 : Shape := ⟨1, ![2048]⟩
abbrev S2x8192x512 : Shape := ⟨3, ![2, 8192, 512]⟩
abbrev S_ : Shape := ⟨0, ![]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S3x512, .f32⟩
  | .hbm, ⟨9, _⟩ => ⟨S1x2048, .f32⟩
  | .hbm, ⟨10, _⟩ => ⟨S2048x2048, .bf16⟩
  | .hbm, ⟨11, _⟩ => ⟨S1x2048, .f32⟩
  | .hbm, ⟨12, _⟩ => ⟨S2048, .f32⟩
  | .hbm, ⟨13, _⟩ => ⟨S2x8192x512, .f32⟩
  | .hbm, ⟨14, _⟩ => ⟨S_, .i32⟩
  | .hbm, ⟨15, _⟩ => ⟨S_, .f32⟩
  | .hbm, ⟨16, _⟩ => ⟨S2x8194x512, .f32⟩
  | .hbm, ⟨17, _⟩ => ⟨S2x8192x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S1x512, .f32⟩
  | .hbm, ⟨25, _⟩ => ⟨S512, .f32⟩
  | .hbm, ⟨26, _⟩ => ⟨S1x1x512, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S1x512, .f32⟩
  | .hbm, ⟨32, _⟩ => ⟨S512, .f32⟩
  | .hbm, ⟨33, _⟩ => ⟨S1x1x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S16384x512, .f32⟩
  | .hbm, ⟨38, _⟩ => ⟨S16384x512, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S512, .f32⟩
  | .hbm, ⟨58, _⟩ => ⟨S16384x512, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x512, .f32⟩
  | .hbm, ⟨70, _⟩ => ⟨S16384x512, .f32⟩
  | .hbm, ⟨71, _⟩ => ⟨S1x512, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S512, .f32⟩
  | .hbm, ⟨76, _⟩ => ⟨S16384x512, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x512, .f32⟩
  | .hbm, ⟨88, _⟩ => ⟨S16384x512, .f32⟩
  | .hbm, ⟨89, _⟩ => ⟨S1x512, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S16384x2048, .f32⟩
  | .hbm, ⟨94, _⟩ => ⟨S2048x2048, .f32⟩
  | .hbm, ⟨95, _⟩ => ⟨S16384x2048, .f32⟩
  | .hbm, ⟨96, _⟩ => ⟨S16384x2048, .f32⟩
  | .hbm, ⟨97, _⟩ => ⟨S2048, .f32⟩
  | .hbm, ⟨98, _⟩ => ⟨S16384x2048, .f32⟩
  | .hbm, ⟨99, _⟩ => ⟨S_, .f32⟩
  | .hbm, ⟨100, _⟩ => ⟨S16384, .f32⟩
  | .hbm, ⟨101, _⟩ => ⟨S16384x1, .f32⟩
  | .hbm, ⟨102, _⟩ => ⟨S_, .f32⟩
  | .hbm, ⟨103, _⟩ => ⟨S16384x1, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S16384x1, .f32⟩
  | .hbm, ⟨109, _⟩ => ⟨S16384x2048, .f32⟩
  | .hbm, ⟨110, _⟩ => ⟨S16384x2048, .f32⟩
  | .hbm, ⟨111, _⟩ => ⟨S1x2048, .f32⟩
  | .hbm, ⟨112, _⟩ => ⟨S16384x2048, .f32⟩
  | .hbm, ⟨113, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_cst_10 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2048x3584 : Shape := ⟨2, ![2048, 3584]⟩
abbrev S1x512 : Shape := ⟨2, ![1, 512]⟩
abbrev S4x128x128 : Shape := ⟨3, ![4, 128, 128]⟩
abbrev S128x4 : Shape := ⟨2, ![128, 4]⟩
abbrev S16384x512 : Shape := ⟨2, ![16384, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩
abbrev S512x128 : Shape := ⟨2, ![512, 128]⟩
abbrev S1x128 : Shape := ⟨2, ![1, 128]⟩
abbrev S128x128 : Shape := ⟨2, ![128, 128]⟩
abbrev S128x512 : Shape := ⟨2, ![128, 512]⟩
abbrev S1x128x128 : Shape := ⟨3, ![1, 128, 128]⟩
abbrev S128x1 : Shape := ⟨2, ![128, 1]⟩

abbrev nBuf : Space → Nat
  | .hbm => 11
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x3584, .bf16⟩
  | .hbm, ⟨3, _⟩ => ⟨S1x512, .f32⟩
  | .hbm, ⟨4, _⟩ => ⟨S4x128x128, .bf16⟩
  | .hbm, ⟨5, _⟩ => ⟨S128x4, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3584, .bf16⟩
  | .local _ .vmem, ⟨4, _⟩ => ⟨S1x512, .f32⟩
  | .local _ .vmem, ⟨5, _⟩ => ⟨S4x128x128, .bf16⟩
  | .local _ .vmem, ⟨6, _⟩ => ⟨S128x4, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x2048 : Shape := ⟨2, ![16384, 2048]⟩
abbrev S1x2048 : Shape := ⟨2, ![1, 2048]⟩
abbrev S2048x3584 : Shape := ⟨2, ![2048, 3584]⟩
abbrev S1x512 : Shape := ⟨2, ![1, 512]⟩
abbrev S4x128x128 : Shape := ⟨3, ![4, 128, 128]⟩
abbrev S128x4 : Shape := ⟨2, ![128, 4]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x3584 : Shape := ⟨2, ![16384, 3584]⟩
abbrev S16384x512 : Shape := ⟨2, ![16384, 512]⟩
abbrev S16384x4x128 : Shape := ⟨3, ![16384, 4, 128]⟩
abbrev S4x128 : Shape := ⟨2, ![4, 128]⟩
abbrev S16384x4 : Shape := ⟨2, ![16384, 4]⟩
abbrev S16384x4x1 : Shape := ⟨3, ![16384, 4, 1]⟩
abbrev S1x4x128 : Shape := ⟨3, ![1, 4, 128]⟩
abbrev S128x128x4x128 : Shape := ⟨4, ![128, 128, 4, 128]⟩
abbrev S4x128x128x128 : Shape := ⟨4, ![4, 128, 128, 128]⟩
abbrev S128x4x1 : Shape := ⟨3, ![128, 4, 1]⟩
abbrev S1x128x4x1 : Shape := ⟨4, ![1, 128, 4, 1]⟩

abbrev nBuf : Space → Nat
  | .hbm => 97
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x3584, .bf16⟩
  | .hbm, ⟨3, _⟩ => ⟨S1x512, .f32⟩
  | .hbm, ⟨4, _⟩ => ⟨S4x128x128, .bf16⟩
  | .hbm, ⟨5, _⟩ => ⟨S128x4, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x3584, .f32⟩
  | .hbm, ⟨24, _⟩ => ⟨S16384x3584, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x4x128, .f32⟩
  | .hbm, ⟨51, _⟩ => ⟨S4x128, .f32⟩
  | .hbm, ⟨52, _⟩ => ⟨S16384x4x128, .f32⟩
  | .hbm, ⟨53, _⟩ => ⟨S_, .f32⟩
  | .hbm, ⟨54, _⟩ => ⟨S16384x4, .f32⟩
  | .hbm, ⟨55, _⟩ => ⟨S16384x4x1, .f32⟩
  | .hbm, ⟨56, _⟩ => ⟨S_, .f32⟩
  | .hbm, ⟨57, _⟩ => ⟨S16384x4x1, .f32⟩
  | .hbm, ⟨58, _⟩ => ⟨S16384x4x1, .f32⟩
  | .hbm, ⟨59, _⟩ => ⟨S_, .f32⟩
  | .hbm, ⟨60, _⟩ => ⟨S16384x4x1, .f32⟩
  | .hbm, ⟨61, _⟩ => ⟨S16384x4x1, .f32⟩
  | .hbm, ⟨62, _⟩ => ⟨S16384x4x1, .f32⟩
  | .hbm, ⟨63, _⟩ => ⟨S16384x4x128, .f32⟩
  | .hbm, ⟨64, _⟩ => ⟨S16384x4x128, .f32⟩
  | .hbm, ⟨65, _⟩ => ⟨S1x4x128, .f32⟩
  | .hbm, ⟨66, _⟩ => ⟨S16384x4x128, .f32⟩
  | .hbm, ⟨67, _⟩ => ⟨S16384x4x128, .f32⟩
  | .hbm, ⟨68, _⟩ => ⟨S128x128x4x128, .f32⟩
  | .hbm, ⟨69, _⟩ => ⟨S4x128x128, .f32⟩
  | .hbm, ⟨70, _⟩ => ⟨S4x128x128x128, .f32⟩
  | .hbm, ⟨71, _⟩ => ⟨S128x128x4x128, .f32⟩
  | .hbm, ⟨72, _⟩ => ⟨S128x4x1, .f32⟩
  | .hbm, ⟨73, _⟩ => ⟨S1x128x4x1, .f32⟩
  | .hbm, ⟨74, _⟩ => ⟨S128x128x4x128, .f32⟩
  | .hbm, ⟨75, _⟩ => ⟨S128x128x4x128, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S_, .f32⟩
  | .hbm, ⟨80, _⟩ => ⟨S16384x512, .f32⟩
  | .hbm, ⟨81, _⟩ => ⟨S16384x512, .f32⟩
  | .hbm, ⟨82, _⟩ => ⟨S_, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S16384x512, .f32⟩
  | .hbm, ⟨88, _⟩ => ⟨S16384x512, .f32⟩
  | .hbm, ⟨89, _⟩ => ⟨S16384x512, .f32⟩
  | .hbm, ⟨90, _⟩ => ⟨S_, .f32⟩
  | .hbm, ⟨91, _⟩ => ⟨S16384x512, .f32⟩
  | .hbm, ⟨92, _⟩ => ⟨S16384x512, .f32⟩
  | .hbm, ⟨93, _⟩ => ⟨S_, .f32⟩
  | .hbm, ⟨94, _⟩ => ⟨S16384x512, .f32⟩
  | .hbm, ⟨95, _⟩ => ⟨S16384x512, .f32⟩
  | .hbm, ⟨96, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S2048x2560 : Shape := ⟨2, ![2048, 2560]⟩
abbrev S1x128 : Shape := ⟨2, ![1, 128]⟩
abbrev S8192x128 : Shape := ⟨2, ![8192, 128]⟩
abbrev S128 : Shape := ⟨1, ![128]⟩
abbrev S_ : Shape := ⟨0, ![]⟩
abbrev S16384x1024 : Shape := ⟨2, ![16384, 1024]⟩
abbrev S16384x256 : Shape := ⟨2, ![16384, 256]⟩
abbrev S512x2048 : Shape := ⟨2, ![512, 2048]⟩
abbrev S512x128 : Shape := ⟨2, ![512, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S2048x256 : Shape := ⟨2, ![2048, 256]⟩
abbrev S2048x512 : Shape := ⟨2, ![2048, 512]⟩
abbrev S512x512 : Shape := ⟨2, ![512, 512]⟩

abbrev nBuf : Space → Nat
  | .hbm => 48
  | .vmem => 21
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x2560, .bf16⟩
  | .hbm, ⟨3, _⟩ => ⟨S1x128, .f32⟩
  | .hbm, ⟨4, _⟩ => ⟨S1x128, .f32⟩
  | .hbm, ⟨5, _⟩ => ⟨S8192x128, .f32⟩
  | .hbm, ⟨6, _⟩ => ⟨S8192x128, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S_, .i32⟩
  | .hbm, ⟨23, _⟩ => ⟨S_, .i1⟩
  | .hbm, ⟨24, _⟩ => ⟨S128, .i1⟩
  | .hbm, ⟨25, _⟩ => ⟨S128, .i1⟩
  | .hbm, ⟨26, _⟩ => ⟨S128, .i1⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S8192x128, .f32⟩
  | .hbm, ⟨34, _⟩ => ⟨S_, .f32⟩
  | .hbm, ⟨35, _⟩ => ⟨S_, .f32⟩
  | .hbm, ⟨36, _⟩ => ⟨S8192x128, .i1⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S_, .f32⟩
  | .hbm, ⟨41, _⟩ => ⟨S8192x128, .i1⟩
  | .hbm, ⟨42, _⟩ => ⟨S8192x128, .f32⟩
  | .hbm, ⟨43, _⟩ => ⟨S8192x128, .f32⟩
  | .hbm, ⟨44, _⟩ => ⟨S16384x1024, .bf16⟩
  | .hbm, ⟨45, _⟩ => ⟨S16384x256, .bf16⟩
  | .hbm, ⟨46, _⟩ => ⟨S16384x256, .bf16⟩
  | .hbm, ⟨47, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2560, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x1024, .f32⟩
  | .local _ .vmem, ⟨19, _⟩ => ⟨S512x1024, .f32⟩
  | .local _ .vmem, ⟨20, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v5 : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v6 : Ref sig .tc := ⟨.hbm, 43, rfl⟩
abbrev main_v7_0 : Ref sig .tc := ⟨.hbm, 44, rfl⟩
abbrev main_v7_1 : Ref sig .tc := ⟨.hbm, 45, rfl⟩
abbrev main_v7_2 : Ref sig .tc := ⟨.hbm, 46, rfl⟩
abbrev main_v7_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x2048 : Shape := ⟨2, ![16384, 2048]⟩
abbrev S1x2048 : Shape := ⟨2, ![1, 2048]⟩
abbrev S2048x2560 : Shape := ⟨2, ![2048, 2560]⟩
abbrev S1x128 : Shape := ⟨2, ![1, 128]⟩
abbrev S8192x128 : Shape := ⟨2, ![8192, 128]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩
abbrev S16384x1024 : Shape := ⟨2, ![16384, 1024]⟩
abbrev S16384x256 : Shape := ⟨2, ![16384, 256]⟩
abbrev S2x8192x8x128 : Shape := ⟨4, ![2, 8192, 8, 128]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x8192x2x128 : Shape := ⟨4, ![2, 8192, 2, 128]⟩
abbrev S2x8192x2 : Shape := ⟨3, ![2, 8192, 2]⟩
abbrev S2x8192x2x1 : Shape := ⟨4, ![2, 8192, 2, 1]⟩
abbrev S1x8192x1x128 : Shape := ⟨4, ![1, 8192, 1, 128]⟩
abbrev S2x8192x8x2x2x32 : Shape := ⟨6, ![2, 8192, 8, 2, 2, 32]⟩
abbrev S2x8192x8x2x1x32 : Shape := ⟨6, ![2, 8192, 8, 2, 1, 32]⟩
abbrev S2x8192x8x2x32 : Shape := ⟨5, ![2, 8192, 8, 2, 32]⟩
abbrev S2x8192x2x2x2x32 : Shape := ⟨6, ![2, 8192, 2, 2, 2, 32]⟩
abbrev S2x8192x2x2x1x32 : Shape := ⟨6, ![2, 8192, 2, 2, 1, 32]⟩
abbrev S2x8192x2x2x32 : Shape := ⟨5, ![2, 8192, 2, 2, 32]⟩

abbrev nBuf : Space → Nat
  | .hbm => 115
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x2560, .bf16⟩
  | .hbm, ⟨3, _⟩ => ⟨S1x128, .f32⟩
  | .hbm, ⟨4, _⟩ => ⟨S1x128, .f32⟩
  | .hbm, ⟨5, _⟩ => ⟨S8192x128, .f32⟩
  | .hbm, ⟨6, _⟩ => ⟨S8192x128, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S2048x2560, .f32⟩
  | .hbm, ⟨25, _⟩ => ⟨S16384x2560, .f32⟩
  | .hbm, ⟨26, _⟩ => ⟨S16384x1024, .f32⟩
  | .hbm, ⟨27, _⟩ => ⟨S16384x256, .f32⟩
  | .hbm, ⟨28, _⟩ => ⟨S16384x256, .f32⟩
  | .hbm, ⟨29, _⟩ => ⟨S16384x1024, .f32⟩
  | .hbm, ⟨30, _⟩ => ⟨S2x8192x8x128, .f32⟩
  | .hbm, ⟨31, _⟩ => ⟨S128, .f32⟩
  | .hbm, ⟨32, _⟩ => ⟨S2x8192x8x128, .f32⟩
  | .hbm, ⟨33, _⟩ => ⟨S_, .f32⟩
  | .hbm, ⟨34, _⟩ => ⟨S2x8192x8, .f32⟩
  | .hbm, ⟨35, _⟩ => ⟨S2x8192x8x1, .f32⟩
  | .hbm, ⟨36, _⟩ => ⟨S_, .f32⟩
  | .hbm, ⟨37, _⟩ => ⟨S2x8192x8x1, .f32⟩
  | .hbm, ⟨38, _⟩ => ⟨S2x8192x8x1, .f32⟩
  | .hbm, ⟨39, _⟩ => ⟨S_, .f32⟩
  | .hbm, ⟨40, _⟩ => ⟨S2x8192x8x1, .f32⟩
  | .hbm, ⟨41, _⟩ => ⟨S2x8192x8x1, .f32⟩
  | .hbm, ⟨42, _⟩ => ⟨S2x8192x8x1, .f32⟩
  | .hbm, ⟨43, _⟩ => ⟨S2x8192x8x128, .f32⟩
  | .hbm, ⟨44, _⟩ => ⟨S2x8192x8x128, .f32⟩
  | .hbm, ⟨45, _⟩ => ⟨S1x1x1x128, .f32⟩
  | .hbm, ⟨46, _⟩ => ⟨S2x8192x8x128, .f32⟩
  | .hbm, ⟨47, _⟩ => ⟨S2x8192x8x128, .f32⟩
  | .hbm, ⟨48, _⟩ => ⟨S2x8192x2x128, .f32⟩
  | .hbm, ⟨49, _⟩ => ⟨S128, .f32⟩
  | .hbm, ⟨50, _⟩ => ⟨S2x8192x2x128, .f32⟩
  | .hbm, ⟨51, _⟩ => ⟨S_, .f32⟩
  | .hbm, ⟨52, _⟩ => ⟨S2x8192x2, .f32⟩
  | .hbm, ⟨53, _⟩ => ⟨S2x8192x2x1, .f32⟩
  | .hbm, ⟨54, _⟩ => ⟨S_, .f32⟩
  | .hbm, ⟨55, _⟩ => ⟨S2x8192x2x1, .f32⟩
  | .hbm, ⟨56, _⟩ => ⟨S2x8192x2x1, .f32⟩
  | .hbm, ⟨57, _⟩ => ⟨S_, .f32⟩
  | .hbm, ⟨58, _⟩ => ⟨S2x8192x2x1, .f32⟩
  | .hbm, ⟨59, _⟩ => ⟨S2x8192x2x1, .f32⟩
  | .hbm, ⟨60, _⟩ => ⟨S2x8192x2x1, .f32⟩
  | .hbm, ⟨61, _⟩ => ⟨S2x8192x2x128, .f32⟩
  | .hbm, ⟨62, _⟩ => ⟨S2x8192x2x128, .f32⟩
  | .hbm, ⟨63, _⟩ => ⟨S1x1x1x128, .f32⟩
  | .hbm, ⟨64, _⟩ => ⟨S2x8192x2x128, .f32⟩
  | .hbm, ⟨65, _⟩ => ⟨S2x8192x2x128, .f32⟩
  | .hbm, ⟨66, _⟩ => ⟨S1x8192x1x128, .f32⟩
  | .hbm, ⟨67, _⟩ => ⟨S1x8192x1x128, .f32⟩
  | .hbm, ⟨68, _⟩ => ⟨S2x8192x8x128, .f32⟩
  | .hbm, ⟨69, _⟩ => ⟨S2x8192x8x128, .f32⟩
  | .hbm, ⟨70, _⟩ => ⟨S2x8192x8x2x2x32, .f32⟩
  | .hbm, ⟨71, _⟩ => ⟨S2x8192x8x2x1x32, .f32⟩
  | .hbm, ⟨72, _⟩ => ⟨S2x8192x8x2x32, .f32⟩
  | .hbm, ⟨73, _⟩ => ⟨S2x8192x8x2x32, .f32⟩
  | .hbm, ⟨74, _⟩ => ⟨S2x8192x8x2x1x32, .f32⟩
  | .hbm, ⟨75, _⟩ => ⟨S2x8192x8x2x32, .f32⟩
  | .hbm, ⟨76, _⟩ => ⟨S2x8192x8x2x1x32, .f32⟩
  | .hbm, ⟨77, _⟩ => ⟨S2x8192x8x2x1x32, .f32⟩
  | .hbm, ⟨78, _⟩ => ⟨S2x8192x8x2x2x32, .f32⟩
  | .hbm, ⟨79, _⟩ => ⟨S2x8192x8x128, .f32⟩
  | .hbm, ⟨80, _⟩ => ⟨S2x8192x8x128, .f32⟩
  | .hbm, ⟨81, _⟩ => ⟨S2x8192x8x128, .f32⟩
  | .hbm, ⟨82, _⟩ => ⟨S2x8192x8x128, .f32⟩
  | .hbm, ⟨83, _⟩ => ⟨S_, .f32⟩
  | .hbm, ⟨84, _⟩ => ⟨S2x8192x8x128, .f32⟩
  | .hbm, ⟨85, _⟩ => ⟨S2x8192x8x128, .f32⟩
  | .hbm, ⟨86, _⟩ => ⟨S2x8192x2x128, .f32⟩
  | .hbm, ⟨87, _⟩ => ⟨S2x8192x2x128, .f32⟩
  | .hbm, ⟨88, _⟩ => ⟨S2x8192x2x2x2x32, .f32⟩
  | .hbm, ⟨89, _⟩ => ⟨S2x8192x2x2x1x32, .f32⟩
  | .hbm, ⟨90, _⟩ => ⟨S2x8192x2x2x32, .f32⟩
  | .hbm, ⟨91, _⟩ => ⟨S2x8192x2x2x32, .f32⟩
  | .hbm, ⟨92, _⟩ => ⟨S2x8192x2x2x1x32, .f32⟩
  | .hbm, ⟨93, _⟩ => ⟨S2x8192x2x2x32, .f32⟩
  | .hbm, ⟨94, _⟩ => ⟨S2x8192x2x2x1x32, .f32⟩
  | .hbm, ⟨95, _⟩ => ⟨S2x8192x2x2x1x32, .f32⟩
  | .hbm, ⟨96, _⟩ => ⟨S2x8192x2x2x2x32, .f32⟩
  | .hbm, ⟨97, _⟩ => ⟨S2x8192x2x128, .f32⟩
  | .hbm, ⟨98, _⟩ => ⟨S2x8192x2x128, .f32⟩
  | .hbm, ⟨99, _⟩ => ⟨S2x8192x2x128, .f32⟩
  | .hbm, ⟨100, _⟩ => ⟨S2x8192x2x128, .f32⟩
  | .hbm, ⟨101, _⟩ => ⟨S16384x1024, .f32⟩
  | .hbm, ⟨102, _⟩ => ⟨S16384x1024, .bf16⟩
  | .hbm, ⟨103, _⟩ => ⟨S16384x256, .f32⟩
  | .hbm, ⟨104, _⟩ => ⟨S16384x256, .bf16⟩
  | .hbm, ⟨105, _⟩ => ⟨S16384x256, .bf16⟩
  | .hbm, ⟨106, _⟩ => ⟨S16384x1024, .f32⟩
  | .hbm, ⟨107, _⟩ => ⟨S16384x1024, .f32⟩
  | .hbm, ⟨108, _⟩ => ⟨S_, .f32⟩
  | .hbm, ⟨109, _⟩ => ⟨S16384x1024, .f32⟩
  | .hbm, ⟨110, _⟩ => ⟨S16384x1024, .f32⟩
  | .hbm, ⟨111, _⟩ => ⟨S_, .f32⟩
  | .hbm, ⟨112, _⟩ => ⟨S16384x1024, .f32⟩
  | .hbm, ⟨113, _⟩ => ⟨S16384x1024, .f32⟩
  | .hbm, ⟨114, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel5.lean ====
abbrev S16384x2048 : Shape := ⟨2, ![16384, 2048]⟩
abbrev S16384x1024 : Shape := ⟨2, ![16384, 1024]⟩
abbrev S16384x512 : Shape := ⟨2, ![16384, 512]⟩
abbrev S3x512 : Shape := ⟨2, ![3, 512]⟩
abbrev S1x2048 : Shape := ⟨2, ![1, 2048]⟩
abbrev S2048x2048 : Shape := ⟨2, ![2048, 2048]⟩
abbrev S512x2048 : Shape := ⟨2, ![512, 2048]⟩
abbrev S512x1024 : Shape := ⟨2, ![512, 1024]⟩
abbrev S512x512 : Shape := ⟨2, ![512, 512]⟩
abbrev S8x512 : Shape := ⟨2, ![8, 512]⟩
abbrev S512 : Shape := ⟨1, ![512]⟩
abbrev S512x1 : Shape := ⟨2, ![512, 1]⟩
abbrev S1x1024 : Shape := ⟨2, ![1, 1024]⟩
abbrev S1x512 : Shape := ⟨2, ![1, 512]⟩

abbrev nBuf : Space → Nat
  | .hbm => 13
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S3x512, .f32⟩
  | .hbm, ⟨9, _⟩ => ⟨S1x2048, .f32⟩
  | .hbm, ⟨10, _⟩ => ⟨S2048x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S3x512, .f32⟩
  | .local _ .vmem, ⟨21, _⟩ => ⟨S1x2048, .f32⟩
  | .local _ .vmem, ⟨22, _⟩ => ⟨S2048x2048, .bf16⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x2048 : Shape := ⟨2, ![16384, 2048]⟩
abbrev S16384x1024 : Shape := ⟨2, ![16384, 1024]⟩
abbrev S16384x512 : Shape := ⟨2, ![16384, 512]⟩
abbrev S3x512 : Shape := ⟨2, ![3, 512]⟩
abbrev S1x2048 : Shape := ⟨2, ![1, 2048]⟩
abbrev S2048x2048 : Shape := ⟨2, ![2048, 2048]⟩
abbrev S2048 : Shape := ⟨1, ![2048]⟩
abbrev S2x8192x512 : Shape := ⟨3, ![2, 8192, 512]⟩
abbrev S_ : Shape := ⟨0, ![]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S3x512, .f32⟩
  | .hbm, ⟨9, _⟩ => ⟨S1x2048, .f32⟩
  | .hbm, ⟨10, _⟩ => ⟨S2048x2048, .bf16⟩
  | .hbm, ⟨11, _⟩ => ⟨S1x2048, .f32⟩
  | .hbm, ⟨12, _⟩ => ⟨S2048, .f32⟩
  | .hbm, ⟨13, _⟩ => ⟨S2x8192x512, .f32⟩
  | .hbm, ⟨14, _⟩ => ⟨S_, .i32⟩
  | .hbm, ⟨15, _⟩ => ⟨S_, .f32⟩
  | .hbm, ⟨16, _⟩ => ⟨S2x8194x512, .f32⟩
  | .hbm, ⟨17, _⟩ => ⟨S2x8192x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S1x512, .f32⟩
  | .hbm, ⟨25, _⟩ => ⟨S512, .f32⟩
  | .hbm, ⟨26, _⟩ => ⟨S1x1x512, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S1x512, .f32⟩
  | .hbm, ⟨32, _⟩ => ⟨S512, .f32⟩
  | .hbm, ⟨33, _⟩ => ⟨S1x1x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S16384x512, .f32⟩
  | .hbm, ⟨38, _⟩ => ⟨S16384x512, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S512, .f32⟩
  | .hbm, ⟨58, _⟩ => ⟨S16384x512, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x512, .f32⟩
  | .hbm, ⟨70, _⟩ => ⟨S16384x512, .f32⟩
  | .hbm, ⟨71, _⟩ => ⟨S1x512, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S512, .f32⟩
  | .hbm, ⟨76, _⟩ => ⟨S16384x512, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x512, .f32⟩
  | .hbm, ⟨88, _⟩ => ⟨S16384x512, .f32⟩
  | .hbm, ⟨89, _⟩ => ⟨S1x512, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S16384x2048, .f32⟩
  | .hbm, ⟨94, _⟩ => ⟨S2048x2048, .f32⟩
  | .hbm, ⟨95, _⟩ => ⟨S16384x2048, .f32⟩
  | .hbm, ⟨96, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Proof.Softmax.lean ====
/-
  The mathematics of a softmax average computed block by block, over the extended reals: a running shift `M`, the running
  sum of the shifted exponentials and the running weighted sum of the values describe the blocks seen so far whatever the
  shift is, so the quotient at the end is the softmax average. The scores are real numbers; the values being averaged
  are any extended reals. Nothing here mentions a program.
-/
module

public import Idealize.ShloMosaic.PureOps.Ideal.Laws
public import Mathlib.Analysis.SpecialFunctions.Exp
public import Mathlib.Data.EReal.Operations

@[expose] public section

noncomputable section

namespace Cert.Softmax

open Idealize.ShloMosaic

/-- A nonnegative real factor distributes over a finite sum of extended reals. -/
theorem mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is a real number. -/
theorem exists_coe {x : EReal} (h : ⊥ < x) (h' : x < ⊤) : ∃ r : ℝ, x = r :=
  ⟨x.toReal, (EReal.coe_toReal h'.ne h.ne').symm⟩

/-- The largest of finitely many real numbers, at least one, is a real number. -/
theorem fold_max_real {ι : Type*} [Fintype ι] [Nonempty ι] (f : ι → ℝ) :
    ∃ M : ℝ, (Finset.univ : Finset ι).fold max ⊥ (fun j => (f j : EReal)) = M := by
  refine exists_coe ?_ ?_
  · rw [Finset.lt_fold_max]
    exact Or.inr ⟨Classical.arbitrary ι, Finset.mem_univ _, EReal.bot_lt_coe _⟩
  · rw [Finset.fold_max_lt]
    exact ⟨bot_lt_top, fun j _ => EReal.coe_lt_top _⟩

variable {κ D : Type*} [Fintype κ]

/-- The softmax average with weights `exp (S j) / ∑ exp (S i)`. -/
def average (S : κ → ℝ) (V : κ → EReal) : EReal := ∑ j, ((Real.exp (S j) / ∑ i, Real.exp (S i) : ℝ) : EReal) * V j

theorem sum_exp_pos [Nonempty κ] (S : κ → ℝ) : 0 < ∑ i, Real.exp (S i) :=
  Finset.sum_pos (fun i _ => Real.exp_pos _) Finset.univ_nonempty

/-- A weight does not change when one number is subtracted from every score. -/
theorem weight_shift (S : κ → ℝ) (M : ℝ) (j : κ) :
    Real.exp (S j - M) / ∑ i, Real.exp (S i - M) = Real.exp (S j) / ∑ i, Real.exp (S i) := by
  simp_rw [Real.exp_sub]
  rw [← Finset.sum_div, div_div_div_cancel_right₀ (Real.exp_pos M).ne']

/-- The average as it is taken with normalised weights, the scores shifted by any real number. -/
theorem average_of_weights [Nonempty κ] (S : κ → ℝ) (V : κ → EReal) (M : ℝ) :
    ∑ j, V j * Ideal.div (Real.exp (S j - M) : EReal) ((∑ i, Real.exp (S i - M) : ℝ) : EReal) = average S V := by
  unfold average
  refine Finset.sum_congr rfl fun j _ => ?_
  rw [Ideal.div_coe (sum_exp_pos fun i => S i - M).ne', ← EReal.coe_mul, mul_one_div, weight_shift, mul_comm]

/-- The average as the quotient of the weighted sum and the sum of the weights, the scores shifted by any real number. -/
theorem average_of_quotient [Nonempty κ] (S : κ → ℝ) (V : κ → EReal) (M : ℝ) :
    Ideal.div (∑ j, (Real.exp (S j - M) : EReal) * V j) ((∑ i, Real.exp (S i - M) : ℝ) : EReal) = average S V := by
  unfold average
  have hp := sum_exp_pos fun i => S i - M
  rw [Ideal.div_coe hp.ne', mul_comm, mul_sum _ (by positivity)]
  refine Finset.sum_congr rfl fun j _ => ?_
  rw [← mul_assoc, ← EReal.coe_mul, one_div_mul_eq_div, weight_shift]

/-- What a row's three running quantities hold after `n` blocks of scores `S 0, S 1, …`: a shift `M`, the shifted
    exponentials' sum and the shifted exponentials' weighted sum of the values. `C` and `D` are the lanes. -/
def Running {C D : Type} (S : ℕ → κ → ℝ) (V : ℕ → κ → D → EReal) (n : ℕ) (m l : C → EReal) (a : D → EReal) : Prop :=
  ∃ M : ℝ, (∀ c, m c = M) ∧ (∀ c, l c = ((∑ b ∈ Finset.range n, ∑ j, Real.exp (S b j - M) : ℝ) : EReal))
    ∧ ∀ d, a d = ∑ b ∈ Finset.range n, ∑ j, (Real.exp (S b j - M) : EReal) * V b j d

/-- The three quantities before any block. -/
def Start {C D : Type} (m l : C → EReal) (a : D → EReal) : Prop := (∀ c, m c = ⊥) ∧ (∀ c, l c = 0) ∧ ∀ d, a d = 0

/-- Rescaling a running exponential from the shift `M` to the shift `M'`. -/
theorem exp_rescale (M M' x : ℝ) : Real.exp (M - M') * Real.exp (x - M) = Real.exp (x - M') := by
  rw [← Real.exp_add]; congr 1; ring

/-- One more block, from the running quantities of the blocks before it. `M'` is the new shift, whatever it is. -/
theorem Running.step {C D : Type} {S : ℕ → κ → ℝ} {V : ℕ → κ → D → EReal} {n : ℕ} {m l : C → EReal} {a : D → EReal}
    (h : Running S V n m l a) (M' : ℝ) {m' l' : C → EReal} {a' : D → EReal} (e : D → C) (hm : ∀ c, m' c = M')
    (hl : ∀ c, l' c = Ideal.exp (m c - M') * l c + ∑ j, Ideal.exp ((S n j : EReal) - M'))
    (ha : ∀ d, a' d = Ideal.exp (m (e d) - M') * a d + ∑ j, Ideal.exp ((S n j : EReal) - M') * V n j d) :
    Running S V (n + 1) m' l' a' := by
  obtain ⟨M, h1, h2, h3⟩ := h
  refine ⟨M', hm, fun c => ?_, fun d => ?_⟩
  · rw [hl, h1, h2, Finset.sum_range_succ, EReal.coe_add, coe_sum Finset.univ]
    simp only [← EReal.coe_sub, Ideal.exp_coe]
    rw [← EReal.coe_mul, Finset.mul_sum]
    simp only [Finset.mul_sum, exp_rescale]
  · rw [ha, h1, h3, Finset.sum_range_succ]
    simp only [← EReal.coe_sub, Ideal.exp_coe]
    rw [mul_sum _ (Real.exp_pos _).le]
    congr 1
    refine Finset.sum_congr rfl fun b _ => ?_
    rw [mul_sum _ (Real.exp_pos _).le]
    refine Finset.sum_congr rfl fun j _ => ?_
    rw [← mul_assoc, ← EReal.coe_mul, exp_rescale]

/-- The first block, from the starting quantities. -/
theorem Start.step {C D : Type} {S : ℕ → κ → ℝ} {V : ℕ → κ → D → EReal} {m l : C → EReal} {a : D → EReal}
    (h : Start m l a) (M' : ℝ) {m' l' : C → EReal} {a' : D → EReal} (hm : ∀ c, m' c = M')
    (hl : ∀ c, l' c = Ideal.exp (m c - M') * l c + ∑ j, Ideal.exp ((S 0 j : EReal) - M')) (e : D → C)
    (ha : ∀ d, a' d = Ideal.exp (m (e d) - M') * a d + ∑ j, Ideal.exp ((S 0 j : EReal) - M') * V 0 j d) :
    Running S V 1 m' l' a' := by
  obtain ⟨h1, h2, h3⟩ := h
  refine ⟨M', hm, fun c => ?_, fun d => ?_⟩
  · rw [hl, h2, mul_zero, zero_add, Finset.sum_range_one, coe_sum]
    simp only [← EReal.coe_sub, Ideal.exp_coe]
  · rw [ha, h3, mul_zero, zero_add, Finset.sum_range_one]
    simp only [← EReal.coe_sub, Ideal.exp_coe]

/-- After all `N` blocks the quotient is the average over every key of every block. -/
theorem Running.quotient {C D : Type} [Nonempty κ] {N : ℕ} [NeZero N] {S : ℕ → κ → ℝ} {V : ℕ → κ → D → EReal}
    {m l : C → EReal} {a : D → EReal} (h : Running S V N m l a) (c : C) (d : D) :
    Ideal.div (a d) (l c) = average (fun p : Fin N × κ => S p.1 p.2) (fun p => V p.1 p.2 d) := by
  obtain ⟨M, -, h2, h3⟩ := h
  rw [h2, h3, ← average_of_quotient _ _ M, Fintype.sum_prod_type, Fintype.sum_prod_type, Finset.sum_range, Finset.sum_range]

/-- The average does not depend on how the keys are named. -/
theorem average_equiv {ι : Type*} [Fintype ι] (f : ι ≃ κ) (S : κ → ℝ) (V : κ → EReal) :
    average (fun i => S (f i)) (fun i => V (f i)) = average S V := by
  unfold average
  rw [f.sum_comp (fun j => Real.exp (S j)), f.sum_comp (fun j => ((Real.exp (S j) / ∑ i, Real.exp (S i) : ℝ) : EReal) * V j)]

end Cert.Softmax

end
-- ==== Proof.Attention.lean ====
/-
  The attention both programs compute, as one function of the queries, keys and values: two batches, 8192 tokens, eight
  query heads of width 128 of which four at a time share one of two heads of keys and values.
-/
module

public import proofs.«01_k».proof.Proof.Softmax
public import Idealize.ShloMosaic.Lib.ValueIdx
public import Idealize.ShloMosaic.PureOps.Ideal.Laws

@[expose] public section

noncomputable section

open Idealize.ShloMosaic Idealize.ShloMosaic.ValueIdx

namespace Cert.Attention

/-- Queries: batch, token, column (head times 128 plus lane). -/
abbrev Queries : Type := (⟨3, ![2, 8192, 1024]⟩ : Shape).Idx → EReal

/-- Keys or values: batch, token, column. -/
abbrev Keys : Type := (⟨3, ![2, 8192, 256]⟩ : Shape).Idx → EReal

/-- The column of lane `d` of query head `h`. -/
def qcol (h : Fin 8) (d : Fin 128) : Fin 1024 := ⟨128 * h.val + d.val, by omega⟩

/-- The column of lane `d` of the keys and values that query head `h` attends to. -/
def kcol (h : Fin 8) (d : Fin 128) : Fin 256 := ⟨128 * (h.val / 4) + d.val, by omega⟩

/-- The score of token `s`'s query against token `j`'s key, in head `h` of batch `b`. -/
def score (Q : Queries) (K : Keys) (b : Fin 2) (s : Fin 8192) (h : Fin 8) (j : Fin 8192) : EReal :=
  ∑ d : Fin 128, Q (ix3 b s (qcol h d)) * K (ix3 b j (kcol h d))

/-- The same as a real number. -/
def realScore (Q : Queries) (K : Keys) (b : Fin 2) (s : Fin 8192) (h : Fin 8) (j : Fin 8192) : ℝ := (score Q K b s h j).toReal

/-- The attention's result: the values averaged with the softmax of the scores. -/
def attention (Q : Queries) (K V : Keys) (b : Fin 2) (s : Fin 8192) (h : Fin 8) (d : Fin 128) : EReal :=
  Softmax.average (realScore Q K b s h) fun j => V (ix3 b j (kcol h d))

/-- Every element is a real number. -/
def Finite {ι : Type} (X : ι → EReal) : Prop := ∀ i, ⊥ < X i ∧ X i < ⊤

/-- With finite queries and keys every score is a real number. -/
theorem score_real {Q : Queries} {K : Keys} (hQ : Finite Q) (hK : Finite K) (b : Fin 2) (s : Fin 8192) (h : Fin 8) (j : Fin 8192) :
    score Q K b s h j = (realScore Q K b s h j : ℝ) := by
  have hs : ∃ x : ℝ, score Q K b s h j = x := by
    choose q hq using fun d => Softmax.exists_coe (hQ (ix3 b s (qcol h d))).1 (hQ (ix3 b s (qcol h d))).2
    choose k hk using fun d => Softmax.exists_coe (hK (ix3 b j (kcol h d))).1 (hK (ix3 b j (kcol h d))).2
    refine ⟨∑ d, q d * k d, ?_⟩
    unfold score
    rw [Softmax.coe_sum]
    exact Finset.sum_congr rfl fun d _ => by rw [hq, hk, EReal.coe_mul]
  obtain ⟨x, hx⟩ := hs
  unfold realScore
  rw [hx, EReal.toReal_coe]

end Cert.Attention
-- ==== Proof.Step.lean ====
/-
  One head's update at one grid point, read at an index: the block of scores, the new row maximum, the new row sum and the
  new accumulator row, as the kernel's own values over the extended reals.
-/
module

public import proofs.«01_k».proof.Proof.Softmax
public import proofs.«01_k».proof.Proof.Gen.KernelIdeal.Frame
public import Idealize.ShloMosaic.Lib.Pipeline.Value
public import Idealize.ShloMosaic.Lib.Pipeline.ValueKit.Tiles
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Tactic

@[expose] public section

noncomputable section

open Idealize.ShloMosaic Idealize.ShloMosaic.ValueIdx Idealize.SL.Sem

namespace Cert.KernelIdeal.Value

open Cert.KernelIdeal Cert.KernelIdeal.Gen

/-- The score of query row `r` against key row `j`. -/
def score (K : Vec Ideal S1x1024x128 .bf16) (Q : Vec Ideal S1x512x128 .bf16) (r : Fin 512) (j : Fin 1024) : EReal :=
  ∑ d : Fin 128, Q (ix3 (0 : Fin 1) r d) * K (ix3 (0 : Fin 1) j d)

/-- The new maxima a head stores. -/
def mNext (K : Vec Ideal S1x1024x128 .bf16) (Q : Vec Ideal S1x512x128 .bf16) (m : Vec Ideal S1x512x128 .f32) : Vec Ideal S1x512x128 .f32 :=
  k0_pay21 (k0_pay16 K Q m)

/-- The new row sums a head stores. -/
def lNext (K : Vec Ideal S1x1024x128 .bf16) (Q : Vec Ideal S1x512x128 .bf16) (m l : Vec Ideal S1x512x128 .f32) : Vec Ideal S1x512x128 .f32 :=
  k0_pay19 K Q m l

/-- The new accumulator rows a head stores. -/
def aNext (K V : Vec Ideal S1x1024x128 .bf16) (Q : Vec Ideal S1x512x128 .bf16) (m a : Vec Ideal S1x512x128 .f32) : Vec Ideal S1x512x128 .f32 :=
  k0_pay20 (k0_pay13 V) (k0_pay17 K Q m) (k0_pay18 K Q m) a

/-- The block of scores at an index. -/
theorem pay14_apply (K : Vec Ideal S1x1024x128 .bf16) (Q : Vec Ideal S1x512x128 .bf16) (r : Fin 512) (j : Fin 1024) :
    k0_pay14 K Q (ix2 r j) = score K Q r j := by
  unfold k0_pay14 k0_pay12
  simp only [matmul]
  rw [Ideal.matmul_constant_zero_apply]
  unfold score
  rw [← (contrEquiv1 dot_S512x128_S1024x128_S512x1024_1_1_0_0_n_n 128 rfl rfl).sum_comp]
  refine Finset.sum_congr rfl fun d _ => ?_
  congr 1
  · refine (congrArg _ (?_ : _ = ix2 r (contrEquiv1 dot_S512x128_S1024x128_S512x1024_1_1_0_0_n_n 128 rfl rfl d))).trans (shapeCast_1ab_ab_apply _ _ _ _)
    exact Shape.idx_ext₂ rfl rfl
  · refine (congrArg _ (?_ : _ = ix2 j (contrEquiv1 dot_S512x128_S1024x128_S512x1024_1_1_0_0_n_n 128 rfl rfl d))).trans (shapeCast_1ab_ab_apply _ _ _ _)
    exact Shape.idx_ext₂ rfl rfl

/-- A column of row quantities repeated over the lanes reads its row. -/
theorem rows_apply (x : (S512 : Shape).Idx → EReal) (r : Fin 512) (c : Fin 128) :
    broadcastTo S512x128 (shapeCast S512x1 x shapeCasts_S512_S512x1) broadcasts_S512x1_S512x128 (ix2 r c) = x (ix1 r) := by
  rw [broadcastTo_apply _ _ _ (ix2 r (0 : Fin 1)) (by intro a; fin_cases a <;> rfl)]
  exact shapeCast_a_a1_apply _ _ _ _

/-- The new maximum of a row: the old one and the row's greatest score. -/
theorem pay16_apply (K : Vec Ideal S1x1024x128 .bf16) (Q : Vec Ideal S1x512x128 .bf16) (m : Vec Ideal S1x512x128 .f32) (r : Fin 512) (c : Fin 128) :
    k0_pay16 K Q m (ix2 r c) = max (m (ix3 (0 : Fin 1) r c)) ((Finset.univ : Finset (Fin 1024)).fold max ⊥ fun j => score K Q r j) := by
  unfold k0_pay16 k0_pay15
  rw [maximumf_apply, rows_apply]
  refine congrArg₂ max (shapeCast_1ab_ab_apply _ _ _ _) ((Ideal.multiReduction_maximumf_single _ _ _ _ _ _).trans ?_)
  · have hb : FloatOps.ofBits (F := Ideal) .f32 0xFF800000#32 = (⊥ : EReal) := by
      simp [Ideal.ofBits, Ideal.ieee]
    rw [hb]
    congr 1
    funext j
    exact (congrArg (k0_pay14 K Q) (Shape.idx_ext₂ rfl rfl)).trans (pay14_apply K Q r j)

/-- Eight copies of a row quantity side by side read it at the lane modulo the width. -/
theorem pay18_apply (K : Vec Ideal S1x1024x128 .bf16) (Q : Vec Ideal S1x512x128 .bf16) (m : Vec Ideal S1x512x128 .f32) (r : Fin 512) (j : Fin 1024) :
    k0_pay18 K Q m (ix2 r j) = Ideal.exp (score K Q r j - k0_pay16 K Q m (ix2 r (⟨j.val % 128, Nat.mod_lt _ (by decide)⟩ : Fin 128))) := by
  unfold k0_pay18
  show Ideal.exp (k0_pay14 K Q (ix2 r j) - _) = _
  rw [pay14_apply]
  congr 2
  refine concatenate_replicate_apply (t := S512x1024) (s₁ := S512x128) 1 8 (k0_pay16 K Q m) (show Shape.Concatenates (List.replicate 8 S512x128) S512x1024 1 by decide) rfl (ix2 r j) _ rfl ?_
  intro b hb
  fin_cases b
  · rfl
  · exact absurd rfl hb

theorem pay17_apply (K : Vec Ideal S1x1024x128 .bf16) (Q : Vec Ideal S1x512x128 .bf16) (m : Vec Ideal S1x512x128 .f32) (r : Fin 512) (c : Fin 128) :
    k0_pay17 K Q m (ix2 r c) = Ideal.exp (m (ix3 (0 : Fin 1) r c) - k0_pay16 K Q m (ix2 r c)) := by
  unfold k0_pay17 k0_pay15
  show Ideal.exp (shapeCast S512x128 m _ (ix2 r c) - _) = _
  rw [shapeCast_1ab_ab_apply]

theorem mNext_apply (K : Vec Ideal S1x1024x128 .bf16) (Q : Vec Ideal S1x512x128 .bf16) (m : Vec Ideal S1x512x128 .f32) (r : Fin 512) (c : Fin 128) :
    mNext K Q m (ix3 (0 : Fin 1) r c) = k0_pay16 K Q m (ix2 r c) := by
  unfold mNext k0_pay21
  exact shapeCast_ab_1ab_apply _ _ _ _ _

theorem lNext_apply (K : Vec Ideal S1x1024x128 .bf16) (Q : Vec Ideal S1x512x128 .bf16) (m l : Vec Ideal S1x512x128 .f32) (r : Fin 512) (c : Fin 128) :
    lNext K Q m l (ix3 (0 : Fin 1) r c)
      = k0_pay17 K Q m (ix2 r c) * l (ix3 (0 : Fin 1) r c) + ∑ j : Fin 1024, k0_pay18 K Q m (ix2 r j) := by
  unfold lNext k0_pay19
  dsimp only
  rw [shapeCast_ab_1ab_apply, addf_apply, mulf_apply, rows_apply, shapeCast_1ab_ab_apply]
  refine congrArg _ ((Ideal.multiReduction_add_single _ _ _ _ _ _).trans ?_)
  refine Finset.sum_congr rfl fun j _ => congrArg _ ?_
  exact Shape.idx_ext₂ rfl rfl

theorem aNext_apply (K V : Vec Ideal S1x1024x128 .bf16) (Q : Vec Ideal S1x512x128 .bf16) (m a : Vec Ideal S1x512x128 .f32) (r : Fin 512) (d : Fin 128) :
    aNext K V Q m a (ix3 (0 : Fin 1) r d)
      = k0_pay17 K Q m (ix2 r d) * a (ix3 (0 : Fin 1) r d) + ∑ j : Fin 1024, k0_pay18 K Q m (ix2 r j) * V (ix3 (0 : Fin 1) j d) := by
  unfold aNext k0_pay20 k0_pay13
  dsimp only
  rw [shapeCast_ab_1ab_apply, addf_apply, mulf_apply, shapeCast_1ab_ab_apply]
  congr 1
  simp only [matmul]
  rw [Ideal.matmul_constant_zero_apply,
    ← (contrEquiv1 dot_S512x1024_S1024x128_S512x128_1_0_0_1_n_n 1024 rfl rfl).sum_comp]
  refine Finset.sum_congr rfl fun j _ => ?_
  congr 1
  · rw [truncf_apply]
    exact congrArg _ (Shape.idx_ext₂ rfl rfl)
  · refine (congrArg _ (?_ : _ = ix2 (contrEquiv1 dot_S512x1024_S1024x128_S512x128_1_0_0_1_n_n 1024 rfl rfl j) d)).trans (shapeCast_1ab_ab_apply _ _ _ _)
    exact Shape.idx_ext₂ rfl rfl

end Cert.KernelIdeal.Value

end
-- ==== Proof.Head.lean ====
/-
  One head's update as a step of the running softmax: if the row's three stored quantities are those of `n` blocks of keys
  before it, they are those of `n + 1` blocks after it.
-/
module

public import proofs.«01_k».proof.Proof.Step

@[expose] public section

noncomputable section

open Idealize.ShloMosaic Idealize.ShloMosaic.ValueIdx Idealize.SL.Sem

namespace Cert.KernelIdeal.Value

open Cert.KernelIdeal Cert.KernelIdeal.Gen Cert.Softmax

section Row

variable {K V : Vec Ideal S1x1024x128 .bf16} {Q : Vec Ideal S1x512x128 .bf16} {m l a : Vec Ideal S1x512x128 .f32} {r : Fin 512}
  {S : ℕ → Fin 1024 → ℝ} {W : ℕ → Fin 1024 → Fin 128 → EReal} {n : ℕ}

/-- With real scores and a row maximum that is the same in every lane and is not plus infinity, the new one is a real
    number, the same in every lane. -/
theorem row_max (M : EReal) (hM : M < ⊤) (hm : ∀ c, m (ix3 (0 : Fin 1) r c) = M) (hS : ∀ j, score K Q r j = S n j) :
    ∃ M' : ℝ, ∀ c, k0_pay16 K Q m (ix2 r c) = M' := by
  obtain ⟨F, hF⟩ := fold_max_real (S n)
  obtain ⟨M', h'⟩ : ∃ M' : ℝ, max M (F : EReal) = M' :=
    exists_coe (lt_max_of_lt_right (EReal.bot_lt_coe _)) (max_lt hM (EReal.coe_lt_top _))
  refine ⟨M', fun c => ?_⟩
  rw [pay16_apply, hm, funext hS, hF, h']

theorem row_l {M' : ℝ} (hp : ∀ c, k0_pay16 K Q m (ix2 r c) = M') (hS : ∀ j, score K Q r j = S n j) (c : Fin 128) :
    lNext K Q m l (ix3 (0 : Fin 1) r c) = Ideal.exp (m (ix3 (0 : Fin 1) r c) - M') * l (ix3 (0 : Fin 1) r c)
      + ∑ j, Ideal.exp ((S n j : EReal) - M') := by
  rw [lNext_apply, pay17_apply, hp]
  simp only [pay18_apply, hp, hS]

theorem row_a {M' : ℝ} (hp : ∀ c, k0_pay16 K Q m (ix2 r c) = M') (hS : ∀ j, score K Q r j = S n j)
    (hV : ∀ j d, V (ix3 (0 : Fin 1) j d) = W n j d) (d : Fin 128) :
    aNext K V Q m a (ix3 (0 : Fin 1) r d) = Ideal.exp (m (ix3 (0 : Fin 1) r d) - M') * a (ix3 (0 : Fin 1) r d)
      + ∑ j, Ideal.exp ((S n j : EReal) - M') * W n j d := by
  rw [aNext_apply, pay17_apply, hp]
  simp only [pay18_apply, hp, hS, hV]

/-- A later block. -/
theorem row_step (h : Running S W n (fun c => m (ix3 (0 : Fin 1) r c)) (fun c => l (ix3 (0 : Fin 1) r c)) (fun d => a (ix3 (0 : Fin 1) r d)))
    (hS : ∀ j, score K Q r j = S n j) (hV : ∀ j d, V (ix3 (0 : Fin 1) j d) = W n j d) :
    Running S W (n + 1) (fun c => mNext K Q m (ix3 (0 : Fin 1) r c)) (fun c => lNext K Q m l (ix3 (0 : Fin 1) r c))
      (fun d => aNext K V Q m a (ix3 (0 : Fin 1) r d)) := by
  obtain ⟨M, hm, -, -⟩ := id h
  obtain ⟨M', hp⟩ := row_max (M := M) (EReal.coe_lt_top _) hm hS
  exact h.step M' id (fun c => (mNext_apply _ _ _ _ _).trans (hp c)) (row_l hp hS) (row_a hp hS hV)

/-- The first block. -/
theorem row_start (h : Start (fun c : Fin 128 => m (ix3 (0 : Fin 1) r c)) (fun c : Fin 128 => l (ix3 (0 : Fin 1) r c)) (fun d : Fin 128 => a (ix3 (0 : Fin 1) r d)))
    (hS : ∀ j, score K Q r j = S 0 j) (hV : ∀ j d, V (ix3 (0 : Fin 1) j d) = W 0 j d) :
    Running S W 1 (fun c => mNext K Q m (ix3 (0 : Fin 1) r c)) (fun c => lNext K Q m l (ix3 (0 : Fin 1) r c))
      (fun d => aNext K V Q m a (ix3 (0 : Fin 1) r d)) := by
  obtain ⟨M', hp⟩ := row_max (M := ⊥) bot_lt_top h.1 hS
  exact h.step M' (fun c => (mNext_apply _ _ _ _ _).trans (hp c)) (row_l hp hS) id (row_a hp hS hV)

end Row

end Cert.KernelIdeal.Value
-- ==== Proof.Point.lean ====
/-
  One grid point as a whole: what the kernel's body leaves in its three scratch buffers, head by head, and at the last
  point of a run what it stores into the block of the result.
-/
module

public import proofs.«01_k».proof.Proof.Step

@[expose] public section

noncomputable section

open Idealize.ShloMosaic Idealize.ShloMosaic.ValueIdx Idealize.SL.Sem

namespace Cert.KernelIdeal.Value

open Cert.KernelIdeal Cert.KernelIdeal.Gen

section Slabs

variable {sig : RefSig} {κ : Kind} {sp : Space} {e : EltTy} {Val : EltTy → Type} [∀ e, Nonempty (Val e)]

/-- The part of a scratch buffer that head `g` owns lies within the buffer. -/
theorem slab_inb (g : ℕ) (hg : g < 4) : ∀ a, (![g, 0, 0] : Fin 3 → ℕ) a + S1x512x128.size a ≤ S4x512x128.size a := by
  intro a; fin_cases a <;> simp [S1x512x128, S4x512x128] <;> omega

/-- Head `g`'s part of a scratch buffer. -/
def slab (X : S4x512x128.Idx → Val e) (g : Fin 4) : S1x512x128.Idx → Val e :=
  View.ld X (Rect.unit ![g.val, 0, 0] ![1, 512, 128] (slab_inb g.val g.isLt))

omit [∀ e, Nonempty (Val e)] in
/-- Head `g`'s part, at a row and a lane. -/
theorem slab_apply (X : S4x512x128.Idx → Val e) (g : Fin 4) (r : Fin 512) (c : Fin 128) :
    slab X g (ix3 (0 : Fin 1) r c) = X (ix3 g r c) := by
  unfold slab
  refine congrArg X (funext fun a => Fin.ext ?_)
  rw [Rect.idx_unit_val]
  fin_cases a <;> simp [ix3]

/-- A store into another head's part does not show in head `g`'s part. -/
theorem readCov_skip (v : View sig κ sp S4x512x128 e) (g h : ℕ) (inb inb') (hgh : g ≠ h)
    (w : (Rect.unit (s := S4x512x128) ![h, 0, 0] ![1, 512, 128] inb').shape.Idx → Val e) (L : List (View.Piece Val S4x512x128 e)) :
    v.readCov (⟨Rect.unit ![h, 0, 0] ![1, 512, 128] inb', w⟩ :: L) (Rect.unit (s := S4x512x128) ![g, 0, 0] ![1, 512, 128] inb).toLoadRect
      = v.readCov L (Rect.unit (s := S4x512x128) ![g, 0, 0] ![1, 512, 128] inb).toLoadRect := by
  rw [View.readCov_eq_canon', View.readCov_eq_canon']
  funext x
  refine View.canon_cons_of_not_mem _ _ ?_
  rw [Rect.mem_set_unit]
  intro hx
  have h0 := hx 0
  have hx0 : (x 0).val < 1 := (x 0).isLt
  have e0 : ((Rect.unit (s := S4x512x128) ![g, 0, 0] ![1, 512, 128] inb).idx x 0).val = g + (x 0).val := Rect.idx_unit_val _ _ _ _ _
  have e1 : (![1, 512, 128] : Fin 3 → ℕ) 0 = 1 := rfl
  rw [show ((Rect.unit (s := S4x512x128) ![g, 0, 0] ![1, 512, 128] inb).toLoadRect.idx x 0).val = g + (x 0).val from e0, e1] at h0
  simp at h0
  omega

/-- The last store into head `g`'s part is what the part reads. -/
theorem readCov_hit (v : View sig κ sp S4x512x128 e) (g : ℕ) (inb inb')
    (w : (Rect.unit (s := S4x512x128) ![g, 0, 0] ![1, 512, 128] inb').shape.Idx → Val e) (L : List (View.Piece Val S4x512x128 e)) :
    v.readCov (⟨Rect.unit ![g, 0, 0] ![1, 512, 128] inb', w⟩ :: L) (Rect.unit (s := S4x512x128) ![g, 0, 0] ![1, 512, 128] inb).toLoadRect = w := by
  rw [View.readCov_eq_canon']
  funext x
  exact View.canon_cons_emb _ w L x

/-- A store of the whole buffer reads, in head `g`'s part, the stored value's part. -/
theorem readCov_whole (v : View sig κ sp S4x512x128 e) (g : ℕ) (inb inb')
    (w : S4x512x128.Idx → Val e) (L : List (View.Piece Val S4x512x128 e)) :
    v.readCov (⟨Rect.unit ![0, 0, 0] ![4, 512, 128] inb', w⟩ :: L) (Rect.unit (s := S4x512x128) ![g, 0, 0] ![1, 512, 128] inb).toLoadRect
      = View.ld w (Rect.unit (s := S4x512x128) ![g, 0, 0] ![1, 512, 128] inb) := by
  rw [View.readCov_eq_canon']
  funext x
  refine (congrArg (View.canon _) (?_ : _ = (Rect.unit (s := S4x512x128) ![0, 0, 0] ![4, 512, 128] inb').emb
    ((Rect.unit (s := S4x512x128) ![g, 0, 0] ![1, 512, 128] inb).idx x))).trans (View.canon_cons_emb _ _ _ _)
  refine funext fun a => Fin.ext ?_
  refine ((Rect.idx_unit_val (s := S4x512x128) _ _ inb' _ _).trans ?_).symm
  fin_cases a <;> simp

/-- Four stores, one into each head's part, read at an index: the store of the index's head. -/
theorem canon_slabs (w : Fin 4 → S1x512x128.Idx → Val e) (i0 i1 i2 i3) (L : List (View.Piece Val S4x512x128 e)) :
    View.canon (⟨Rect.unit (s := S4x512x128) ![3, 0, 0] ![1, 512, 128] i3, w 3⟩ :: ⟨Rect.unit ![2, 0, 0] ![1, 512, 128] i2, w 2⟩
      :: ⟨Rect.unit ![1, 0, 0] ![1, 512, 128] i1, w 1⟩ :: ⟨Rect.unit ![0, 0, 0] ![1, 512, 128] i0, w 0⟩ :: L)
      = fun y => w (y 0) (ix3 (0 : Fin 1) (y 1) (y 2)) := by
  have key : ∀ (g : Fin 4) (i) (r : Fin 512) (c : Fin 128),
      (Rect.unit (s := S4x512x128) ![g.val, 0, 0] ![1, 512, 128] i).emb (ix3 (0 : Fin 1) r c) = ix3 g r c := by
    intro g i r c
    refine funext fun a => Fin.ext ?_
    refine (Rect.idx_unit_val (s := S4x512x128) _ _ i _ _).trans ?_
    fin_cases a <;> simp [ix3]
  have off : ∀ (g h : Fin 4) (i) (r : Fin 512) (c : Fin 128), g ≠ h →
      ix3 g r c ∉ (Rect.unit (s := S4x512x128) ![h.val, 0, 0] ![1, 512, 128] i).set := by
    intro g h i r c hgh hx
    have h0 := Rect.mem_set_unit.mp hx 0
    have e1 : (![1, 512, 128] : Fin 3 → ℕ) 0 = 1 := rfl
    rw [e1] at h0
    simp [ix3] at h0
    exact hgh (Fin.ext (by omega))
  funext y
  obtain ⟨g, r, c, rfl⟩ : ∃ (g : Fin 4) (r : Fin 512) (c : Fin 128), y = ix3 g r c := ⟨y 0, y 1, y 2, eq_ix3 y⟩
  have skip : ∀ (h : Fin 4) (i) (w') (L), g ≠ h →
      View.canon (⟨Rect.unit (s := S4x512x128) ![h.val, 0, 0] ![1, 512, 128] i, w'⟩ :: L) (ix3 g r c) = View.canon (Val := Val) (e := e) L (ix3 g r c) :=
    fun h i w' L hgh => View.canon_cons_of_not_mem _ _ (off g h i r c hgh)
  have hit : ∀ (i) (w' : S1x512x128.Idx → Val e) (L),
      View.canon (⟨Rect.unit (s := S4x512x128) ![g.val, 0, 0] ![1, 512, 128] i, w'⟩ :: L) (ix3 g r c) = w' (ix3 (0 : Fin 1) r c) :=
    fun i w' L => (congrArg _ (key g i r c).symm).trans (View.canon_cons_emb _ _ _ _)
  change _ = w g (ix3 (0 : Fin 1) r c)
  match g with
  | 0 => exact (skip 3 _ _ _ (by decide)).trans ((skip 2 _ _ _ (by decide)).trans ((skip 1 _ _ _ (by decide)).trans (hit _ _ _)))
  | 1 => exact (skip 3 _ _ _ (by decide)).trans ((skip 2 _ _ _ (by decide)).trans (hit _ _ _))
  | 2 => exact (skip 3 _ _ _ (by decide)).trans (hit _ _ _)
  | 3 => exact hit _ _ _

/-- Four stores, one into each head's columns of a block of the result, read at head `g`'s column `d`. -/
theorem canon_cols (w : Fin 4 → S1x512x128.Idx → Val e) (i0 i1 i2 i3) (L : List (View.Piece Val S1x512x512 e))
    (g : Fin 4) (r : Fin 512) (d : Fin 128)
    (p : Fin 512) (hp : p.val = 128 * g.val + d.val) :
    View.canon (⟨Rect.unit (s := S1x512x512) ![0, 0, 384] ![1, 512, 128] i3, w 3⟩ :: ⟨Rect.unit ![0, 0, 256] ![1, 512, 128] i2, w 2⟩
      :: ⟨Rect.unit ![0, 0, 128] ![1, 512, 128] i1, w 1⟩ :: ⟨Rect.unit ![0, 0, 0] ![1, 512, 128] i0, w 0⟩ :: L)
        (ix3 (0 : Fin 1) r p) = w g (ix3 (0 : Fin 1) r d) := by
  have key : ∀ (n : ℕ) (hn : 128 * g.val = n) (i), (Rect.unit (s := S1x512x512) ![0, 0, n] ![1, 512, 128] i).emb (ix3 (0 : Fin 1) r d)
      = ix3 (0 : Fin 1) r p := by
    intro n hn i
    refine funext fun a => Fin.ext ?_
    refine (Rect.idx_unit_val (s := S1x512x512) _ _ i _ _).trans ?_
    fin_cases a <;> simp [ix3, hp, hn]
  have off : ∀ (n : ℕ) (i), (128 * g.val + 128 ≤ n ∨ n + 128 ≤ 128 * g.val) →
      ix3 (0 : Fin 1) r p ∉ (Rect.unit (s := S1x512x512) ![0, 0, n] ![1, 512, 128] i).set := by
    intro n i hn hx
    have h2 := Rect.mem_set_unit.mp hx 2
    simp [ix3, hp] at h2
    have := d.isLt
    omega
  have skip : ∀ (n : ℕ) (i) (w') (L), (128 * g.val + 128 ≤ n ∨ n + 128 ≤ 128 * g.val) →
      View.canon (⟨Rect.unit (s := S1x512x512) ![0, 0, n] ![1, 512, 128] i, w'⟩ :: L)
        (ix3 (0 : Fin 1) r p)
      = View.canon (Val := Val) (e := e) L (ix3 (0 : Fin 1) r p) :=
    fun n i w' L hn => View.canon_cons_of_not_mem _ _ (off n i hn)
  have hit : ∀ (n : ℕ) (hn : 128 * g.val = n) (i) (w' : S1x512x128.Idx → Val e) (L),
      View.canon (⟨Rect.unit (s := S1x512x512) ![0, 0, n] ![1, 512, 128] i, w'⟩ :: L)
        (ix3 (0 : Fin 1) r p) = w' (ix3 (0 : Fin 1) r d) :=
    fun n hn i w' L => (congrArg _ (key n hn i).symm).trans (View.canon_cons_emb _ _ _ _)
  have hg := g.isLt
  obtain h | h | h | h : g.val = 0 ∨ g.val = 1 ∨ g.val = 2 ∨ g.val = 3 := by omega
  · obtain rfl : g = 0 := Fin.ext h
    exact (skip 384 _ _ _ (by omega)).trans ((skip 256 _ _ _ (by omega)).trans ((skip 128 _ _ _ (by omega)).trans (hit 0 (by omega) _ _ _)))
  · obtain rfl : g = 1 := Fin.ext h
    exact (skip 384 _ _ _ (by omega)).trans ((skip 256 _ _ _ (by omega)).trans (hit 128 (by omega) _ _ _))
  · obtain rfl : g = 2 := Fin.ext h
    exact (skip 384 _ _ _ (by omega)).trans (hit 256 (by omega) _ _ _)
  · obtain rfl : g = 3 := Fin.ext h
    exact hit 384 (by omega) _ _ _

end Slabs

/-- Head `g`'s columns of the block of queries lie within the block. -/
theorem headQ_inb (g : ℕ) (hg : g < 4) : ∀ a, (![0, 0, 128 * g] : Fin 3 → ℕ) a + S1x512x128.size a ≤ S1x512x512.size a := by
  intro a; fin_cases a <;> simp [S1x512x128, S1x512x512] <;> omega

/-- Head `g`'s columns of the block of queries. -/
def headQ (X : Vec Ideal S1x512x512 .bf16) (g : Fin 4) : Vec Ideal S1x512x128 .bf16 :=
  View.ld (Val := Elt Ideal) (e' := .bf16) X (Rect.unit ![0, 0, 128 * g.val] ![1, 512, 128] (headQ_inb g.val g.isLt))

/-- Head `g`'s columns, at a row and a lane. -/
theorem headQ_apply (X : Vec Ideal S1x512x512 .bf16) (g : Fin 4) (r : Fin 512) (c : Fin 128) :
    headQ X g (ix3 (0 : Fin 1) r c) = X (ix3 (0 : Fin 1) r (⟨128 * g.val + c.val, by omega⟩ : Fin 512)) := by
  unfold headQ
  refine congrArg X (funext fun a => Fin.ext ?_)
  rw [Rect.idx_unit_val]
  fin_cases a <;> simp [ix3]

/-- A load of a whole block of keys or values reads the block. -/
theorem ld_block (X : Vec Ideal S1x1024x128 .bf16) (inb) :
    View.ld (Val := Elt Ideal) (e' := .bf16) X (Rect.unit ![0, 0, 0] ![1, 1024, 128] inb) = X :=
  View.ld_unit_zero (by funext a; fin_cases a <;> rfl) inb X

section Heads

variable (K V : Vec Ideal S1x1024x128 .bf16) (Q : Vec Ideal S1x512x128 .bf16) (m l a : Vec Ideal S1x512x128 .f32)

/-! The four heads' stores are one function of their operands. -/

theorem mNext_0 : k0_pay21 (k0_pay16 K Q m) = mNext K Q m := rfl
theorem mNext_1 : k0_pay30 (k0_pay24 (k0_pay12 K) Q m) = mNext K Q m := rfl
theorem mNext_2 : k0_pay40 (k0_pay33 (k0_pay12 K) Q m) = mNext K Q m := rfl
theorem mNext_3 : k0_pay3 (k0_pay43 (k0_pay12 K) Q m) = mNext K Q m := rfl

theorem lNext_0 : k0_pay19 K Q m l = lNext K Q m l := rfl
theorem lNext_1 : k0_pay28 (k0_pay27 (k0_pay12 K) Q m l) = lNext K Q m l := rfl
theorem lNext_2 : k0_pay38 (k0_pay36 (k0_pay12 K) Q m l) (k0_pay37 (k0_pay12 K) Q m) = lNext K Q m l := rfl
theorem lNext_3 : k0_pay1 (k0_pay45 (k0_pay12 K) Q m) (k0_pay46 (k0_pay12 K) Q m l) = lNext K Q m l := rfl

theorem aNext_0 : k0_pay20 (k0_pay13 V) (k0_pay17 K Q m) (k0_pay18 K Q m) a = aNext K V Q m a := rfl
theorem aNext_1 : k0_pay29 (k0_pay13 V) (k0_pay25 (k0_pay12 K) Q m) (k0_pay26 (k0_pay12 K) Q m) a = aNext K V Q m a := rfl
theorem aNext_2 : k0_pay39 (k0_pay13 V) (k0_pay34 (k0_pay12 K) Q m) (k0_pay35 (k0_pay12 K) Q m) a = aNext K V Q m a := rfl
theorem aNext_3 : k0_pay2 (k0_pay13 V) (k0_pay44 (k0_pay12 K) Q m) (k0_pay45 (k0_pay12 K) Q m) a = aNext K V Q m a := rfl

end Heads

section Body

variable (c : Dev nD) (i : grid0.Coords) (arg4 : Memref sig .tc .vmem S1x512x512 .bf16) (harg4 : arg4.IsWhole)
  (arg5 : Memref sig .tc .vmem S1x1024x128 .bf16) (harg5 : arg5.IsWhole) (arg6 : Memref sig .tc .vmem S1x1024x128 .bf16) (harg6 : arg6.IsWhole)
  (arg7 : Memref sig .tc .vmem S1x512x512 .f32) (harg7 : arg7.IsWhole) (arg8 : Memref sig .tc .vmem S4x512x128 .f32) (harg8 : arg8.IsWhole)
  (arg9 : Memref sig .tc .vmem S4x512x128 .f32) (harg9 : arg9.IsWhole) (arg10 : Memref sig .tc .vmem S4x512x128 .f32) (harg10 : arg10.IsWhole)
  (x0 : Vec Ideal S1x512x512 .bf16) (x1 x2 : Vec Ideal S1x1024x128 .bf16) (xs0 xs1 xs2 : Vec Ideal S4x512x128 .f32)

/-- The maxima after a point, from the blocks and the scratch before it. -/
def mPoint : Vec Ideal S4x512x128 .f32 :=
  fun y => mNext x1 (headQ x0 (y 0)) (slab xs0 (y 0)) (ix3 (0 : Fin 1) (y 1) (y 2))

/-- The row sums after a point. -/
def lPoint : Vec Ideal S4x512x128 .f32 :=
  fun y => lNext x1 (headQ x0 (y 0)) (slab xs0 (y 0)) (slab xs1 (y 0)) (ix3 (0 : Fin 1) (y 1) (y 2))

/-- The accumulator after a point. -/
def aPoint : Vec Ideal S4x512x128 .f32 :=
  fun y => aNext x1 x2 (headQ x0 (y 0)) (slab xs0 (y 0)) (slab xs2 (y 0)) (ix3 (0 : Fin 1) (y 1) (y 2))

theorem mPoint_apply (g : Fin 4) (r : Fin 512) (k : Fin 128) :
    mPoint x0 x1 xs0 (ix3 g r k) = mNext x1 (headQ x0 g) (slab xs0 g) (ix3 (0 : Fin 1) r k) := rfl

theorem lPoint_apply (g : Fin 4) (r : Fin 512) (k : Fin 128) :
    lPoint x0 x1 xs0 xs1 (ix3 g r k) = lNext x1 (headQ x0 g) (slab xs0 g) (slab xs1 g) (ix3 (0 : Fin 1) r k) := rfl

theorem aPoint_apply (g : Fin 4) (r : Fin 512) (k : Fin 128) :
    aPoint x0 x1 x2 xs0 xs2 (ix3 g r k) = aNext x1 x2 (headQ x0 g) (slab xs0 g) (slab xs2 g) (ix3 (0 : Fin 1) r k) := rfl

/-- A middle point leaves the new maxima. -/
theorem sout_B_0 (hc0 : ¬cond0_0 i) (hc1 : ¬cond0_1 i) :
    sout0_B_0 (F := Ideal) c i arg4 harg4 arg5 harg5 arg6 harg6 arg7 harg7 arg8 harg8 arg9 harg9 arg10 harg10 hc0 hc1 x0 x1 x2 xs0 xs1 xs2 = mPoint x0 x1 xs0 := by
  unfold sout0_B_0
  rw [View.read_writes_eq_canon _ _ _ (scover0_B_0 c i arg4 harg4 arg5 harg5 arg6 harg6 arg7 harg7 arg8 harg8 arg9 harg9 arg10 harg10 hc0 hc1 x0 x1 x2 xs0 xs1 xs2)]
  unfold kernelRun0_B
  dsimp only
  sl_unfold_words
  simp (discharger := decide) only [View.readAt_eq_ld, Memref.IsWhole.read_unread, ld_block]
  rw [mNext_0, mNext_1, mNext_2, mNext_3]
  exact canon_slabs (Val := Elt Ideal) (e := .f32) (fun g => mNext x1 (headQ x0 g) (slab xs0 g))
    (slab_inb 0 (by decide)) (slab_inb 1 (by decide)) (slab_inb 2 (by decide)) (slab_inb 3 (by decide)) _

/-- A middle point leaves the new row sums. -/
theorem sout_B_1 (hc0 : ¬cond0_0 i) (hc1 : ¬cond0_1 i) :
    sout0_B_1 (F := Ideal) c i arg4 harg4 arg5 harg5 arg6 harg6 arg7 harg7 arg8 harg8 arg9 harg9 arg10 harg10 hc0 hc1 x0 x1 x2 xs0 xs1 xs2 = lPoint x0 x1 xs0 xs1 := by
  unfold sout0_B_1
  rw [View.read_writes_eq_canon _ _ _ (scover0_B_1 c i arg4 harg4 arg5 harg5 arg6 harg6 arg7 harg7 arg8 harg8 arg9 harg9 arg10 harg10 hc0 hc1 x0 x1 x2 xs0 xs1 xs2)]
  unfold kernelRun0_B
  dsimp only
  sl_unfold_words
  simp (discharger := decide) only [View.readAt_eq_ld, Memref.IsWhole.read_unread, ld_block]
  rw [lNext_0, lNext_1, lNext_2, lNext_3]
  exact canon_slabs (Val := Elt Ideal) (e := .f32) (fun g => lNext x1 (headQ x0 g) (slab xs0 g) (slab xs1 g))
    (slab_inb 0 (by decide)) (slab_inb 1 (by decide)) (slab_inb 2 (by decide)) (slab_inb 3 (by decide)) _

/-- A middle point leaves the new accumulator. -/
theorem sout_B_2 (hc0 : ¬cond0_0 i) (hc1 : ¬cond0_1 i) :
    sout0_B_2 (F := Ideal) c i arg4 harg4 arg5 harg5 arg6 harg6 arg7 harg7 arg8 harg8 arg9 harg9 arg10 harg10 hc0 hc1 x0 x1 x2 xs0 xs1 xs2 = aPoint x0 x1 x2 xs0 xs2 := by
  unfold sout0_B_2
  rw [View.read_writes_eq_canon _ _ _ (scover0_B_2 c i arg4 harg4 arg5 harg5 arg6 harg6 arg7 harg7 arg8 harg8 arg9 harg9 arg10 harg10 hc0 hc1 x0 x1 x2 xs0 xs1 xs2)]
  unfold kernelRun0_B
  dsimp only
  sl_unfold_words
  simp (discharger := decide) only [View.readAt_eq_ld, Memref.IsWhole.read_unread, ld_block]
  rw [aNext_0, aNext_1, aNext_2, aNext_3]
  exact canon_slabs (Val := Elt Ideal) (e := .f32) (fun g => aNext x1 x2 (headQ x0 g) (slab xs0 g) (slab xs2 g))
    (slab_inb 0 (by decide)) (slab_inb 1 (by decide)) (slab_inb 2 (by decide)) (slab_inb 3 (by decide)) _

/-- The last point of a run leaves the new maxima. -/
theorem sout_C_0 (hc0 : ¬cond0_0 i) (hc1 : cond0_1 i) :
    sout0_C_0 (F := Ideal) c i arg4 harg4 arg5 harg5 arg6 harg6 arg7 harg7 arg8 harg8 arg9 harg9 arg10 harg10 hc0 hc1 x0 x1 x2 xs0 xs1 xs2 = mPoint x0 x1 xs0 := by
  unfold sout0_C_0
  rw [View.read_writes_eq_canon _ _ _ (scover0_C_0 c i arg4 harg4 arg5 harg5 arg6 harg6 arg7 harg7 arg8 harg8 arg9 harg9 arg10 harg10 hc0 hc1 x0 x1 x2 xs0 xs1 xs2)]
  unfold kernelRun0_C
  dsimp only
  sl_unfold_words
  simp (discharger := decide) only [View.readAt_eq_ld, Memref.IsWhole.read_unread, ld_block]
  rw [mNext_0, mNext_1, mNext_2, mNext_3]
  exact canon_slabs (Val := Elt Ideal) (e := .f32) (fun g => mNext x1 (headQ x0 g) (slab xs0 g))
    (slab_inb 0 (by decide)) (slab_inb 1 (by decide)) (slab_inb 2 (by decide)) (slab_inb 3 (by decide)) _

/-- The last point of a run leaves the new row sums. -/
theorem sout_C_1 (hc0 : ¬cond0_0 i) (hc1 : cond0_1 i) :
    sout0_C_1 (F := Ideal) c i arg4 harg4 arg5 harg5 arg6 harg6 arg7 harg7 arg8 harg8 arg9 harg9 arg10 harg10 hc0 hc1 x0 x1 x2 xs0 xs1 xs2 = lPoint x0 x1 xs0 xs1 := by
  unfold sout0_C_1
  rw [View.read_writes_eq_canon _ _ _ (scover0_C_1 c i arg4 harg4 arg5 harg5 arg6 harg6 arg7 harg7 arg8 harg8 arg9 harg9 arg10 harg10 hc0 hc1 x0 x1 x2 xs0 xs1 xs2)]
  unfold kernelRun0_C
  dsimp only
  sl_unfold_words
  simp (discharger := decide) only [View.readAt_eq_ld, Memref.IsWhole.read_unread, ld_block]
  rw [lNext_0, lNext_1, lNext_2, lNext_3]
  exact canon_slabs (Val := Elt Ideal) (e := .f32) (fun g => lNext x1 (headQ x0 g) (slab xs0 g) (slab xs1 g))
    (slab_inb 0 (by decide)) (slab_inb 1 (by decide)) (slab_inb 2 (by decide)) (slab_inb 3 (by decide)) _

/-- The last point of a run leaves the new accumulator. -/
theorem sout_C_2 (hc0 : ¬cond0_0 i) (hc1 : cond0_1 i) :
    sout0_C_2 (F := Ideal) c i arg4 harg4 arg5 harg5 arg6 harg6 arg7 harg7 arg8 harg8 arg9 harg9 arg10 harg10 hc0 hc1 x0 x1 x2 xs0 xs1 xs2 = aPoint x0 x1 x2 xs0 xs2 := by
  unfold sout0_C_2
  rw [View.read_writes_eq_canon _ _ _ (scover0_C_2 c i arg4 harg4 arg5 harg5 arg6 harg6 arg7 harg7 arg8 harg8 arg9 harg9 arg10 harg10 hc0 hc1 x0 x1 x2 xs0 xs1 xs2)]
  unfold kernelRun0_C
  dsimp only
  sl_unfold_words
  simp (discharger := decide) only [View.readAt_eq_ld, Memref.IsWhole.read_unread, ld_block]
  rw [aNext_0, aNext_1, aNext_2, aNext_3]
  exact canon_slabs (Val := Elt Ideal) (e := .f32) (fun g => aNext x1 x2 (headQ x0 g) (slab xs0 g) (slab xs2 g))
    (slab_inb 0 (by decide)) (slab_inb 1 (by decide)) (slab_inb 2 (by decide)) (slab_inb 3 (by decide)) _

/-- The first point of a run leaves the new maxima. -/
theorem sout_A_0 (hc0 : cond0_0 i) (hc1 : ¬cond0_1 i) :
    sout0_A_0 (F := Ideal) c i arg4 harg4 arg5 harg5 arg6 harg6 arg7 harg7 arg8 harg8 arg9 harg9 arg10 harg10 hc0 hc1 x0 x1 x2 = mPoint x0 x1 (k0_pay9 (F := Ideal)) := by
  unfold sout0_A_0
  rw [View.read_writes_eq_canon _ _ _ (scover0_A_0 c i arg4 harg4 arg5 harg5 arg6 harg6 arg7 harg7 arg8 harg8 arg9 harg9 arg10 harg10 hc0 hc1 x0 x1 x2)]
  unfold kernelRun0_A
  dsimp only
  sl_unfold_words
  simp (discharger := decide) only [View.readAt_eq_ld, Memref.IsWhole.read_unread, ld_block, readCov_skip, readCov_whole]
  rw [mNext_0, mNext_1, mNext_2, mNext_3]
  exact canon_slabs (Val := Elt Ideal) (e := .f32) (fun g => mNext x1 (headQ x0 g) (slab (k0_pay9 (F := Ideal)) g))
    (slab_inb 0 (by decide)) (slab_inb 1 (by decide)) (slab_inb 2 (by decide)) (slab_inb 3 (by decide)) _

/-- The first point of a run leaves the new row sums. -/
theorem sout_A_1 (hc0 : cond0_0 i) (hc1 : ¬cond0_1 i) :
    sout0_A_1 (F := Ideal) c i arg4 harg4 arg5 harg5 arg6 harg6 arg7 harg7 arg8 harg8 arg9 harg9 arg10 harg10 hc0 hc1 x0 x1 x2 = lPoint x0 x1 (k0_pay9 (F := Ideal)) (k0_pay10 (F := Ideal)) := by
  unfold sout0_A_1
  rw [View.read_writes_eq_canon _ _ _ (scover0_A_1 c i arg4 harg4 arg5 harg5 arg6 harg6 arg7 harg7 arg8 harg8 arg9 harg9 arg10 harg10 hc0 hc1 x0 x1 x2)]
  unfold kernelRun0_A
  dsimp only
  sl_unfold_words
  simp (discharger := decide) only [View.readAt_eq_ld, Memref.IsWhole.read_unread, ld_block, readCov_skip, readCov_whole]
  rw [lNext_0, lNext_1, lNext_2, lNext_3]
  exact canon_slabs (Val := Elt Ideal) (e := .f32) (fun g => lNext x1 (headQ x0 g) (slab (k0_pay9 (F := Ideal)) g) (slab (k0_pay10 (F := Ideal)) g))
    (slab_inb 0 (by decide)) (slab_inb 1 (by decide)) (slab_inb 2 (by decide)) (slab_inb 3 (by decide)) _

/-- The first point of a run leaves the new accumulator. -/
theorem sout_A_2 (hc0 : cond0_0 i) (hc1 : ¬cond0_1 i) :
    sout0_A_2 (F := Ideal) c i arg4 harg4 arg5 harg5 arg6 harg6 arg7 harg7 arg8 harg8 arg9 harg9 arg10 harg10 hc0 hc1 x0 x1 x2 = aPoint x0 x1 x2 (k0_pay9 (F := Ideal)) (k0_pay11 (F := Ideal)) := by
  unfold sout0_A_2
  rw [View.read_writes_eq_canon _ _ _ (scover0_A_2 c i arg4 harg4 arg5 harg5 arg6 harg6 arg7 harg7 arg8 harg8 arg9 harg9 arg10 harg10 hc0 hc1 x0 x1 x2)]
  unfold kernelRun0_A
  dsimp only
  sl_unfold_words
  simp (discharger := decide) only [View.readAt_eq_ld, Memref.IsWhole.read_unread, ld_block, readCov_skip, readCov_whole]
  rw [aNext_0, aNext_1, aNext_2, aNext_3]
  exact canon_slabs (Val := Elt Ideal) (e := .f32) (fun g => aNext x1 x2 (headQ x0 g) (slab (k0_pay9 (F := Ideal)) g) (slab (k0_pay11 (F := Ideal)) g))
    (slab_inb 0 (by decide)) (slab_inb 1 (by decide)) (slab_inb 2 (by decide)) (slab_inb 3 (by decide)) _

/-- What a head stores into the block of the result: its accumulator over its row sums. -/
def quotient (a l : Vec Ideal S1x512x128 .f32) : Vec Ideal S1x512x128 .f32 := k0_pay5 a l

/-! The four heads' stores are that one function. -/

theorem quotient_1 (a l : Vec Ideal S1x512x128 .f32) : k0_pay6 a l = quotient a l := rfl
theorem quotient_2 (a l : Vec Ideal S1x512x128 .f32) : k0_pay7 a l = quotient a l := rfl
theorem quotient_3 (a l : Vec Ideal S1x512x128 .f32) : k0_pay4 (k0_pay8 a) l = quotient a l := rfl

/-- The quotient at an index. -/
theorem quotient_apply (a l : Vec Ideal S1x512x128 .f32) (r : Fin 512) (d : Fin 128) :
    quotient a l (ix3 (0 : Fin 1) r d) = Ideal.div (a (ix3 (0 : Fin 1) r d)) (l (ix3 (0 : Fin 1) r d)) := by
  unfold quotient k0_pay5
  rw [shapeCast_ab_1ab_apply, divf_apply, shapeCast_1ab_ab_apply, shapeCast_1ab_ab_apply]

/-- The last point of a run stores, head by head, the new accumulator over the new row sums. -/
theorem out_C (hc0 : ¬cond0_0 i) (hc1 : cond0_1 i) (r : Fin 512) (g : Fin 4) (d : Fin 128) :
    out0_C_3 (F := Ideal) c i arg4 harg4 arg5 harg5 arg6 harg6 arg7 harg7 arg8 harg8 arg9 harg9 arg10 harg10 hc0 hc1 x0 x1 x2 xs0 xs1 xs2
        (ix3 (0 : Fin 1) r (⟨128 * g.val + d.val, by omega⟩ : Fin 512))
      = Ideal.div (aPoint x0 x1 x2 xs0 xs2 (ix3 g r d)) (lPoint x0 x1 xs0 xs1 (ix3 g r d)) := by
  unfold out0_C_3
  rw [View.read_writes_eq_canon _ _ _ (cover0_C_3 c i arg4 harg4 arg5 harg5 arg6 harg6 arg7 harg7 arg8 harg8 arg9 harg9 arg10 harg10 hc0 hc1 x0 x1 x2 xs0 xs1 xs2)]
  unfold kernelRun0_C
  dsimp only
  sl_unfold_words
  simp (discharger := decide) only [View.readAt_eq_ld, Memref.IsWhole.read_unread, ld_block, readCov_skip, readCov_hit]
  rw [lNext_0, lNext_1, lNext_2, lNext_3, aNext_0, aNext_1, aNext_2, aNext_3]
  rw [quotient_1, quotient_2, quotient_3]
  exact (canon_cols (Val := Elt Ideal) (e := .f32)
    (fun g => quotient (aNext x1 x2 (headQ x0 g) (slab xs0 g) (slab xs2 g)) (lNext x1 (headQ x0 g) (slab xs0 g) (slab xs1 g)))
    (headQ_inb 0 (by decide)) (headQ_inb 1 (by decide)) (headQ_inb 2 (by decide)) (headQ_inb 3 (by decide)) _ g r d _ rfl).trans (quotient_apply _ _ _ _)

/-- The maxima start at minus infinity. -/
theorem start_m (y : S4x512x128.Idx) : (k0_pay9 (F := Ideal)) y = ⊥ := by
  unfold k0_pay9
  simp only [shapeCast_self]
  show FloatOps.ofBits (F := Ideal) .f32 0xFF800000#32 = (⊥ : EReal)
  simp [Ideal.ofBits, Ideal.ieee]

/-- The row sums start at zero. -/
theorem start_l (y : S4x512x128.Idx) : (k0_pay10 (F := Ideal)) y = 0 := by
  unfold k0_pay10
  simp only [shapeCast_self]
  exact Ideal.ofBits_zero_f32

/-- The accumulator starts at zero. -/
theorem start_a (y : S4x512x128.Idx) : (k0_pay11 (F := Ideal)) y = 0 := by
  unfold k0_pay11
  simp only [shapeCast_self]
  exact Ideal.ofBits_zero_f32

end Body

end Cert.KernelIdeal.Value
-- ==== Proof.Blocks.lean ====
/-
  The kernel's result array: point by point the three scratch buffers hold the running softmax of the run's blocks of
  keys, and the last point of each run stores the quotient, which is the attention.
-/
module

public import proofs.«01_k».proof.Proof.Attention
public import proofs.«01_k».proof.Proof.Head
public import proofs.«01_k».proof.Proof.Point
public import proofs.«01_k».proof.Proof.Gen.KernelIdeal.Value
public import Idealize.ShloMosaic.Lib.Pipeline.ValueKit.Geometry

@[expose] public section

noncomputable section

open Idealize.ShloMosaic Idealize.ShloMosaic.ValueIdx Idealize.ShloMosaic.TcCoe Idealize.SL.Sem
open Idealize.ShloMosaic.Pipeline (Dat)

namespace Cert.KernelIdeal.Value

open Cert.KernelIdeal Cert.KernelIdeal.Gen Cert.Softmax Cert.Attention

/-! ## Which block each point sees -/

theorem index_0 : ∀ t : Fin cfg0.N, win0_0.index t = ![t.val / 256, t.val / 8 % 16, t.val / 128 % 2] :=
  (by decide +kernel : ∀ t : Fin grid0.N, _)

theorem index_1 : ∀ t : Fin cfg0.N, win0_1.index t = ![t.val / 256, t.val % 8, t.val / 128 % 2] :=
  (by decide +kernel : ∀ t : Fin grid0.N, _)

theorem index_2 : ∀ t : Fin cfg0.N, win0_2.index t = ![t.val / 256, t.val % 8, t.val / 128 % 2] :=
  (by decide +kernel : ∀ t : Fin grid0.N, _)

theorem index_3 : ∀ t : Fin cfg0.N, win0_3.index t = ![t.val / 256, t.val / 8 % 16, t.val / 128 % 2] :=
  (by decide +kernel : ∀ t : Fin grid0.N, _)

theorem lt_512 (t : Fin cfg0.N) : t.val < 512 := N_0 ▸ t.isLt

/-- The batch of the run of eight points that point `t` lies in. -/
def batch (t : Fin cfg0.N) : Fin 2 := ⟨t.val / 256, by have := lt_512 t; omega⟩

/-- The token of row `r` of the run's block of queries. -/
def token (t : Fin cfg0.N) (r : Fin 512) : Fin 8192 := ⟨t.val / 8 % 16 * 512 + r.val, by omega⟩

/-- The query head that is the run's head `g`. -/
def head (t : Fin cfg0.N) (g : Fin 4) : Fin 8 := ⟨4 * (t.val / 128 % 2) + g.val, by omega⟩

/-- The token of row `j` of the `n`-th block of keys. -/
def keyToken (n : ℕ) (j : Fin 1024) : Fin 8192 := ⟨n % 8 * 1024 + j.val, by omega⟩

variable (m : (ℓ : Loc nD τ sig) → Buf (Elt Ideal) ℓ) (c : Dev nD)

/-- The queries the kernel is launched on. -/
abbrev queries : Queries := V m c main_arg0
/-- The keys. -/
abbrev keys : Keys := V m c main_arg1
/-- The values. -/
abbrev values : Keys := V m c main_arg2

theorem iblk_0_apply (t : Fin cfg0.N) (r : Fin 512) (g : Fin 4) (d : Fin 128) :
    (iblk m c 0 t : Vec Ideal S1x512x512 .bf16) (ix3 (0 : Fin 1) r (⟨128 * g.val + d.val, by omega⟩ : Fin 512))
      = queries m c (ix3 (batch t) (token t r) (qcol (head t g) d)) := by
  blk_simp [iblk]
  refine congrArg (V m c main_arg0) ?_
  have h0 : ∀ a, (((win0_0.blk t).view.emb (ix3 (0 : Fin 1) r (⟨128 * g.val + d.val, by omega⟩ : Fin 512))) a : ℕ)
      = ((ix3 (batch t) (token t r) (qcol (head t g) d) : S2x8192x1024.Idx) a : ℕ) := by
    intro a
    fin_cases a <;> blk_simp [index_0] <;> simp [ix3, batch, token, head, qcol] <;> omega
  exact funext fun a => Fin.ext (h0 a)

theorem iblk_1_apply (t : Fin cfg0.N) (j : Fin 1024) (g : Fin 4) (d : Fin 128) :
    (iblk m c 1 t : Vec Ideal S1x1024x128 .bf16) (ix3 (0 : Fin 1) j d)
      = keys m c (ix3 (batch t) (keyToken (t.val % 8) j) (kcol (head t g) d)) := by
  blk_simp [iblk]
  refine congrArg (V m c main_arg1) ?_
  have h0 : ∀ a, (((win0_1.blk t).view.emb (ix3 (0 : Fin 1) j d)) a : ℕ)
      = ((ix3 (batch t) (keyToken (t.val % 8) j) (kcol (head t g) d) : S2x8192x256.Idx) a : ℕ) := by
    intro a
    fin_cases a <;> blk_simp [index_1] <;> simp [ix3, batch, keyToken, head, kcol] <;> omega
  exact funext fun a => Fin.ext (h0 a)

theorem iblk_2_apply (t : Fin cfg0.N) (j : Fin 1024) (g : Fin 4) (d : Fin 128) :
    (iblk m c 2 t : Vec Ideal S1x1024x128 .bf16) (ix3 (0 : Fin 1) j d)
      = values m c (ix3 (batch t) (keyToken (t.val % 8) j) (kcol (head t g) d)) := by
  blk_simp [iblk]
  refine congrArg (V m c main_arg2) ?_
  have h0 : ∀ a, (((win0_2.blk t).view.emb (ix3 (0 : Fin 1) j d)) a : ℕ)
      = ((ix3 (batch t) (keyToken (t.val % 8) j) (kcol (head t g) d) : S2x8192x256.Idx) a : ℕ) := by
    intro a
    fin_cases a <;> blk_simp [index_2] <;> simp [ix3, batch, keyToken, head, kcol] <;> omega
  exact funext fun a => Fin.ext (h0 a)

/-! ## The scores of a run -/

/-- Row `r` of head `g`, against the `n`-th block of keys. -/
def runScores (t : Fin cfg0.N) (g : Fin 4) (r : Fin 512) (n : ℕ) (j : Fin 1024) : ℝ :=
  realScore (queries m c) (keys m c) (batch t) (token t r) (head t g) (keyToken n j)

/-- The `n`-th block of values of head `g`. -/
def runValues (t : Fin cfg0.N) (g : Fin 4) (n : ℕ) (j : Fin 1024) (d : Fin 128) : EReal :=
  values m c (ix3 (batch t) (keyToken n j) (kcol (head t g) d))

theorem score_block (hQ : Finite (queries m c)) (hK : Finite (keys m c)) (t : Fin cfg0.N) (g : Fin 4) (r : Fin 512) (j : Fin 1024) :
    score (iblk m c 1 t) (headQ (iblk m c 0 t) g) r j = runScores m c t g r (t.val % 8) j := by
  unfold runScores
  rw [← score_real hQ hK]
  refine Finset.sum_congr rfl fun d _ => ?_
  rw [headQ_apply, iblk_0_apply, iblk_1_apply m c t j g d]

/-- What the scratch buffers hold after point `t`: for every head and row the running softmax over the run's blocks of
    keys so far. -/
def Inv (t : Fin cfg0.N) (m8 l8 a8 : Vec Ideal S4x512x128 .f32) : Prop :=
  ∀ (g : Fin 4) (r : Fin 512), Running (runScores m c t g r) (runValues m c t g) (t.val % 8 + 1)
    (fun k : Fin 128 => m8 (ix3 g r k)) (fun k : Fin 128 => l8 (ix3 g r k)) (fun d : Fin 128 => a8 (ix3 g r d))

/-- One later point of a run. -/
theorem inv_step (hQ : Finite (queries m c)) (hK : Finite (keys m c)) (t t' : Fin cfg0.N) (ht : t.val % 8 ≠ 0) (ht' : t'.val = t.val - 1)
    {m8 l8 a8 : Vec Ideal S4x512x128 .f32} (h : Inv m c t' m8 l8 a8) :
    Inv m c t (mPoint (iblk m c 0 t) (iblk m c 1 t) m8) (lPoint (iblk m c 0 t) (iblk m c 1 t) m8 l8)
      (aPoint (iblk m c 0 t) (iblk m c 1 t) (iblk m c 2 t) m8 a8) := by
  intro g r
  have hb : batch t' = batch t := Fin.ext (by simp only [batch]; omega)
  have hk : token t' r = token t r := Fin.ext (by simp only [token]; omega)
  have hh : head t' g = head t g := Fin.ext (by simp only [head]; omega)
  have hn : t'.val % 8 + 1 = t.val % 8 := by omega
  have h1 := h g r
  rw [hn, show runScores m c t' g r = runScores m c t g r by unfold runScores; rw [hb, hk, hh],
    show runValues m c t' g = runValues m c t g by unfold runValues; rw [hb, hh]] at h1
  simp only [mPoint_apply, lPoint_apply, aPoint_apply]
  refine row_step (m := slab m8 g) (l := slab l8 g) (a := slab a8 g) ?_ (score_block m c hQ hK t g r)
    (fun j d => iblk_2_apply m c t j g d)
  simp only [slab_apply]
  exact h1

/-- The first point of a run. -/
theorem inv_start (hQ : Finite (queries m c)) (hK : Finite (keys m c)) (t : Fin cfg0.N) (ht : t.val % 8 = 0) :
    Inv m c t (mPoint (iblk m c 0 t) (iblk m c 1 t) (k0_pay9 (F := Ideal)))
      (lPoint (iblk m c 0 t) (iblk m c 1 t) (k0_pay9 (F := Ideal)) (k0_pay10 (F := Ideal)))
      (aPoint (iblk m c 0 t) (iblk m c 1 t) (iblk m c 2 t) (k0_pay9 (F := Ideal)) (k0_pay11 (F := Ideal))) := by
  intro g r
  have hS := score_block m c hQ hK t g r
  have hV : ∀ j d, (iblk m c 2 t : Vec Ideal S1x1024x128 .bf16) (ix3 (0 : Fin 1) j d) = runValues m c t g (t.val % 8) j d :=
    fun j d => iblk_2_apply m c t j g d
  rw [ht] at hS hV ⊢
  simp only [mPoint_apply, lPoint_apply, aPoint_apply]
  refine row_start (m := slab (k0_pay9 (F := Ideal)) g) (l := slab (k0_pay10 (F := Ideal)) g) (a := slab (k0_pay11 (F := Ideal)) g) ?_ hS hV
  simp only [slab_apply, start_m, start_l, start_a]
  exact ⟨fun _ => rfl, fun _ => rfl, fun _ => rfl⟩

/-- After every point the scratch buffers hold the running softmax. -/
theorem inv_all (hQ : Finite (queries m c)) (hK : Finite (keys m c)) : ∀ (n : ℕ) (h : n < cfg0.N),
    Inv m c ⟨n, h⟩ (outsAt0 m c n h).2.1 (outsAt0 m c n h).2.2.1 (outsAt0 m c n h).2.2.2 := by
  intro n
  induction n with
  | zero =>
    intro h
    have e := outsAt0_A m c ⟨0, h⟩ rfl (show ¬ 0 % 8 = 7 by decide)
    dsimp only at e
    rw [e]
    dsimp only
    rw [sout_A_0, sout_A_1, sout_A_2]
    exact inv_start m c hQ hK ⟨0, h⟩ rfl
  | succ n ih =>
    intro h
    have ih' := ih (by omega)
    by_cases h0 : (n + 1) % 8 = 0
    · have e := outsAt0_A m c ⟨n + 1, h⟩ h0 (by dsimp only; omega)
      dsimp only at e
      rw [e]
      dsimp only
      rw [sout_A_0, sout_A_1, sout_A_2]
      exact inv_start m c hQ hK ⟨n + 1, h⟩ h0
    · by_cases h1 : (n + 1) % 8 = 7
      · have e := outsAt0_C m c ⟨n + 1, h⟩ h0 h1
        dsimp only at e
        rw [e]
        dsimp only
        rw [sout_C_0, sout_C_1, sout_C_2]
        exact inv_step m c hQ hK ⟨n + 1, h⟩ ⟨n, by omega⟩ h0 rfl ih'
      · have e := outsAt0_B m c ⟨n + 1, h⟩ h0 h1
        dsimp only at e
        rw [e]
        dsimp only
        rw [sout_B_0, sout_B_1, sout_B_2]
        exact inv_step m c hQ hK ⟨n + 1, h⟩ ⟨n, by omega⟩ h0 rfl ih'

/-! ## The result -/

/-- Eight blocks of 1024 keys are the 8192 keys. -/
def keyEquiv : Fin 8 × Fin 1024 ≃ Fin 8192 := finProdFinEquiv

theorem keyEquiv_apply (p : Fin 8 × Fin 1024) : keyEquiv p = keyToken p.1.val p.2 := by
  refine Fin.ext ?_
  show p.2.val + 1024 * p.1.val = p.1.val % 8 * 1024 + p.2.val
  omega

/-- The running softmax over the whole run is the attention. -/
theorem quotient_run {t : Fin cfg0.N} (ht : t.val % 8 = 7) {m8 l8 a8 : Vec Ideal S4x512x128 .f32} (h : Inv m c t m8 l8 a8)
    (g : Fin 4) (r : Fin 512) (d : Fin 128) :
    Ideal.div (a8 (ix3 g r d)) (l8 (ix3 g r d))
      = attention (queries m c) (keys m c) (values m c) (batch t) (token t r) (head t g) d := by
  have h1 := h g r
  rw [ht] at h1
  refine (h1.quotient (N := 8) d d).trans ?_
  unfold attention
  rw [← average_equiv keyEquiv]
  simp only [keyEquiv_apply]
  rfl

/-- The attention as the array of results. -/
def resultArray : S2x8192x1024.Idx → EReal := fun y =>
  attention (queries m c) (keys m c) (values m c) (y 0) (y 1)
    (⟨(y 2).val / 128, by have : (y 2).val < 1024 := (y 2).isLt; omega⟩ : Fin 8) (⟨(y 2).val % 128, Nat.mod_lt _ (by decide)⟩ : Fin 128)

/-- What the last point of a run stores. -/
theorem out_last (hQ : Finite (queries m c)) (hK : Finite (keys m c)) (t : Fin cfg0.N) (ht : t.val % 8 = 7) (r : Fin 512) (g : Fin 4) (d : Fin 128) :
    (outsAt0 m c t.val t.isLt).1 (ix3 (0 : Fin 1) r (⟨128 * g.val + d.val, by omega⟩ : Fin 512))
      = attention (queries m c) (keys m c) (values m c) (batch t) (token t r) (head t g) d := by
  have h0 : ¬ t.val % 8 = 0 := by omega
  rw [outsAt0_C m c t h0 ht]
  dsimp only
  rw [out_C]
  refine quotient_run m c ht (inv_step m c hQ hK t ⟨t.val - 1, by have := t.isLt; omega⟩ h0 rfl (inv_all m c hQ hK (t.val - 1) _)) g r d

/-- The result's blocks are written back at the last point of each run. -/
theorem flush_last : ∀ t : Fin cfg0.N, (cfg0.win 3).flush t = true → t.val % 8 = 7 :=
  (by decide +kernel : ∀ t : Fin grid0.N, win0_3.flush t = true → t.val % 8 = 7)

/-- The attention array at the place of a block's element. -/
theorem resultArray_emb (t : Fin cfg0.N) (r : Fin 512) (g : Fin 4) (d : Fin 128) :
    resultArray m c ((win0_3.blk t).view.emb (ix3 (0 : Fin 1) r (⟨128 * g.val + d.val, by omega⟩ : Fin 512)))
      = attention (queries m c) (keys m c) (values m c) (batch t) (token t r) (head t g) d := by
  have h0 : ∀ a, (((win0_3.blk t).view.emb (ix3 (0 : Fin 1) r (⟨128 * g.val + d.val, by omega⟩ : Fin 512))) a : ℕ)
      = ((ix3 (batch t) (token t r) (qcol (head t g) d) : S2x8192x1024.Idx) a : ℕ) := by
    intro a
    fin_cases a <;> blk_simp [index_3] <;> simp [ix3, batch, token, head, qcol] <;> omega
  rw [show (win0_3.blk t).view.emb (ix3 (0 : Fin 1) r (⟨128 * g.val + d.val, by omega⟩ : Fin 512))
    = (ix3 (batch t) (token t r) (qcol (head t g) d) : S2x8192x1024.Idx) from funext fun a => Fin.ext (h0 a)]
  unfold resultArray
  have hd := d.isLt
  congr 1
  · exact Fin.ext (show (128 * (head t g).val + d.val) / 128 = (head t g).val by omega)
  · exact Fin.ext (show (128 * (head t g).val + d.val) % 128 = d.val by omega)

/-- The result array after the run. -/
theorem final (hQ : Finite (queries m c)) (hK : Finite (keys m c)) : (dats m 0 c).arrAt 3 cfg0.N = resultArray m c := by
  refine (dats m 0 c).arrAt_eq_of_covers 3 _ (by decide +kernel) fun t hf y => ?_
  blk_simp
  rw [after0_3]
  have hy : ∃ (r : Fin 512) (g : Fin 4) (d : Fin 128),
      (y : S1x512x512.Idx) = ix3 (0 : Fin 1) r (⟨128 * g.val + d.val, by omega⟩ : Fin 512) := by
    have h2 : ((y : S1x512x512.Idx) 2).val < 512 := ((y : S1x512x512.Idx) 2).isLt
    refine ⟨(y : S1x512x512.Idx) 1, ⟨((y : S1x512x512.Idx) 2).val / 128, by omega⟩,
      ⟨((y : S1x512x512.Idx) 2).val % 128, Nat.mod_lt _ (by decide)⟩, ?_⟩
    refine (eq_ix3 (y : S1x512x512.Idx)).trans ?_
    rw [show (y : S1x512x512.Idx) 0 = (0 : Fin 1) from Subsingleton.elim (α := Fin 1) _ _]
    refine congrArg (ix3 (0 : Fin 1) _) (Fin.ext ?_)
    show ((y : S1x512x512.Idx) 2).val = 128 * (((y : S1x512x512.Idx) 2).val / 128) + ((y : S1x512x512.Idx) 2).val % 128
    omega
  obtain ⟨r, g, d, e⟩ := hy
  have e1 := out_last m c hQ hK t (flush_last t hf) r g d
  have e2 := resultArray_emb m c t r g d
  rw [← e] at e1 e2
  exact e1.trans e2.symm

end Cert.KernelIdeal.Value
-- ==== Proof.Reference.lean ====
/-
  The reference's result, operation by operation: it is the attention.
-/
module

public import proofs.«01_k».proof.Proof.Attention
public import proofs.«01_k».proof.Proof.Gen.ReferenceIdeal
public import proofs.«01_k».proof.Proof.Gen.ReferenceIdeal.Read

@[expose] public section

noncomputable section

open Idealize.ShloMosaic Idealize.ShloMosaic.ValueIdx Idealize.SL.Sem

namespace Cert.ReferenceIdeal.Read

open Cert.ReferenceIdeal Cert.ReferenceIdeal.Gen Cert.Softmax Cert.Attention

variable (x0 : Queries) (x1 x2 : Keys)

/-- Query head `g` of the four that share head `k` of keys and values. -/
def qhead (k : Fin 2) (g : Fin 4) : Fin 8 := ⟨4 * k.val + g.val, by omega⟩

/-- The scores. -/
theorem scores_apply (b : Fin 2) (k : Fin 2) (g : Fin 4) (s j : Fin 8192) :
    val_main_v7 (F := Ideal) x0 x1 (ix5 b k g s j) = score x0 x1 b s (qhead k g) j := by
  rw [val_main_v7_apply, val_main_v6_apply]
  unfold score
  refine Finset.sum_congr rfl fun d _ => ?_
  rw [val_main_v3_apply, val_main_v1_apply, val_main_v2_apply, val_main_v0_apply, mul_comm]
  refine congrArg₂ (fun x y : EReal => x * y) (congrArg x0 ?_) (congrArg x1 ?_)
  · refine funext fun a => Fin.ext ?_
    fin_cases a
    all_goals simp [ix3, ix5, qcol, qhead]
    all_goals omega
  · refine funext fun a => Fin.ext ?_
    fin_cases a
    all_goals simp [ix3, ix5, kcol, qhead]
    all_goals omega

/-- The row maximum is a real number. -/
theorem max_real (hQ : Finite x0) (hK : Finite x1) (b : Fin 2) (k : Fin 2) (g : Fin 4) (s : Fin 8192) :
    ∃ M : ℝ, val_main_v10 (F := Ideal) x0 x1 (ix4 b k g s) = M := by
  obtain ⟨M, hM⟩ := fold_max_real (realScore x0 x1 b s (qhead k g))
  have hb : FloatOps.ofBits (F := Ideal) .f32 0xFF800000#32 = (⊥ : EReal) := by simp [Ideal.ofBits, Ideal.ieee]
  refine ⟨M, ?_⟩
  rw [val_main_v10_apply, val_main_v9_apply, val_main_cst_0_apply, hb]
  refine (max_bot_left _).trans ?_
  unfold val_main_v8
  have hr : S2x2x4x8192x8192.Reduces [4] S2x2x4x8192 := by decide
  refine (Host.reduce_eq_fold_single (f := (max : EReal → EReal → EReal)) _ _ _ hr _ _).trans ?_
  rw [val_main_cst_apply, hb, ← hM]
  refine Finset.fold_congr fun j _ => ?_
  have e : ∀ j : Fin 8192, ((realScore x0 x1 b s (qhead k g) j : ℝ) : EReal) = val_main_v7 (F := Ideal) x0 x1 (ix5 b k g s j) :=
    fun j => ((scores_apply x0 x1 b k g s j).trans (score_real hQ hK b s (qhead k g) j)).symm
  refine Eq.trans ?_ (e j).symm
  refine congrArg (val_main_v7 (F := Ideal) x0 x1) ?_
  funext a
  fin_cases a <;> rfl

/-- The shifted exponentials. -/
theorem exps_apply (hQ : Finite x0) (hK : Finite x1) {b : Fin 2} {k : Fin 2} {g : Fin 4} {s : Fin 8192} {M : ℝ}
    (hM : val_main_v10 (F := Ideal) x0 x1 (ix4 b k g s) = M) (j : Fin 8192) :
    val_main_v14 (F := Ideal) x0 x1 (ix5 b k g s j) = (Real.exp (realScore x0 x1 b s (qhead k g) j - M) : ℝ) := by
  have hi : idx_main_v11 (idx_main_v12 (ix5 b k g s j)) = ix4 b k g s := by
    funext a
    fin_cases a <;> rfl
  rw [val_main_v14_apply, val_main_v13_apply, val_main_v12_apply, val_main_v11_apply, hi, hM, scores_apply, score_real hQ hK]
  show Ideal.exp ((realScore x0 x1 b s (qhead k g) j : EReal) - (M : EReal)) = _
  rw [← EReal.coe_sub, Ideal.exp_coe]

/-- Their sum. -/
theorem sums_apply (hQ : Finite x0) (hK : Finite x1) {b : Fin 2} {k : Fin 2} {g : Fin 4} {s : Fin 8192} {M : ℝ}
    (hM : val_main_v10 (F := Ideal) x0 x1 (ix4 b k g s) = M) :
    val_main_v15 (F := Ideal) x0 x1 (ix4 b k g s) = ((∑ j, Real.exp (realScore x0 x1 b s (qhead k g) j - M) : ℝ) : EReal) := by
  have h0 : FloatOps.ofBits (F := Ideal) .f32 0x00000000#32 = (0 : EReal) := Ideal.ofBits_zero_f32
  rw [val_main_v15_apply, val_main_cst_1_apply, h0, zero_add, coe_sum]
  refine Finset.sum_congr rfl fun j _ => ?_
  rw [← exps_apply x0 x1 hQ hK hM]
  refine congrArg (val_main_v14 (F := Ideal) x0 x1) ?_
  funext a
  fin_cases a <;> rfl

/-- The weighted sum of the values, before the last transposition. -/
theorem mixed_apply (hQ : Finite x0) (hK : Finite x1) (b : Fin 2) (k : Fin 2) (d : Fin 128) (g : Fin 4) (s : Fin 8192) :
    val_main_v19 (F := Ideal) x0 x1 x2 (ix5 b k d g s) = attention x0 x1 x2 b s (qhead k g) d := by
  obtain ⟨M, hM⟩ := max_real x0 x1 hQ hK b k g s
  rw [val_main_v19_apply]
  unfold attention
  rw [← average_of_weights _ _ M]
  refine Finset.sum_congr rfl fun j _ => ?_
  have hi : ridx_main_v19 (ix5 b k d g s) j = ix5 b k g s j := by
    funext a
    fin_cases a <;> rfl
  have hi' : idx_main_v16 (idx_main_v17 (ix5 b k g s j)) = ix4 b k g s := by
    funext a
    fin_cases a <;> rfl
  rw [hi, val_main_v18_apply, exps_apply x0 x1 hQ hK hM, val_main_v17_apply, val_main_v16_apply, hi', sums_apply x0 x1 hQ hK hM,
    val_main_v5_apply, val_main_v4_apply]
  refine congrArg₂ (fun x y : EReal => x * y) (congrArg x2 ?_) rfl
  refine funext fun a => Fin.ext ?_
  fin_cases a
  all_goals simp [ix3, ix5, kcol, qhead]
  all_goals omega

/-- The reference's result. -/
theorem result_apply (hQ : Finite x0) (hK : Finite x1) (b : Fin 2) (s : Fin 8192) (p : Fin 1024) :
    val_main_v21 (F := Ideal) x0 x1 x2 (ix3 b s p)
      = attention x0 x1 x2 b s (⟨p.val / 128, by omega⟩ : Fin 8) (⟨p.val % 128, Nat.mod_lt _ (by decide)⟩ : Fin 128) := by
  have hh : (⟨p.val / 128, by omega⟩ : Fin 8) = qhead (⟨p.val / 512, by omega⟩ : Fin 2) (⟨p.val / 128 % 4, by omega⟩ : Fin 4) :=
    Fin.ext (show p.val / 128 = 4 * (p.val / 512) + p.val / 128 % 4 by omega)
  rw [hh, ← mixed_apply x0 x1 x2 hQ hK, val_main_v21_apply, val_main_v20_apply]
  refine congrArg (val_main_v19 (F := Ideal) x0 x1 x2) ?_
  refine funext fun a => Fin.ext ?_
  fin_cases a
  all_goals simp [ix3, ix5]
  all_goals omega

end Cert.ReferenceIdeal.Read
-- ==== Proof.AttentionClaims.lean ====
/-
  The claims about the attention call: what the precondition says over the extended reals, the reference's frame, and
  that the kernel and the reference end with the same array.
-/
module

public import proofs.«01_k».proof.Defs
public import proofs.«01_k».proof.Proof.Blocks
public import proofs.«01_k».proof.Proof.Reference
public import proofs.«01_k».proof.Proof.Gen.KernelIdeal.Frame
public import proofs.«01_k».proof.Proof.Gen.ReferenceIdeal.Run

@[expose] public section

noncomputable section

namespace Cert.Attention

open Idealize.ShloMosaic Idealize.ShloMosaic.ValueIdx Idealize.SL.Sem

/-- The operations of the precondition fit the shapes they are taken at. -/
theorem pre_facts : Cert.Pre_finite_queries_and_keys.Facts := ⟨by decide, by decide, by decide⟩

/-- A number whose absolute value is below infinity lies strictly between the infinities. -/
theorem finite_of_abs_lt {x : EReal} (h : FloatOps.cmpf (F := Ideal) (φ := .f32) .olt (FloatOps.hostAbsf (F := Ideal) (φ := .f32) x)
    (FloatOps.ofBits (F := Ideal) .f32 0x7F800000#32) = 1#1) : ⊥ < x ∧ x < ⊤ := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  obtain ⟨h1, h2⟩ := max_lt_iff.mp hlt
  refine ⟨?_, h1⟩
  rw [bot_lt_iff_ne_bot]
  rintro rfl
  simp at h2

/-- Under the precondition the kernel's queries are finite. -/
theorem finite_queries (m : (ℓ : Loc Cert.KernelIdeal.nD Cert.KernelIdeal.τ Cert.KernelIdeal.sig) → Buf (Elt Ideal) ℓ)
    (h : Cert.Pre_KernelIdeal_finite_queries_and_keys (hPre_finite_queries_and_keys := pre_facts) m) (c : Dev Cert.KernelIdeal.nD) :
    Finite (Cert.KernelIdeal.Value.queries m c) := fun i =>
  finite_of_abs_lt (congrFun (h c).1 i)

/-- And so are its keys. -/
theorem finite_keys (m : (ℓ : Loc Cert.KernelIdeal.nD Cert.KernelIdeal.τ Cert.KernelIdeal.sig) → Buf (Elt Ideal) ℓ)
    (h : Cert.Pre_KernelIdeal_finite_queries_and_keys (hPre_finite_queries_and_keys := pre_facts) m) (c : Dev Cert.KernelIdeal.nD) :
    Finite (Cert.KernelIdeal.Value.keys m c) := fun i =>
  finite_of_abs_lt (congrFun (h c).2 i)

/-- The reference's run leaves its arguments as they were; it has no semaphore to leave raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference, launched on the same finite queries and keys and on the same values, both end with the
    attention. -/
theorem equal : Cert.algebraic_KernelIdeal_ReferenceIdeal_pre_finite_queries_and_keys (hKernelIdeal := Cert.KernelIdeal.Gen.facts)
    (hReferenceIdeal := Cert.ReferenceIdeal.Gen.facts) (hPre_finite_queries_and_keys := pre_facts) := by
  intro m g m' g' hpre hagree
  refine ⟨fun c => Cert.KernelIdeal.Value.resultArray m c, ?_, ?_⟩
  · exact (θ_run Cert.KernelIdeal.defs _ _).mono
      (fun r h c => ⟨((h c).1).trans (Cert.KernelIdeal.Value.final m c (finite_queries m hpre c) (finite_keys m hpre c)), (h c).2⟩)
      (Cert.KernelIdeal.Value.run_blocks (F := Ideal) m g)
  · refine (θ_run Cert.ReferenceIdeal.defs _ _).mono (fun r h c => ⟨((h c).1).trans ?_, (h c).2⟩)
      (Cert.ReferenceIdeal.Value.run (F := Ideal) m' g')
    rw [(hagree c).1, (hagree c).2.1, (hagree c).2.2]
    refine (Cert.ReferenceIdeal.Read.val_main_v21_eq (F := Ideal) _ _ _).trans ?_
    funext y
    refine (congrArg _ (eq_ix3 y)).trans ?_
    exact Cert.ReferenceIdeal.Read.result_apply _ _ _ (finite_queries m hpre c) (finite_keys m hpre c) (y 0) (y 1) (y 2)

end Cert.Attention

end
-- ==== Proof.Rows.lean ====
/-
  The row quantities that the layer's calls share: a row scaled to unit mean square, and how a program that computes it on
  a block of rows reads at an index.
-/
module

public import Idealize.ShloMosaic.PureOps
public import Idealize.ShloMosaic.PureOps.Ideal.Laws
public import Idealize.ShloMosaic.Lib.Pipeline.Value
public import Idealize.ShloMosaic.Lib.Pipeline.ValueKit.Tiles
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Tactic

@[expose] public section

noncomputable section

open Idealize.ShloMosaic Idealize.ShloMosaic.ValueIdx

namespace Cert.Rows

/-- The number a 32-bit float word stands for. -/
abbrev word (b : BitVec 32) : EReal := Ideal.ofBits .f32 b

/-- Entry `j` of the row `f` divided by the square root of its mean square (`N` is the word of its length) plus the small
    constant. -/
def norm {n : ℕ} (N : BitVec 32) (f : Fin n → EReal) (j : Fin n) : EReal :=
  f j * Ideal.rsqrt (Ideal.div (∑ k, f k * f k) (word N) + word 0x358637BD#32)

/-- A column repeated over the lanes reads its row. -/
theorem column_apply {a b : ℕ} (v : (⟨2, ![a, 1]⟩ : Shape).Idx → EReal) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The row sum of the squares of a block. -/
theorem squares_apply {a b : ℕ} (v : FVec Ideal (⟨2, ![a, b]⟩ : Shape) .f32)
    (hr : (⟨2, ![a, b]⟩ : Shape).Reduces [1] ⟨1, ![a]⟩) (r : Fin a) :
    multiReduction .add [1] ⟨1, ![a]⟩ (mulf v v) 0x00000000#32 hr (.inl rfl) rfl (ix1 r) = ∑ k : Fin b, v (ix2 r k) * v (ix2 r k) := by
  refine (Ideal.multiReduction_add_single _ _ _ _ _ _).trans ?_
  refine Finset.sum_congr rfl fun k _ => ?_
  refine (congrArg (mulf v v) (?_ : _ = ix2 r k)).trans rfl
  exact Shape.idx_ext₂ rfl rfl

/-- The kernels' normalisation of a block of rows, read at an index. -/
theorem norm_apply {a b : ℕ} (N : BitVec 32) (v : FVec Ideal (⟨2, ![a, b]⟩ : Shape) .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (r : Fin a) (j : Fin b) :
    mulf v (broadcastTo ⟨2, ![a, b]⟩ (rsqrt (addf (divf (shapeCast ⟨2, ![a, 1]⟩
      (multiReduction .add [1] ⟨1, ![a]⟩ (mulf v v) 0x00000000#32 hr (.inl rfl) rfl) hc)
        (broadcast ⟨2, ![a, 1]⟩ (Scalar.ofBits .f32 N))) (broadcast ⟨2, ![a, 1]⟩ (Scalar.ofBits .f32 0x358637BD#32)))) hb) (ix2 r j)
      = norm N (fun k => v (ix2 r k)) j := by
  refine congrArg (fun z : EReal => v (ix2 r j) * z) ((column_apply _ hb r j).trans ?_)
  refine congrArg (fun z : EReal => Ideal.rsqrt (Ideal.div z (word N) + word 0x358637BD#32)) ?_
  exact (shapeCast_a_a1_apply _ hc _ _).trans (squares_apply v hr r)

/-- The same quantity as the references print it: the sum of squares is started at the word of zero. -/
theorem norm_of {n : ℕ} (N : BitVec 32) (f s : Fin n → EReal) (j : Fin n) (hs : ∀ k, s k = f k * f k) :
    f j * Ideal.rsqrt (Ideal.div (word 0x00000000#32 + ∑ k, s k) (word N) + word 0x358637BD#32) = norm N f j := by
  unfold norm
  rw [show word 0x00000000#32 = 0 from Ideal.ofBits_zero_f32, zero_add, Finset.sum_congr rfl fun k _ => hs k]

/-- A choice by the equality of two small words is the choice by the equality of the numbers. -/
theorem select_eq {α : Type} {a b : ℕ} (ha : a < 2 ^ 32) (hb : b < 2 ^ 32) (x y : α) :
    Scalar.select (Scalar.cmpi .eq (BitVec.ofNat 32 a) (BitVec.ofNat 32 b)) x y = if a = b then x else y := by
  by_cases h : a = b
  · subst h
    simp [Scalar.select, Scalar.cmpi, IntOp.cmpi]
  · have h0 : BitVec.ofNat 32 a ≠ BitVec.ofNat 32 b := by
      intro e
      have := congrArg BitVec.toNat e
      simp only [BitVec.toNat_ofNat] at this
      omega
    have h1 : (BitVec.ofNat 32 a == BitVec.ofNat 32 b) = false := beq_eq_false_iff_ne.mpr h0
    simp [Scalar.select, Scalar.cmpi, IntOp.cmpi, h, h1]

end Cert.Rows

end
-- ==== Proof.Mix.lean ====
/-
  The mixing of the three branches, as mathematics: every branch's rows are scaled to unit mean square and gated, the
  branches are laid side by side and multiplied into the output weight, and the sum with the residual is scaled again.
-/
module

public import proofs.«01_k».proof.Proof.Rows

@[expose] public section

noncomputable section

open Idealize.ShloMosaic Idealize.ShloMosaic.ValueIdx

namespace Cert.Mix

open Cert.Rows

/-- An array of `a` rows of `b` numbers. -/
abbrev Mat (a b : ℕ) := (⟨2, ![a, b]⟩ : Shape).Idx → EReal

/-- The row before row `T` in its sequence of 8192, zero before the first. -/
def before (h : Mat 16384 512) (T : Fin 16384) (j : Fin 512) : EReal :=
  if T.val % 8192 = 0 then 0 else h (ix2 (⟨(T.val + 16383) % 16384, Nat.mod_lt _ (by decide)⟩ : Fin 16384) j)

/-- The row after row `T` in its sequence of 8192, zero after the last. -/
def after (h : Mat 16384 512) (T : Fin 16384) (j : Fin 512) : EReal :=
  if T.val % 8192 = 8191 then 0 else h (ix2 (⟨(T.val + 1) % 16384, Nat.mod_lt _ (by decide)⟩ : Fin 16384) j)

/-- The depthwise convolution of width three, gated. -/
def conv (h cb : Mat 16384 512) (cw : Mat 3 512) (T : Fin 16384) (j : Fin 512) : EReal :=
  cb (ix2 T j) * (before h T j * cw (ix2 (0 : Fin 3) j) + h (ix2 T j) * cw (ix2 (1 : Fin 3) j) + after h T j * cw (ix2 (2 : Fin 3) j))

/-- The three branches side by side. -/
def mixed (oa ga : Mat 16384 1024) (h cb gc os gs : Mat 16384 512) (cw : Mat 3 512) (bw : Mat 1 2048) (T : Fin 16384)
    (e : Fin 2048) : EReal :=
  if h₁ : e.val < 1024 then
    norm 0x44800000#32 (fun k : Fin 1024 => oa (ix2 T k)) ⟨e.val, h₁⟩ * bw (ix2 (0 : Fin 1) e) * ga (ix2 T (⟨e.val, h₁⟩ : Fin 1024))
  else if h₂ : e.val < 1536 then
    norm 0x44000000#32 (conv h cb cw T) ⟨e.val - 1024, by omega⟩ * bw (ix2 (0 : Fin 1) e)
      * gc (ix2 T (⟨e.val - 1024, by omega⟩ : Fin 512))
  else
    norm 0x44000000#32 (fun k : Fin 512 => os (ix2 T k)) ⟨e.val - 1536, by omega⟩ * bw (ix2 (0 : Fin 1) e)
      * gs (ix2 T (⟨e.val - 1536, by omega⟩ : Fin 512))

/-- The residual and the mixed branches' product with the output weight. -/
def summed (x : Mat 16384 2048) (mx : Fin 16384 → Fin 2048 → EReal) (w : Mat 2048 2048) (T : Fin 16384) (j : Fin 2048) : EReal :=
  x (ix2 T j) + ∑ e : Fin 2048, mx T e * w (ix2 e j)

/-- The call's result. -/
def result (x : Mat 16384 2048) (oa ga : Mat 16384 1024) (h cb gc os gs : Mat 16384 512) (cw : Mat 3 512) (bw : Mat 1 2048)
    (w : Mat 2048 2048) (fw : Mat 1 2048) (T : Fin 16384) (j : Fin 2048) : EReal :=
  norm 0x45000000#32 (summed x (mixed oa ga h cb gc os gs cw bw) w T) j * fw (ix2 (0 : Fin 1) j)

end Cert.Mix

end
-- ==== Proof.MixStep.lean ====
/-
  What one grid point of the mixing kernel computes from its blocks, read at an index.
-/
module

public import proofs.«01_k».proof.Proof.Mix
public import proofs.«01_k».proof.Proof.Gen.Kernel2Ideal.Skeleton
public import Idealize.ShloMosaic.Lib.KernelVsHost

@[expose] public section

noncomputable section

open Idealize.ShloMosaic Idealize.ShloMosaic.ValueIdx Idealize.SL.Sem

namespace Cert.Kernel2Ideal.Value

open Cert.Kernel2Ideal Cert.Kernel2Ideal.Gen Cert.Rows Cert.Mix

/-- The attention branch's part of the mixed rows. -/
theorem pay2_apply (v0 : Vec Ideal S512x1024 .f32) (v11 : Vec Ideal S1x1024 .f32) (v14 : Vec Ideal S512x1024 .f32) (r : Fin 512) (j : Fin 1024) :
    k0_pay2 v0 v11 v14 (ix2 r j) = norm 0x44800000#32 (fun k : Fin 1024 => v0 (ix2 r k)) j * v11 (ix2 (0 : Fin 1) j) * v14 (ix2 r j) := by
  unfold k0_pay2
  dsimp only
  rw [shapeCast_self, truncf_apply]
  refine congrArg₂ (fun x y : EReal => x * y) ?_ rfl
  exact congrArg₂ (fun x y : EReal => x * y) (norm_apply _ _ _ _ _ _ _) (broadcastTo_1b_ab_apply _ _ _ _)

/-- The spatial branch's part. -/
theorem pay6_apply (v84 : Vec Ideal S512x512 .f32) (v95 : Vec Ideal S1x512 .f32) (v98 : Vec Ideal S512x512 .f32) (r j : Fin 512) :
    k0_pay6 v84 v95 v98 (ix2 r j) = norm 0x44000000#32 (fun k : Fin 512 => v84 (ix2 r k)) j * v95 (ix2 (0 : Fin 1) j) * v98 (ix2 r j) := by
  unfold k0_pay6
  dsimp only
  rw [shapeCast_self, truncf_apply]
  refine congrArg₂ (fun x y : EReal => x * y) ?_ rfl
  exact congrArg₂ (fun x y : EReal => x * y) (norm_apply _ _ _ _ _ _ _) (broadcastTo_1b_ab_apply _ _ _ _)

/-- The convolution's part, from its scaled rows. -/
theorem pay5_apply (v74 : Vec Ideal S512x512 .f32) (v75 : Vec Ideal S1x512 .f32) (v78 : Vec Ideal S512x512 .f32) (r j : Fin 512) :
    k0_pay5 v74 v75 v78 (ix2 r j) = v74 (ix2 r j) * v75 (ix2 (0 : Fin 1) j) * v78 (ix2 r j) := by
  unfold k0_pay5
  rw [shapeCast_self, truncf_apply]
  refine congrArg₂ (fun x y : EReal => x * y) ?_ rfl
  exact congrArg (fun y : EReal => v74 (ix2 r j) * y) (broadcastTo_1b_ab_apply _ _ _ _)

/-- The residual and the product with the output weight. -/
theorem pay7_apply (v104 : Vec Ideal S512x2048 .f32) (v105 : Vec Ideal S512x2048 .bf16) (v106 : Vec Ideal S2048x2048 .bf16) (r : Fin 512) (j : Fin 2048) :
    k0_pay7 v104 v105 v106 (ix2 r j) = v104 (ix2 r j) + ∑ e : Fin 2048, v105 (ix2 r e) * v106 (ix2 e j) := by
  unfold k0_pay7
  rw [addf_apply]
  refine congrArg (fun y : EReal => v104 (ix2 r j) + y) ?_
  simp only [matmul]
  rw [Ideal.matmul_constant_zero_apply, ← (contrEquiv1 dot_S512x2048_S2048x2048_S512x2048_1_0_0_1_n_n 2048 rfl rfl).sum_comp]
  refine Finset.sum_congr rfl fun e _ => ?_
  exact congrArg₂ (fun x y : EReal => x * y) (congrArg v105 (Shape.idx_ext₂ rfl rfl)) (congrArg v106 (Shape.idx_ext₂ rfl rfl))

/-- What the point stores. -/
theorem pay1_apply (v104 : Vec Ideal S512x2048 .f32) (v105 : Vec Ideal S512x2048 .bf16) (v106 : Vec Ideal S2048x2048 .bf16)
    (v119 : Vec Ideal S1x2048 .f32) (r : Fin 512) (j : Fin 2048) :
    k0_pay1 (k0_pay7 v104 v105 v106) (k0_pay8 v104 v105 v106) v119 (ix2 r j)
      = norm 0x45000000#32 (fun k : Fin 2048 => k0_pay7 v104 v105 v106 (ix2 r k)) j * v119 (ix2 (0 : Fin 1) j) := by
  unfold k0_pay1 k0_pay8
  dsimp only
  exact congrArg₂ (fun x y : EReal => x * y) (norm_apply _ _ _ _ _ _ _) (broadcastTo_1b_ab_apply _ _ _ _)

/-- The tile's number within its sequence, as the word the kernel computes. -/
def tileWord (n : ℕ) : BitVec 32 :=
  Scalar.select (Scalar.andi (Scalar.xori (Scalar.cmpi .slt (Scalar.remsi (BitVec.ofNat 32 n)
      (Scalar.select (Scalar.cmpi .eq (16#32 : BitVec 32) 0#32) 1#32 16#32)) 0#32)
      (Scalar.cmpi .slt (Scalar.select (Scalar.cmpi .eq (16#32 : BitVec 32) 0#32) 1#32 16#32) (0#32 : BitVec 32)))
      (Scalar.cmpi .ne (Scalar.remsi (BitVec.ofNat 32 n) (Scalar.select (Scalar.cmpi .eq (16#32 : BitVec 32) 0#32) 1#32 16#32)) 0#32))
    (Scalar.addi (Scalar.remsi (BitVec.ofNat 32 n) (Scalar.select (Scalar.cmpi .eq (16#32 : BitVec 32) 0#32) 1#32 16#32))
      (Scalar.select (Scalar.cmpi .eq (16#32 : BitVec 32) 0#32) 1#32 16#32))
    (Scalar.remsi (BitVec.ofNat 32 n) (Scalar.select (Scalar.cmpi .eq (16#32 : BitVec 32) 0#32) 1#32 16#32))

theorem tileWord_eq : ∀ n : Fin 32, tileWord n.val = BitVec.ofNat 32 (n.val % 16) := by decide +kernel

/-- The row above the tile: zero at the start of a sequence. -/
theorem pay3_apply (i : grid0.Coords) (v32 : Vec Ideal S1x512 .f32) (j : Fin 512) :
    k0_pay3 i v32 (ix2 (0 : Fin 1) j) = if (i 0).val % 16 = 0 then 0 else v32 (ix2 (0 : Fin 1) j) := by
  have hi : (i 0).val < 32 := (i 0).isLt
  have hw := tileWord_eq ⟨(i 0).val, hi⟩
  have hz : FloatOps.ofBits (F := Ideal) .f32 0x00000000#32 = (0 : EReal) := Ideal.ofBits_zero_f32
  unfold k0_pay3
  dsimp only
  change Scalar.select (Scalar.cmpi .eq (tileWord (i 0).val) 0#32) (broadcast S1x512 (Scalar.ofBits (F := Ideal) .f32 0x00000000#32) : S1x512.Idx → EReal) v32 _ = _
  dsimp only at hw
  rw [hw]
  refine (congrFun (select_eq (by omega) (by decide : 0 < 2 ^ 32) _ _) _).trans ?_
  by_cases h : (i 0).val % 16 = 0
  · rw [if_pos h, if_pos h]
    exact hz
  · rw [if_neg h, if_neg h]

/-- The two taps beside the row itself and the row, weighted, gated and scaled. -/
theorem pay4_apply (v20 : Vec Ideal S512x512 .f32) (n : Fin 32) (v34 v36 : Vec Ideal S1x512 .f32) (v52 : Vec Ideal S512x512 .f32)
    (v53 v56 v60 : Vec Ideal S1x512 .f32) (r j : Fin 512) :
    k0_pay4 v20 (tileWord n.val) v34 v36 v52 v53 v56 v60 (ix2 r j)
      = norm 0x44000000#32 (fun k : Fin 512 => v52 (ix2 r k)
          * ((if r.val = 0 then v34 (ix2 (0 : Fin 1) k) else v20 (ix2 (⟨(r.val + 511) % 512, Nat.mod_lt _ (by decide)⟩ : Fin 512) k)) * v53 (ix2 (0 : Fin 1) k)
            + v20 (ix2 r k) * v56 (ix2 (0 : Fin 1) k)
            + (if r.val = 511 then (if n.val % 16 = 15 then 0 else v36 (ix2 (0 : Fin 1) k))
                else v20 (ix2 (⟨(r.val + 1) % 512, Nat.mod_lt _ (by decide)⟩ : Fin 512) k)) * v60 (ix2 (0 : Fin 1) k))) j := by
  have hz : FloatOps.ofBits (F := Ideal) .f32 0x00000000#32 = (0 : EReal) := Ideal.ofBits_zero_f32
  unfold k0_pay4
  dsimp only
  refine (norm_apply _ _ _ _ _ _ _).trans ?_
  congr 1
  funext k
  rw [mulf_apply, addf_apply, addf_apply, mulf_apply, mulf_apply, mulf_apply, broadcastTo_1b_ab_apply, broadcastTo_1b_ab_apply,
    broadcastTo_1b_ab_apply, shapeCast_self, shapeCast_self]
  have hsel : ∀ (b : ℕ) (hb : b < 512) (x y : Vec Ideal S512x512 .f32),
      select (cmpi .eq (iota .tc S512x512 32 [0] iota_S512x512_d0_w32) (broadcast S512x512 (BitVec.ofNat 32 b))) x y (ix2 r k)
        = if r.val = b then x (ix2 r k) else y (ix2 r k) := by
    intro b hb x y
    have hr := r.isLt
    show Scalar.select (Scalar.cmpi .eq (BitVec.ofNat 32 (0 * 512 + r.val)) (BitVec.ofNat 32 b)) (x (ix2 r k)) (y (ix2 r k)) = _
    rw [Nat.zero_mul, Nat.zero_add]
    exact select_eq (by omega) (by omega) _ _
  rw [hsel 0 (by decide), hsel 511 (by decide), broadcastTo_1b_ab_apply, broadcastTo_1b_ab_apply]
  rw [dynamicRotate_apply (0 : Fin 2) 1#32 v20 _ (ix2 r k) (ix2 (⟨(r.val + 511) % 512, Nat.mod_lt _ (by decide)⟩ : Fin 512) k)
      (by intro b; fin_cases b <;> simp [ix2]),
    dynamicRotate_apply (0 : Fin 2) 511#32 v20 _ (ix2 r k) (ix2 (⟨(r.val + 1) % 512, Nat.mod_lt _ (by decide)⟩ : Fin 512) k)
      (by intro b; fin_cases b <;> simp [ix2])]
  have hlast : Scalar.select (Scalar.cmpi .eq (tileWord n.val) 15#32) (broadcast S1x512 (Scalar.ofBits (F := Ideal) .f32 0x00000000#32)
      : S1x512.Idx → EReal) v36 (ix2 (0 : Fin 1) k) = if n.val % 16 = 15 then 0 else v36 (ix2 (0 : Fin 1) k) := by
    rw [tileWord_eq]
    refine (congrFun (select_eq (by omega) (by decide : 15 < 2 ^ 32) _ _) _).trans ?_
    by_cases h : n.val % 16 = 15
    · rw [if_pos h, if_pos h]
      exact hz
    · rw [if_neg h, if_neg h]
  rw [← hlast]

end Cert.Kernel2Ideal.Value

end
-- ==== Proof.Views.lean ====
/-
  Loads and stores of parts of two-dimensional blocks, read at an index.
-/
module

public import Idealize.ShloMosaic.PureOps
public import Idealize.ShloMosaic.Lib.Pipeline.Value
public import Idealize.ShloMosaic.Lib.Pipeline.ValueKit.Tiles
public import Idealize.ShloMosaic.Lib.ValueIdx
public import Idealize.ShloMosaic.Lib.Tactic

@[expose] public section

noncomputable section

open Idealize.ShloMosaic Idealize.ShloMosaic.ValueIdx

namespace Cert.Views

variable {sig : RefSig} {κ : Kind} {sp : Space} {e : EltTy} {Val : EltTy → Type} {a b : ℕ}

/-- A load of a whole block is the block. -/
theorem ld_whole (X : (⟨2, ![a, b]⟩ : Shape).Idx → Val e) (inb) :
    View.ld X (Rect.unit (s := ⟨2, ![a, b]⟩) ![0, 0] ![a, b] inb) = X :=
  View.ld_unit_zero (by funext x; fin_cases x <;> rfl) inb X

/-- A load of part of a block, read at an index. -/
theorem ld_part {p q n w : ℕ} (X : (⟨2, ![a, b]⟩ : Shape).Idx → Val e) (inb) (r : Fin n) (j : Fin w) (r' : Fin a) (j' : Fin b)
    (hr : r'.val = p + r.val) (hj : j'.val = q + j.val) :
    View.ld X (Rect.unit (s := ⟨2, ![a, b]⟩) ![p, q] ![n, w] inb) (ix2 r j) = X (ix2 r' j') := by
  refine congrArg X (funext fun x => Fin.ext ?_)
  rw [Rect.idx_unit_val]
  fin_cases x
  · simp [ix2, hr]
  · simp [ix2, hj]

variable [∀ e, Nonempty (Val e)]

/-- After a store of the whole block the block holds the stored value. -/
theorem canon_whole (inb) (w : (⟨2, ![a, b]⟩ : Shape).Idx → Val e) (L : List (View.Piece Val (⟨2, ![a, b]⟩ : Shape) e)) :
    View.canon (⟨Rect.unit (s := ⟨2, ![a, b]⟩) ![0, 0] ![a, b] inb, w⟩ :: L) = w := by
  funext y
  refine (congrArg (View.canon _) (?_ : _ = (Rect.unit (s := ⟨2, ![a, b]⟩) ![0, 0] ![a, b] inb).emb y)).trans (View.canon_cons_emb _ _ _ _)
  refine funext fun x => Fin.ext ?_
  refine ((Rect.idx_unit_val (s := ⟨2, ![a, b]⟩) _ _ inb _ _).trans ?_).symm
  fin_cases x <;> simp

/-- A store of `n` columns from column `q` on shows in those columns. -/
theorem canon_cols_hit {q n : ℕ} (inb) (w : (⟨2, ![a, n]⟩ : Shape).Idx → Val e) (L : List (View.Piece Val (⟨2, ![a, b]⟩ : Shape) e))
    (r : Fin a) (j : Fin b) (k : Fin n) (h : j.val = q + k.val) :
    View.canon (⟨Rect.unit (s := ⟨2, ![a, b]⟩) ![0, q] ![a, n] inb, w⟩ :: L) (ix2 r j) = w (ix2 r k) := by
  refine (congrArg (View.canon _) (?_ : _ = (Rect.unit (s := ⟨2, ![a, b]⟩) ![0, q] ![a, n] inb).emb (ix2 r k))).trans (View.canon_cons_emb _ _ _ _)
  refine funext fun x => Fin.ext ?_
  refine ((Rect.idx_unit_val (s := ⟨2, ![a, b]⟩) _ _ inb _ _).trans ?_).symm
  fin_cases x <;> simp [ix2, h]

/-- In every other column it does not show. -/
theorem canon_cols_skip {q n : ℕ} (inb) (w : (⟨2, ![a, n]⟩ : Shape).Idx → Val e) (L : List (View.Piece Val (⟨2, ![a, b]⟩ : Shape) e))
    (r : Fin a) (j : Fin b) (h : j.val < q ∨ q + n ≤ j.val) :
    View.canon (⟨Rect.unit (s := ⟨2, ![a, b]⟩) ![0, q] ![a, n] inb, w⟩ :: L) (ix2 r j) = View.canon (Val := Val) (e := e) L (ix2 r j) := by
  refine View.canon_cons_of_not_mem _ _ ?_
  rw [Rect.mem_set_unit]
  intro hx
  have h1 := hx 1
  have e1 : ((ix2 r j : (⟨2, ![a, b]⟩ : Shape).Idx) 1).val = j.val := rfl
  rw [e1] at h1
  simp at h1
  omega

end Cert.Views

end
-- ==== Proof.MixPoint.lean ====
/-
  One grid point of the mixing kernel as a whole: what its body stores into its block of the result.
-/
module

public import proofs.«01_k».proof.Proof.MixStep
public import proofs.«01_k».proof.Proof.Views
public import proofs.«01_k».proof.Proof.Gen.Kernel2Ideal.Frame

@[expose] public section

noncomputable section

open Idealize.ShloMosaic Idealize.ShloMosaic.ValueIdx Idealize.SL.Sem

namespace Cert.Kernel2Ideal.Value

open Cert.Kernel2Ideal Cert.Kernel2Ideal.Gen Cert.Rows Cert.Mix Cert.Views

variable (c : Dev nD) (i : grid0.Coords)
  (x0 : Vec Ideal S512x2048 .f32) (x1 : Vec Ideal S512x1024 .f32) (x2 : Vec Ideal S512x1024 .f32) (x3 : Vec Ideal S512x512 .f32)
  (x4 : Vec Ideal S8x512 .f32) (x5 : Vec Ideal S8x512 .f32) (x6 x7 x8 x9 : Vec Ideal S512x512 .f32) (x10 : Vec Ideal S3x512 .f32)
  (x11 : Vec Ideal S1x2048 .f32) (x12 : Vec Ideal S2048x2048 .bf16) (x13 : Vec Ideal S1x2048 .f32)

/-- The gated convolution of the block's row `r`: the rows beside it come from the block, or at the block's edges from the
    neighbouring blocks, or are zero at the edges of the sequence. -/
def blockConv (n : ℕ) (r k : Fin 512) : EReal :=
  x6 (ix2 r k)
    * ((if r.val = 0 then (if n % 16 = 0 then 0 else x4 (ix2 (7 : Fin 8) k)) else x3 (ix2 (⟨(r.val + 511) % 512, Nat.mod_lt _ (by decide)⟩ : Fin 512) k))
        * x10 (ix2 (0 : Fin 3) k)
      + x3 (ix2 r k) * x10 (ix2 (1 : Fin 3) k)
      + (if r.val = 511 then (if n % 16 = 15 then 0 else x5 (ix2 (0 : Fin 8) k)) else x3 (ix2 (⟨(r.val + 1) % 512, Nat.mod_lt _ (by decide)⟩ : Fin 512) k))
        * x10 (ix2 (2 : Fin 3) k))

/-- The three branches of the block's row `r`, side by side. -/
def blockMixed (n : ℕ) (r : Fin 512) (e : Fin 2048) : EReal :=
  if h₁ : e.val < 1024 then
    norm 0x44800000#32 (fun k : Fin 1024 => x1 (ix2 r k)) ⟨e.val, h₁⟩ * x11 (ix2 (0 : Fin 1) e) * x2 (ix2 r (⟨e.val, h₁⟩ : Fin 1024))
  else if h₂ : e.val < 1536 then
    norm 0x44000000#32 (blockConv x3 x4 x5 x6 x10 n r) ⟨e.val - 1024, by omega⟩ * x11 (ix2 (0 : Fin 1) e)
      * x7 (ix2 r (⟨e.val - 1024, by omega⟩ : Fin 512))
  else
    norm 0x44000000#32 (fun k : Fin 512 => x8 (ix2 r k)) ⟨e.val - 1536, by omega⟩ * x11 (ix2 (0 : Fin 1) e)
      * x9 (ix2 r (⟨e.val - 1536, by omega⟩ : Fin 512))

/-- What the body stores, at a row and a column. -/
theorem out_A (arg1 : Memref sig .tc .vmem S512x2048 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x512 .f32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S512x512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S3x512 .f32) (harg11 : arg11.IsWhole) (arg12 : Memref sig .tc .vmem S1x2048 .f32) (harg12 : arg12.IsWhole)
    (arg13 : Memref sig .tc .vmem S2048x2048 .bf16) (harg13 : arg13.IsWhole) (arg14 : Memref sig .tc .vmem S1x2048 .f32) (harg14 : arg14.IsWhole)
    (arg15 : Memref sig .tc .vmem S512x2048 .f32) (harg15 : arg15.IsWhole) (arg16 : Memref sig .tc .vmem S512x2048 .bf16) (harg16 : arg16.IsWhole)
    (r : Fin 512) (j : Fin 2048) :
    out0_A_14 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x1 x2 x3 x4 x5 x6 x7 x8 x9 x10 x11 x12 x13 (ix2 r j)
      = norm 0x45000000#32 (fun k : Fin 2048 => x0 (ix2 r k)
          + ∑ e : Fin 2048, blockMixed x1 x2 x3 x4 x5 x6 x7 x8 x9 x10 x11 (i 0).val r e * x12 (ix2 e k)) j * x13 (ix2 (0 : Fin 1) j) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x1 x2 x3 x4 x5 x6 x7 x8 x9 x10 x11 x12 x13)]
  unfold kernelRun0_A
  dsimp only
  sl_unfold_words
  simp (discharger := decide) only [View.readAt_eq_ld, Memref.IsWhole.read_unread, View.readCov_eq_canon', ld_whole, canon_whole]
  refine (pay1_apply _ _ _ _ r j).trans ?_
  refine congrArg (fun f : Fin 2048 → EReal => norm 0x45000000#32 f j * x13 (ix2 (0 : Fin 1) j)) (funext fun k => ?_)
  refine (pay7_apply _ _ _ r k).trans ?_
  refine congrArg (fun z : EReal => x0 (ix2 r k) + z) (Finset.sum_congr rfl fun e _ => congrArg (fun z : EReal => z * x12 (ix2 e k)) ?_)
  have hi : (i 0).val < 32 := (i 0).isLt
  have he : (Rect.unit (s := S512x2048) ![0, 0] ![512, 2048] inb_S512x2048_S512x2048_0_0).idx (ix2 r e) = ix2 r e := by
    refine funext fun x => Fin.ext ?_
    refine (Rect.idx_unit_val _ _ _ _ _).trans ?_
    fin_cases x <;> simp
  rw [he]
  unfold blockMixed
  by_cases h₁ : e.val < 1024
  · rw [dif_pos h₁]
    refine (canon_cols_skip _ _ _ r e (by omega)).trans ((canon_cols_skip _ _ _ r e (by omega)).trans
      ((canon_cols_hit _ _ _ r e (⟨e.val, h₁⟩ : Fin 1024) (by simp)).trans ((pay2_apply _ _ _ _ _).trans ?_)))
    rw [ld_part (p := 0) (q := 0) x11 _ (0 : Fin 1) (⟨e.val, h₁⟩ : Fin 1024) (0 : Fin 1) e rfl (by simp)]
  · rw [dif_neg h₁]
    by_cases h₂ : e.val < 1536
    · rw [dif_pos h₂]
      refine (canon_cols_skip _ _ _ r e (by omega)).trans ((canon_cols_hit _ _ _ r e (⟨e.val - 1024, by omega⟩ : Fin 512) (by simp; omega)).trans
        ((pay5_apply _ _ _ _ _).trans ?_))
      rw [ld_part (p := 0) (q := 1024) x11 _ (0 : Fin 1) (⟨e.val - 1024, by omega⟩ : Fin 512) (0 : Fin 1) e rfl (by simp; omega)]
      refine congrArg (fun z : EReal => z * x11 (ix2 (0 : Fin 1) e) * x7 (ix2 r (⟨e.val - 1024, by omega⟩ : Fin 512))) ?_
      refine (pay4_apply x3 ⟨(i 0).val, hi⟩ _ _ _ _ _ _ r _).trans ?_
      refine congrArg (fun f : Fin 512 → EReal => norm 0x44000000#32 f _) (funext fun k => ?_)
      unfold blockConv
      rw [pay3_apply, ld_part (p := 7) (q := 0) x4 _ (0 : Fin 1) k (7 : Fin 8) k rfl (by simp), ld_part (p := 0) (q := 0) x5 _ (0 : Fin 1) k (0 : Fin 8) k rfl (by simp),
        ld_part (p := 0) (q := 0) x10 _ (0 : Fin 1) k (0 : Fin 3) k rfl (by simp), ld_part (p := 1) (q := 0) x10 _ (0 : Fin 1) k (1 : Fin 3) k rfl (by simp),
        ld_part (p := 2) (q := 0) x10 _ (0 : Fin 1) k (2 : Fin 3) k rfl (by simp)]
    · rw [dif_neg h₂]
      refine (canon_cols_hit _ _ _ r e (⟨e.val - 1536, by omega⟩ : Fin 512) (by simp; omega)).trans ((pay6_apply _ _ _ _ _).trans ?_)
      rw [ld_part (p := 0) (q := 1536) x11 _ (0 : Fin 1) (⟨e.val - 1536, by omega⟩ : Fin 512) (0 : Fin 1) e rfl (by simp; omega)]

end Cert.Kernel2Ideal.Value

end
-- ==== Proof.MixBlocks.lean ====
/-
  The mixing kernel's result array: every grid point stores 512 rows of the mixed branches' product, scaled.
-/
module

public import proofs.«01_k».proof.Proof.MixPoint
public import proofs.«01_k».proof.Proof.Gen.Kernel2Ideal.Value
public import Idealize.ShloMosaic.Lib.Pipeline.ValueKit.Geometry

@[expose] public section

noncomputable section

open Idealize.ShloMosaic Idealize.ShloMosaic.ValueIdx Idealize.ShloMosaic.TcCoe Idealize.SL.Sem
open Idealize.ShloMosaic.Pipeline (Dat)

namespace Cert.Kernel2Ideal.Value

open Cert.Kernel2Ideal Cert.Kernel2Ideal.Gen Cert.Rows Cert.Mix

/-! ## Which block each point sees -/

theorem coords_eq : ∀ t : Fin cfg0.N, (grid0.coords t 0).val = t.val :=
  (by decide +kernel : ∀ t : Fin grid0.N, _)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![64 * t.val - 1, 0] := (by decide +kernel : ∀ t : Fin grid0.N, _)
theorem index_5 : ∀ t : Fin cfg0.N, win0_5.index t = ![min (64 * t.val + 64) 2047, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![t.val, 0] := (by decide +kernel : ∀ t : Fin grid0.N, _)

theorem lt_32 (t : Fin cfg0.N) : t.val < 32 := N_0 ▸ t.isLt

/-- The row of the arrays that is row `r` of point `t`'s blocks. -/
def row (t : Fin cfg0.N) (r : Fin 512) : Fin 16384 := ⟨512 * t.val + r.val, by have := lt_32 t; omega⟩

variable (m : (ℓ : Loc nD τ sig) → Buf (Elt Ideal) ℓ) (c : Dev nD) (t : Fin cfg0.N)

theorem iblk_0_apply (r : Fin 512) (j : Fin 2048) :
    (iblk m c 0 t : Vec Ideal S512x2048 .f32) (ix2 r j) = (V m c main_arg0 : Mat 16384 2048) (ix2 (row t r) j) := by
  blk_simp [iblk]
  refine congrArg (V m c main_arg0) (funext fun a => Fin.ext ?_)
  fin_cases a <;> blk_simp [index_0] <;> simp [ix2, row] <;> omega

theorem iblk_1_apply (r : Fin 512) (j : Fin 1024) :
    (iblk m c 1 t : Vec Ideal S512x1024 .f32) (ix2 r j) = (V m c main_arg1 : Mat 16384 1024) (ix2 (row t r) j) := by
  blk_simp [iblk]
  refine congrArg (V m c main_arg1) (funext fun a => Fin.ext ?_)
  fin_cases a <;> blk_simp [index_1] <;> simp [ix2, row] <;> omega

theorem iblk_2_apply (r : Fin 512) (j : Fin 1024) :
    (iblk m c 2 t : Vec Ideal S512x1024 .f32) (ix2 r j) = (V m c main_arg2 : Mat 16384 1024) (ix2 (row t r) j) := by
  blk_simp [iblk]
  refine congrArg (V m c main_arg2) (funext fun a => Fin.ext ?_)
  fin_cases a <;> blk_simp [index_2] <;> simp [ix2, row] <;> omega

theorem iblk_3_apply (r : Fin 512) (j : Fin 512) :
    (iblk m c 3 t : Vec Ideal S512x512 .f32) (ix2 r j) = (V m c main_arg3 : Mat 16384 512) (ix2 (row t r) j) := by
  blk_simp [iblk]
  refine congrArg (V m c main_arg3) (funext fun a => Fin.ext ?_)
  fin_cases a <;> blk_simp [index_3] <;> simp [ix2, row] <;> omega

/-- The last row of the block of eight rows before the tile is the row before the tile. -/
theorem iblk_4_apply (ht : t.val ≠ 0) (T : Fin 16384) (hT : T.val + 1 = 512 * t.val) (j : Fin 512) :
    (iblk m c 4 t : Vec Ideal S8x512 .f32) (ix2 (7 : Fin 8) j) = (V m c main_arg3 : Mat 16384 512) (ix2 T j) := by
  blk_simp [iblk]
  refine congrArg (V m c main_arg3) (funext fun a => Fin.ext ?_)
  fin_cases a <;> blk_simp [index_4] <;> simp [ix2] <;> omega

/-- The first row of the block of eight rows after the tile is the row after the tile. -/
theorem iblk_5_apply (ht : t.val ≠ 31) (T : Fin 16384) (hT : T.val = 512 * t.val + 512) (j : Fin 512) :
    (iblk m c 5 t : Vec Ideal S8x512 .f32) (ix2 (0 : Fin 8) j) = (V m c main_arg3 : Mat 16384 512) (ix2 T j) := by
  have := lt_32 t
  blk_simp [iblk]
  refine congrArg (V m c main_arg3) (funext fun a => Fin.ext ?_)
  fin_cases a <;> blk_simp [index_5] <;> simp [ix2] <;> omega

theorem iblk_6_apply (r : Fin 512) (j : Fin 512) :
    (iblk m c 6 t : Vec Ideal S512x512 .f32) (ix2 r j) = (V m c main_arg4 : Mat 16384 512) (ix2 (row t r) j) := by
  blk_simp [iblk]
  refine congrArg (V m c main_arg4) (funext fun a => Fin.ext ?_)
  fin_cases a <;> blk_simp [index_6] <;> simp [ix2, row] <;> omega

theorem iblk_7_apply (r : Fin 512) (j : Fin 512) :
    (iblk m c 7 t : Vec Ideal S512x512 .f32) (ix2 r j) = (V m c main_arg5 : Mat 16384 512) (ix2 (row t r) j) := by
  blk_simp [iblk]
  refine congrArg (V m c main_arg5) (funext fun a => Fin.ext ?_)
  fin_cases a <;> blk_simp [index_7] <;> simp [ix2, row] <;> omega

theorem iblk_8_apply (r : Fin 512) (j : Fin 512) :
    (iblk m c 8 t : Vec Ideal S512x512 .f32) (ix2 r j) = (V m c main_arg6 : Mat 16384 512) (ix2 (row t r) j) := by
  blk_simp [iblk]
  refine congrArg (V m c main_arg6) (funext fun a => Fin.ext ?_)
  fin_cases a <;> blk_simp [index_8] <;> simp [ix2, row] <;> omega

theorem iblk_9_apply (r : Fin 512) (j : Fin 512) :
    (iblk m c 9 t : Vec Ideal S512x512 .f32) (ix2 r j) = (V m c main_arg7 : Mat 16384 512) (ix2 (row t r) j) := by
  blk_simp [iblk]
  refine congrArg (V m c main_arg7) (funext fun a => Fin.ext ?_)
  fin_cases a <;> blk_simp [index_9] <;> simp [ix2, row] <;> omega

theorem iblk_10_apply (y : S3x512.Idx) : (iblk m c 10 t : Vec Ideal S3x512 .f32) y = (V m c main_arg8 : Mat 3 512) y := by
  blk_simp [iblk]
  refine congrArg (V m c main_arg8) (funext fun a => Fin.ext ?_)
  fin_cases a <;> blk_simp [index_10]

theorem iblk_11_apply (y : S1x2048.Idx) : (iblk m c 11 t : Vec Ideal S1x2048 .f32) y = (V m c main_arg9 : Mat 1 2048) y := by
  blk_simp [iblk]
  refine congrArg (V m c main_arg9) (funext fun a => Fin.ext ?_)
  fin_cases a <;> blk_simp [index_11]

theorem iblk_12_apply (y : S2048x2048.Idx) : (iblk m c 12 t : Vec Ideal S2048x2048 .bf16) y = (V m c main_arg10 : Mat 2048 2048) y := by
  blk_simp [iblk]
  refine congrArg (V m c main_arg10) (funext fun a => Fin.ext ?_)
  fin_cases a <;> blk_simp [index_12]

theorem iblk_13_apply (y : S1x2048.Idx) : (iblk m c 13 t : Vec Ideal S1x2048 .f32) y = (V m c main_arg11 : Mat 1 2048) y := by
  blk_simp [iblk]
  refine congrArg (V m c main_arg11) (funext fun a => Fin.ext ?_)
  fin_cases a <;> blk_simp [index_13]

/-! ## The rows of a block are rows of the arrays -/

theorem blockConv_eq (r k : Fin 512) :
    blockConv (iblk m c 3 t) (iblk m c 4 t) (iblk m c 5 t) (iblk m c 6 t) (iblk m c 10 t) t.val r k
      = conv (V m c main_arg3) (V m c main_arg4) (V m c main_arg8) (row t r) k := by
  have ht := lt_32 t
  have hr := r.isLt
  unfold blockConv conv
  rw [iblk_6_apply, iblk_3_apply m c t r k, iblk_10_apply, iblk_10_apply, iblk_10_apply]
  have hb : (if r.val = 0 then (if t.val % 16 = 0 then (0 : EReal) else (iblk m c 4 t : Vec Ideal S8x512 .f32) (ix2 (7 : Fin 8) k))
      else (iblk m c 3 t : Vec Ideal S512x512 .f32) (ix2 (⟨(r.val + 511) % 512, Nat.mod_lt _ (by decide)⟩ : Fin 512) k))
      = before (V m c main_arg3) (row t r) k := by
    unfold before
    by_cases h0 : r.val = 0
    · rw [if_pos h0]
      by_cases h1 : t.val % 16 = 0
      · rw [if_pos h1, if_pos (by simp only [row]; omega)]
      · rw [if_neg h1, if_neg (by simp only [row]; omega)]
        exact iblk_4_apply m c t (by omega) _ (by simp only [row]; omega) k
    · rw [if_neg h0, if_neg (by simp only [row]; omega), iblk_3_apply]
      exact congrArg (fun T : Fin 16384 => (V m c main_arg3 : Mat 16384 512) (ix2 T k)) (Fin.ext (by simp only [row]; omega))
  have ha : (if r.val = 511 then (if t.val % 16 = 15 then (0 : EReal) else (iblk m c 5 t : Vec Ideal S8x512 .f32) (ix2 (0 : Fin 8) k))
      else (iblk m c 3 t : Vec Ideal S512x512 .f32) (ix2 (⟨(r.val + 1) % 512, Nat.mod_lt _ (by decide)⟩ : Fin 512) k))
      = after (V m c main_arg3) (row t r) k := by
    unfold after
    by_cases h0 : r.val = 511
    · rw [if_pos h0]
      by_cases h1 : t.val % 16 = 15
      · rw [if_pos h1, if_pos (by simp only [row]; omega)]
      · rw [if_neg h1, if_neg (by simp only [row]; omega)]
        exact iblk_5_apply m c t (by omega) _ (by simp only [row]; omega) k
    · rw [if_neg h0, if_neg (by simp only [row]; omega), iblk_3_apply]
      exact congrArg (fun T : Fin 16384 => (V m c main_arg3 : Mat 16384 512) (ix2 T k)) (Fin.ext (by simp only [row]; omega))
  rw [hb, ha]

theorem blockMixed_eq (r : Fin 512) (e : Fin 2048) :
    blockMixed (iblk m c 1 t) (iblk m c 2 t) (iblk m c 3 t) (iblk m c 4 t) (iblk m c 5 t) (iblk m c 6 t) (iblk m c 7 t) (iblk m c 8 t)
        (iblk m c 9 t) (iblk m c 10 t) (iblk m c 11 t) t.val r e
      = mixed (V m c main_arg1) (V m c main_arg2) (V m c main_arg3) (V m c main_arg4) (V m c main_arg5) (V m c main_arg6) (V m c main_arg7)
          (V m c main_arg8) (V m c main_arg9) (row t r) e := by
  unfold blockMixed mixed
  simp only [iblk_1_apply, iblk_2_apply, iblk_7_apply, iblk_8_apply, iblk_9_apply, iblk_11_apply]
  rw [show blockConv (iblk m c 3 t) (iblk m c 4 t) (iblk m c 5 t) (iblk m c 6 t) (iblk m c 10 t) t.val r
    = conv (V m c main_arg3) (V m c main_arg4) (V m c main_arg8) (row t r) from funext fun k => blockConv_eq m c t r k]

/-! ## The result -/

/-- The call's result as an array. -/
def resultArray : S16384x2048.Idx → EReal := fun y =>
  result (V m c main_arg0) (V m c main_arg1) (V m c main_arg2) (V m c main_arg3) (V m c main_arg4) (V m c main_arg5) (V m c main_arg6)
    (V m c main_arg7) (V m c main_arg8) (V m c main_arg9) (V m c main_arg10) (V m c main_arg11) (y 0) (y 1)

/-- What a point stores is its rows of the result. -/
theorem out_eq (r : Fin 512) (j : Fin 2048) :
    (outsAt0 m c t : Vec Ideal S512x2048 .f32) (ix2 r j) = resultArray m c (ix2 (row t r) j) := by
  unfold outsAt0
  rw [out_A]
  unfold resultArray result
  simp only [coords_eq, iblk_0_apply, iblk_12_apply, iblk_13_apply, blockMixed_eq]
  rfl

/-- The result array after the run. -/
theorem final : (dats m 0 c).arrAt 14 cfg0.N = resultArray m c := by
  refine (dats m 0 c).arrAt_eq_of_covers 14 _ (by decide +kernel) fun t hf y => ?_
  blk_simp
  rw [after0_14]
  obtain ⟨r, j, e⟩ : ∃ (r : Fin 512) (j : Fin 2048), (y : S512x2048.Idx) = ix2 r j := ⟨_, _, eq_ix2 (y : S512x2048.Idx)⟩
  have e1 := out_eq m c t r j
  have e2 : (win0_14.blk t).view.emb (ix2 r j) = (ix2 (row t r) j : S16384x2048.Idx) := by
    refine funext fun a => Fin.ext ?_
    fin_cases a <;> blk_simp [index_14] <;> simp [ix2, row] <;> omega
  rw [← e2, ← e] at e1
  exact e1

end Cert.Kernel2Ideal.Value

end
-- ==== Proof.MixReference.lean ====
/-
  The mixing reference's result, operation by operation: it is the mixed branches' product, scaled.
-/
module

public import proofs.«01_k».proof.Proof.Mix
public import proofs.«01_k».proof.Proof.Gen.Reference2Ideal
public import proofs.«01_k».proof.Proof.Gen.Reference2Ideal.Read
public import Idealize.ShloMosaic.Lib.KernelVsHost
public import Idealize.ShloMosaic.Lib.Pipeline.Value

@[expose] public section

noncomputable section

open Idealize.ShloMosaic Idealize.ShloMosaic.ValueIdx Idealize.SL.Sem

namespace Cert.Reference2Ideal.Read

open Cert.Reference2Ideal Cert.Reference2Ideal.Gen Cert.Rows Cert.Mix

variable (x0 : Mat 16384 2048) (x1 x2 : Mat 16384 1024) (x3 x4 x5 x6 x7 : Mat 16384 512) (x8 : Mat 3 512) (x9 : Mat 1 2048)
  (x10 : Mat 2048 2048) (x11 : Mat 1 2048)

/-- The padded rows: zero before the first and after the last row of a sequence. -/
theorem pad_apply (b : Fin 2) (s : Fin 8194) (j : Fin 512) :
    val_main_v2 (F := Ideal) x3 (ix3 b s j)
      = if h : 1 ≤ s.val ∧ s.val ≤ 8192 then x3 (ix2 (⟨8192 * b.val + (s.val - 1), by omega⟩ : Fin 16384) j) else 0 := by
  unfold val_main_v2
  by_cases h : 1 ≤ s.val ∧ s.val ≤ 8192
  · rw [dif_pos h]
    refine (pad_apply_of_inside _ _ _ _ _ _ _ (ix3 b s j) (ix3 b (⟨s.val - 1, by omega⟩ : Fin 8192) j) ?_).trans ?_
    · intro a
      fin_cases a
      · simp [ix3]
      · simp [ix3]; omega
      · simp [ix3]
    · rw [val_main_v1_apply]
      refine congrArg x3 (Shape.idx_ext₂ ?_ ?_)
      · simp [ix2, ix3]; omega
      · simp [ix2, ix3]
  · rw [dif_neg h]
    refine (pad_apply_of_not_inside _ _ _ _ _ _ _ (ix3 b s j) 1 ?_).trans ?_
    · intro h1
      apply h
      simp [ix3] at h1
      omega
    · rw [val_main_call0_v0_apply, val_main_c_apply]
      show (((0#32 : BitVec 32).toInt : ℝ) : EReal) = 0
      simp

/-- The convolution. -/
theorem conv_apply (T : Fin 16384) (j : Fin 512) : val_main_v24 (F := Ideal) x3 x4 x8 (ix2 T j) = conv x3 x4 x8 T j := by
  have hT := T.isLt
  have hi : idx_main_v23 (ix2 T j) = ix3 (⟨T.val / 8192, by omega⟩ : Fin 2) (⟨T.val % 8192, Nat.mod_lt _ (by decide)⟩ : Fin 8192) j := by
    refine funext fun a => Fin.ext ?_
    fin_cases a
    all_goals simp [ix2, ix3]
    all_goals omega
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_v5_apply,
    val_main_v4_apply, val_main_v3_apply, hi]
  have e3 : idx_main_v3 (ix3 (⟨T.val / 8192, by omega⟩ : Fin 2) (⟨T.val % 8192, Nat.mod_lt _ (by decide)⟩ : Fin 8192) j)
      = ix3 (⟨T.val / 8192, by omega⟩ : Fin 2) (⟨T.val % 8192, by omega⟩ : Fin 8194) j := by
    funext a; fin_cases a <;> rfl
  have e9 : idx_main_v9 (ix3 (⟨T.val / 8192, by omega⟩ : Fin 2) (⟨T.val % 8192, Nat.mod_lt _ (by decide)⟩ : Fin 8192) j)
      = ix3 (⟨T.val / 8192, by omega⟩ : Fin 2) (⟨1 + T.val % 8192, by omega⟩ : Fin 8194) j := by
    funext a; fin_cases a <;> rfl
  have e16 : idx_main_v16 (ix3 (⟨T.val / 8192, by omega⟩ : Fin 2) (⟨T.val % 8192, Nat.mod_lt _ (by decide)⟩ : Fin 8192) j)
      = ix3 (⟨T.val / 8192, by omega⟩ : Fin 2) (⟨2 + T.val % 8192, by omega⟩ : Fin 8194) j := by
    funext a; fin_cases a <;> rfl
  rw [e3, e9, e16, pad_apply, pad_apply, pad_apply]
  unfold conv
  refine congrArg (fun z : EReal => x4 (ix2 T j) * z) ?_
  refine congrArg₂ (fun x y : EReal => x + y) (congrArg₂ (fun x y : EReal => x + y) ?_ ?_) ?_
  · refine congrArg₂ (fun x y : EReal => x * y) ?_ (congrArg x8 (Shape.idx_ext₂ rfl (by simp [ix2, ix3])))
    unfold before
    by_cases h : T.val % 8192 = 0
    · rw [if_pos h, dif_neg (by simp only; omega)]
    · rw [if_neg h, dif_pos (by simp only; omega)]
      exact congrArg x3 (Shape.idx_ext₂ (by simp [ix2]; omega) rfl)
  · refine congrArg₂ (fun x y : EReal => x * y) ?_ (congrArg x8 (Shape.idx_ext₂ rfl (by simp [ix2, ix3])))
    rw [dif_pos (by simp only; omega)]
    exact congrArg x3 (Shape.idx_ext₂ (by simp [ix2]; omega) rfl)
  · refine congrArg₂ (fun x y : EReal => x * y) ?_ (congrArg x8 (Shape.idx_ext₂ rfl (by simp [ix2, ix3])))
    unfold after
    by_cases h : T.val % 8192 = 8191
    · rw [if_pos h, dif_neg (by simp only; omega)]
    · rw [if_neg h, dif_pos (by simp only; omega)]
      exact congrArg x3 (Shape.idx_ext₂ (by simp [ix2]; omega) rfl)

/-- The attention branch, scaled and gated. -/
theorem branch_a (T : Fin 16384) (j : Fin 1024) :
    val_main_v39 (F := Ideal) x1 x2 x9 (ix2 T j)
      = norm 0x44800000#32 (fun k : Fin 1024 => x1 (ix2 T k)) j * x9 (ix2 (0 : Fin 1) (⟨j.val, by omega⟩ : Fin 2048)) * x2 (ix2 T j) := by
  simp only [val_main_v39_apply, val_main_v38_apply, val_main_v37_apply, val_main_v36_apply, val_main_v35_apply, val_main_v34_apply,
    val_main_v33_apply, val_main_v32_apply, val_main_v31_apply, val_main_v30_apply, val_main_v29_apply, val_main_v28_apply, val_main_v27_apply,
    val_main_v25_apply, val_main_v0_apply]
  refine congrArg₂ (fun x y : EReal => x * y) (congrArg₂ (fun x y : EReal => x * y) ?_ (congrArg x9 (Shape.idx_ext₂ rfl ?_))) rfl
  · refine norm_of 0x44800000#32 (fun k : Fin 1024 => x1 (ix2 T k))
      (fun k => val_main_v26 (F := Ideal) x1 (idx_main_v27 (idx_main_v28 (idx_main_v34 (ix2 T j))) k)) j fun k => ?_
    rw [val_main_v26_apply]
    exact congrArg (fun i => x1 i * x1 i) (Shape.idx_ext₂ rfl rfl)
  · have := j.isLt
    simp [ix2]
    omega

/-- The convolution branch, scaled and gated. -/
theorem branch_c (T : Fin 16384) (j : Fin 512) :
    val_main_v54 (F := Ideal) x3 x4 x5 x8 x9 (ix2 T j)
      = norm 0x44000000#32 (conv x3 x4 x8 T) j * x9 (ix2 (0 : Fin 1) (⟨1024 + j.val, by omega⟩ : Fin 2048)) * x5 (ix2 T j) := by
  simp only [val_main_v54_apply, val_main_v53_apply, val_main_v52_apply, val_main_v51_apply, val_main_v50_apply, val_main_v49_apply,
    val_main_v48_apply, val_main_v47_apply, val_main_v46_apply, val_main_v45_apply, val_main_v44_apply, val_main_v43_apply, val_main_v42_apply,
    val_main_v40_apply, val_main_v0_apply, conv_apply]
  refine congrArg₂ (fun x y : EReal => x * y) (congrArg₂ (fun x y : EReal => x * y) ?_ (congrArg x9 (Shape.idx_ext₂ rfl ?_))) rfl
  · refine norm_of 0x44000000#32 (conv x3 x4 x8 T)
      (fun k => val_main_v41 (F := Ideal) x3 x4 x8 (idx_main_v42 (idx_main_v43 (idx_main_v49 (ix2 T j))) k)) j fun k => ?_
    rw [val_main_v41_apply]
    refine Eq.trans ?_ (congrArg (fun z : EReal => z * z) (conv_apply x3 x4 x8 T k))
    exact congrArg (fun i => val_main_v24 (F := Ideal) x3 x4 x8 i * val_main_v24 (F := Ideal) x3 x4 x8 i) (Shape.idx_ext₂ rfl rfl)
  · have := j.isLt
    simp [ix2]
    omega

/-- The spatial branch, scaled and gated. -/
theorem branch_s (T : Fin 16384) (j : Fin 512) :
    val_main_v69 (F := Ideal) x6 x7 x9 (ix2 T j)
      = norm 0x44000000#32 (fun k : Fin 512 => x6 (ix2 T k)) j * x9 (ix2 (0 : Fin 1) (⟨1536 + j.val, by omega⟩ : Fin 2048)) * x7 (ix2 T j) := by
  simp only [val_main_v69_apply, val_main_v68_apply, val_main_v67_apply, val_main_v66_apply, val_main_v65_apply, val_main_v64_apply,
    val_main_v63_apply, val_main_v62_apply, val_main_v61_apply, val_main_v60_apply, val_main_v59_apply, val_main_v58_apply, val_main_v57_apply,
    val_main_v55_apply, val_main_v0_apply]
  refine congrArg₂ (fun x y : EReal => x * y) (congrArg₂ (fun x y : EReal => x * y) ?_ (congrArg x9 (Shape.idx_ext₂ rfl ?_))) rfl
  · refine norm_of 0x44000000#32 (fun k : Fin 512 => x6 (ix2 T k))
      (fun k => val_main_v56 (F := Ideal) x6 (idx_main_v57 (idx_main_v58 (idx_main_v64 (ix2 T j))) k)) j fun k => ?_
    rw [val_main_v56_apply]
    exact congrArg (fun i => x6 i * x6 i) (Shape.idx_ext₂ rfl rfl)
  · have := j.isLt
    simp [ix2]
    omega

/-- The three branches side by side. -/
theorem mixed_apply (T : Fin 16384) (e : Fin 2048) :
    val_main_v70 (F := Ideal) x1 x2 x3 x4 x5 x6 x7 x8 x9 (ix2 T e) = mixed x1 x2 x3 x4 x5 x6 x7 x8 x9 T e := by
  unfold val_main_v70 mixed
  have off : ∀ {n : ℕ} (k : Fin n) (b : Fin 2), b ≠ 1 → ((ix2 T k : (⟨2, ![16384, n]⟩ : Shape).Idx) b).val = ((ix2 T e : S16384x2048.Idx) b).val := by
    intro n k b hb
    fin_cases b
    · rfl
    · exact absurd rfl hb
  by_cases h₁ : e.val < 1024
  · rw [dif_pos h₁]
    refine (concatenate_apply_piece 1 [⟨S16384x1024, val_main_v39 (F := Ideal) x1 x2 x9⟩, ⟨S16384x512, val_main_v54 (F := Ideal) x3 x4 x5 x8 x9⟩,
      ⟨S16384x512, val_main_v69 (F := Ideal) x6 x7 x9⟩] _ (ix2 T e) 0 (show 0 < 3 by decide) S16384x1024 _ rfl rfl 0 rfl (ix2 T (⟨e.val, h₁⟩ : Fin 1024))
      (off _) (by simp [ix2])).trans (branch_a x1 x2 x9 T ⟨e.val, h₁⟩)
  · rw [dif_neg h₁]
    by_cases h₂ : e.val < 1536
    · rw [dif_pos h₂]
      refine (concatenate_apply_piece 1 [⟨S16384x1024, val_main_v39 (F := Ideal) x1 x2 x9⟩, ⟨S16384x512, val_main_v54 (F := Ideal) x3 x4 x5 x8 x9⟩,
      ⟨S16384x512, val_main_v69 (F := Ideal) x6 x7 x9⟩] _ (ix2 T e) 1 (show 1 < 3 by decide) S16384x512 _ rfl rfl 1024 rfl (ix2 T (⟨e.val - 1024, by omega⟩ : Fin 512))
        (off _) (by simp [ix2]; omega)).trans ((branch_c x3 x4 x5 x8 x9 T ⟨e.val - 1024, by omega⟩).trans ?_)
      rw [show (⟨1024 + (e.val - 1024), by omega⟩ : Fin 2048) = e from Fin.ext (by simp only; omega)]
    · rw [dif_neg h₂]
      refine (concatenate_apply_piece 1 [⟨S16384x1024, val_main_v39 (F := Ideal) x1 x2 x9⟩, ⟨S16384x512, val_main_v54 (F := Ideal) x3 x4 x5 x8 x9⟩,
      ⟨S16384x512, val_main_v69 (F := Ideal) x6 x7 x9⟩] _ (ix2 T e) 2 (show 2 < 3 by decide) S16384x512 _ rfl rfl 1536 rfl (ix2 T (⟨e.val - 1536, by omega⟩ : Fin 512))
        (off _) (by simp [ix2]; omega)).trans ((branch_s x6 x7 x9 T ⟨e.val - 1536, by omega⟩).trans ?_)
      rw [show (⟨1536 + (e.val - 1536), by omega⟩ : Fin 2048) = e from Fin.ext (by simp only; omega)]

/-- The residual and the product. -/
theorem summed_apply (T : Fin 16384) (j : Fin 2048) :
    val_main_v73 (F := Ideal) x0 x1 x2 x3 x4 x5 x6 x7 x8 x9 x10 (ix2 T j)
      = summed x0 (mixed x1 x2 x3 x4 x5 x6 x7 x8 x9) x10 T j := by
  rw [val_main_v73_apply, val_main_v72_apply]
  unfold summed
  refine congrArg (fun z : EReal => x0 (ix2 T j) + z) (Finset.sum_congr rfl fun e _ => ?_)
  rw [val_main_v71_apply]
  refine congrArg₂ (fun x y : EReal => x * y) ?_ (congrArg x10 (Shape.idx_ext₂ rfl rfl))
  exact (congrArg _ (Shape.idx_ext₂ rfl rfl : lidx_main_v72 (ix2 T j) e = ix2 T e)).trans (mixed_apply x1 x2 x3 x4 x5 x6 x7 x8 x9 T e)

/-- The reference's result. -/
theorem result_apply (T : Fin 16384) (j : Fin 2048) :
    val_main_v87 (F := Ideal) x0 x1 x2 x3 x4 x5 x6 x7 x8 x9 x10 x11 (ix2 T j) = result x0 x1 x2 x3 x4 x5 x6 x7 x8 x9 x10 x11 T j := by
  simp only [val_main_v87_apply, val_main_v86_apply, val_main_v85_apply, val_main_v84_apply, val_main_v83_apply, val_main_v82_apply,
    val_main_v81_apply, val_main_v80_apply, val_main_v79_apply, val_main_v78_apply, val_main_v77_apply, val_main_v76_apply,
    val_main_v74_apply, summed_apply]
  unfold result
  refine congrArg₂ (fun x y : EReal => x * y) ?_ (congrArg x11 (Shape.idx_ext₂ rfl ?_))
  · refine norm_of 0x45000000#32 (summed x0 (mixed x1 x2 x3 x4 x5 x6 x7 x8 x9) x10 T)
      (fun k => val_main_v75 (F := Ideal) x0 x1 x2 x3 x4 x5 x6 x7 x8 x9 x10 (idx_main_v76 (idx_main_v77 (idx_main_v83 (ix2 T j))) k)) j fun k => ?_
    rw [val_main_v75_apply]
    refine Eq.trans ?_ (congrArg (fun z : EReal => z * z) (summed_apply x0 x1 x2 x3 x4 x5 x6 x7 x8 x9 x10 T k))
    exact congrArg (fun i => val_main_v73 (F := Ideal) x0 x1 x2 x3 x4 x5 x6 x7 x8 x9 x10 i * val_main_v73 (F := Ideal) x0 x1 x2 x3 x4 x5 x6 x7 x8 x9 x10 i)
      (Shape.idx_ext₂ rfl rfl)
  · have := j.isLt
    simp [ix2]

end Cert.Reference2Ideal.Read

end
-- ==== Proof.MixClaims.lean ====
/-
  The mixing call's claims: the reference's program leaves the semaphores alone, and kernel and reference agree.
-/
module

public import proofs.«01_k».proof.Defs
public import proofs.«01_k».proof.Proof.MixBlocks
public import proofs.«01_k».proof.Proof.MixReference
public import proofs.«01_k».proof.Proof.Gen.Kernel2Ideal.Frame
public import proofs.«01_k».proof.Proof.Gen.Reference2Ideal.Run

@[expose] public section

noncomputable section

open Idealize.ShloMosaic Idealize.ShloMosaic.ValueIdx Idealize.SL.Sem

namespace Cert.Mix

/-- The reference runs to the end, keeps its arguments and leaves every semaphore at zero. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference, launched on the same arguments, both end with the mixed branches' result. -/
theorem equal : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.resultArray m c, ?_, ?_⟩
  · exact (θ_run Cert.Kernel2Ideal.defs _ _).mono (fun r h c => ⟨((h c).1).trans (Cert.Kernel2Ideal.Value.final m c), (h c).2⟩)
      (Cert.Kernel2Ideal.Value.run_blocks (F := Ideal) m g)
  · refine (θ_run Cert.Reference2Ideal.defs _ _).mono (fun r h c => ⟨((h c).1).trans ?_, (h c).2⟩)
      (Cert.Reference2Ideal.Value.run (F := Ideal) m' g')
    obtain ⟨a0, a1, a2, a3, a4, a5, a6, a7, a8, a9, a10, a11⟩ := hagree c
    refine (Cert.Reference2Ideal.Read.val_main_v87_eq (F := Ideal) m' c).trans ?_
    rw [a0, a1, a2, a3, a4, a5, a6, a7, a8, a9, a10, a11]
    funext y
    refine (congrArg _ (eq_ix2 y)).trans ?_
    exact Cert.Reference2Ideal.Read.result_apply _ _ _ _ _ _ _ _ _ _ _ _ (y 0) (y 1)

end Cert.Mix

end
-- ==== Proof.Projection.lean ====
/-
  The input projections, as mathematics: the normed input times a weight, the gates' and the spatial unit's activations,
  the spatial gating unit.
-/
module

public import proofs.«01_k».proof.Proof.Mix
public import Idealize.ShloMosaic.Lib.IdealHost

@[expose] public section

noncomputable section

open Idealize.ShloMosaic Idealize.ShloMosaic.ValueIdx

namespace Cert.Projection

open Cert.Rows
open Cert.Mix (Mat)

/-- Entry `k` of the normed row `T`. -/
def hidden {a : ℕ} (x : Mat a 2048) (nw : Mat 1 2048) (T : Fin a) (k : Fin 2048) : EReal :=
  norm 0x45000000#32 (fun l : Fin 2048 => x (ix2 T l)) k * nw (ix2 (0 : Fin 1) k)

/-- Entry `e` of the normed row `T` times the weight. -/
def proj {a n : ℕ} (x : Mat a 2048) (nw : Mat 1 2048) (w : Mat 2048 n) (T : Fin a) (e : Fin n) : EReal :=
  ∑ k : Fin 2048, hidden x nw T k * w (ix2 k e)

/-- `t` times the logistic function of `t`. -/
def silu (t : EReal) : EReal := t * Ideal.div (word 0x3F800000#32) (word 0x3F800000#32 + Ideal.exp (-t))

/-- The exact Gaussian error linear unit, by the complementary error function. -/
def gelu (t : EReal) : EReal := word 0x3F000000#32 * t * Ideal.erfc (-t * word 0x3F3504F3#32)

/-- The kernels negate by subtracting from zero. -/
theorem silu_eq (t : EReal) :
    t * Ideal.div (word 0x3F800000#32) (word 0x3F800000#32 + Ideal.exp (word 0x00000000#32 - t)) = silu t := by
  unfold silu
  rw [show word 0x00000000#32 = 0 from Ideal.ofBits_zero_f32, sub_eq_add_neg, zero_add]

/-- The kernels use the error function itself. -/
theorem gelu_eq (t : EReal) :
    word 0x3F000000#32 * t * (word 0x3F800000#32 + Ideal.erf (t * word 0x3F3504F3#32)) = gelu t := by
  unfold gelu
  rw [EReal.neg_mul, Ideal.erfc_neg, show word 0x3F800000#32 = 1 from Ideal.ofBits_one_f32]

/-- The index of lane `k` in column `j`'s group of 128 columns. -/
def lane (j : Fin 512) (k : Fin 128) : Fin 512 := ⟨j.val / 128 * 128 + k.val, by omega⟩

/-- A row's group of 128 columns scaled to unit mean square and weighted. -/
def unit (v : Fin 512 → EReal) (snw : Mat 1 512) (j : Fin 512) : EReal :=
  norm 0x43000000#32 (fun k : Fin 128 => v (lane j k)) ⟨j.val % 128, Nat.mod_lt _ (by decide)⟩ * snw (ix2 (0 : Fin 1) j)

/-- The spatial gating unit at row `T`, the `p`-th of the chunk of rows `R`, and column `j`: the group's matrix mixes the
    chunk's rows, a bias is added, and the other half gates. -/
def spatial {a : ℕ} (x : Mat a 2048) (nw : Mat 1 2048) (w : Mat 2048 3584) (snw : Mat 1 512)
    (sw : (⟨3, ![4, 128, 128]⟩ : Shape).Idx → EReal) (sb : Mat 128 4) (T : Fin a) (R : Fin 128 → Fin a) (p : Fin 128) (j : Fin 512) : EReal :=
  gelu (proj x nw w T ⟨2048 + j.val, by omega⟩)
    * ((∑ q : Fin 128, sw (ix3 (⟨j.val / 128, by omega⟩ : Fin 4) p q)
          * unit (fun e => gelu (proj x nw w (R q) ⟨2560 + e.val, by omega⟩)) snw j)
      + sb (ix2 p (⟨j.val / 128, by omega⟩ : Fin 4)))

/-- Row `q` of the chunk of 128 rows that row `T` is in. -/
def chunkRow (T : Fin 16384) (q : Fin 128) : Fin 16384 := ⟨T.val / 128 * 128 + q.val, by omega⟩

/-- The spatial gating unit on the whole sequence. -/
def spatialOut (x : Mat 16384 2048) (nw : Mat 1 2048) (w : Mat 2048 3584) (snw : Mat 1 512)
    (sw : (⟨3, ![4, 128, 128]⟩ : Shape).Idx → EReal) (sb : Mat 128 4) (T : Fin 16384) (j : Fin 512) : EReal :=
  spatial x nw w snw sw sb T (chunkRow T) ⟨T.val % 128, Nat.mod_lt _ (by decide)⟩ j

end Cert.Projection

end
-- ==== Proof.RestStep.lean ====
/-
  What one grid point of the second input projection computes from its blocks, read at an index.
-/
module

public import proofs.«01_k».proof.Proof.Projection
public import proofs.«01_k».proof.Proof.Views
public import proofs.«01_k».proof.Proof.Gen.Kernel3Ideal.Skeleton
public import Idealize.ShloMosaic.Lib.KernelVsHost

@[expose] public section

noncomputable section

open Idealize.ShloMosaic Idealize.ShloMosaic.ValueIdx Idealize.SL.Sem

namespace Cert.Kernel3Ideal.Value

open Cert.Kernel3Ideal Cert.Kernel3Ideal.Gen Cert.Rows Cert.Projection Cert.Views

variable (x0 : Vec Ideal S512x2048 .f32) (x1 : Vec Ideal S1x2048 .f32) (x2 : Vec Ideal S2048x3584 .bf16)

/-- The normed rows. -/
theorem pay6_apply (r : Fin 512) (k : Fin 2048) : k0_pay6 x0 x1 (ix2 r k) = hidden x0 x1 r k := by
  unfold k0_pay6
  dsimp only
  rw [shapeCast_self, truncf_apply]
  exact congrArg₂ (fun x y : EReal => x * y) (norm_apply _ _ _ _ _ _ _) (broadcastTo_1b_ab_apply _ _ _ _)

/-- The product of the normed rows with 512 columns of the weight. -/
theorem dot_apply (q : ℕ) (inb) (r j : Fin 512) (e : Fin 3584) (he : e.val = q + j.val) :
    matmul (F := Ideal) (φ₁ := .bf16) (φ₂ := .bf16) dot_S512x2048_S2048x512_S512x512_1_0_0_1_n_n none (k0_pay6 x0 x1)
      (View.ld x2 (Rect.unit (s := S2048x3584) ![0, q] ![2048, 512] inb)) (constant S512x512 .f32 0x00000000#32) (ix2 r j) = proj x0 x1 x2 r e := by
  refine Eq.trans (b := ∑ k : Fin 2048, k0_pay6 x0 x1 (ix2 r k) * View.ld x2 (Rect.unit (s := S2048x3584) ![0, q] ![2048, 512] inb) (ix2 k j)) ?_
    (Finset.sum_congr rfl fun k _ => congrArg₂ (fun x y : EReal => x * y) (pay6_apply x0 x1 r k)
      (ld_part (p := 0) (q := q) x2 inb k j k e (Nat.zero_add _).symm he))
  simp only [matmul]
  rw [Ideal.matmul_constant_zero_apply, ← (contrEquiv1 dot_S512x2048_S2048x512_S512x512_1_0_0_1_n_n 2048 rfl rfl).sum_comp]
  refine Finset.sum_congr rfl fun k _ => ?_
  exact congrArg₂ (fun x y : EReal => x * y) (congrArg (k0_pay6 x0 x1) (Shape.idx_ext₂ rfl rfl)) (congrArg (View.ld x2 _) (Shape.idx_ext₂ rfl rfl))

variable (q : ℕ) (inb : ∀ a, (![0, q] : Fin 2 → ℕ) a + (![2048, 512] : Fin 2 → ℕ) a ≤ S2048x3584.size a)

/-- The columns of the weight from column `q` on. -/
abbrev cols : Vec Ideal S2048x512 .bf16 := View.ld x2 (Rect.unit (s := S2048x3584) ![0, q] ![2048, 512] inb)

/-- The convolution's input. -/
theorem pay7_apply (q' : ℕ) (inb') (r j : Fin 512) (e e' : Fin 3584) (he : e.val = q + j.val) (he' : e'.val = q' + j.val) :
    k0_pay7 (k0_pay6 x0 x1) (cols x2 q inb) (k0_pay6 x0 x1) (cols x2 q' inb') (ix2 r j) = proj x0 x1 x2 r e * proj x0 x1 x2 r e' := by
  unfold k0_pay7
  exact congrArg₂ (fun x y : EReal => x * y) (dot_apply x0 x1 x2 q inb r j e he) (dot_apply x0 x1 x2 q' inb' r j e' he')

/-- A plain product. -/
theorem pay8_apply (r j : Fin 512) (e : Fin 3584) (he : e.val = q + j.val) :
    k0_pay8 (k0_pay6 x0 x1) (cols x2 q inb) (ix2 r j) = proj x0 x1 x2 r e := by
  unfold k0_pay8
  exact dot_apply x0 x1 x2 q inb r j e he

/-- The convolution's gate. -/
theorem pay9_apply (r j : Fin 512) (e : Fin 3584) (he : e.val = q + j.val) :
    k0_pay9 (k0_pay6 x0 x1) (cols x2 q inb) (ix2 r j) = silu (proj x0 x1 x2 r e) := by
  rw [← dot_apply x0 x1 x2 q inb r j e he, ← silu_eq]
  rfl

/-- The spatial unit's gate. -/
theorem pay10_apply (r j : Fin 512) (e : Fin 3584) (he : e.val = q + j.val) :
    k0_pay10 (k0_pay6 x0 x1) (cols x2 q inb) (ix2 r j) = silu (proj x0 x1 x2 r e) := by
  rw [← dot_apply x0 x1 x2 q inb r j e he, ← silu_eq]
  rfl

/-- The spatial unit's first half. -/
theorem pay13_apply (r j : Fin 512) (e : Fin 3584) (he : e.val = q + j.val) :
    k0_pay13 (k0_pay11 (k0_pay6 x0 x1) (cols x2 q inb)) (k0_pay12 (k0_pay6 x0 x1) (cols x2 q inb))
      (Scalar.ofBits (F := Ideal) .f32 0x3F3504F3#32) (ix2 r j) = gelu (proj x0 x1 x2 r e) := by
  rw [← dot_apply x0 x1 x2 q inb r j e he, ← gelu_eq]
  rfl

/-- The spatial unit's second half. -/
theorem pay14_apply (r j : Fin 512) (e : Fin 3584) (he : e.val = q + j.val) :
    k0_pay14 (k0_pay6 x0 x1) (cols x2 q inb) (ix2 r j) = gelu (proj x0 x1 x2 r e) := by
  rw [← dot_apply x0 x1 x2 q inb r j e he, ← gelu_eq]
  rfl

/-! ## The spatial gating unit -/

/-- Row `q` of the `n`-th chunk of a block. -/
def chunk (n : Fin 4) (q : Fin 128) : Fin 512 := ⟨128 * n.val + q.val, by omega⟩

/-- A group of 128 columns, scaled to unit mean square and weighted. -/
def scaled (V : FVec Ideal S512x512 .f32) (o : ℕ) (hs : S512x512.Slices ![0, o] S512x128) (w : Vec Ideal S1x128 .f32) : FVec Ideal S512x128 .f32 :=
  have v := extractStridedSlice S512x128 ![0, o] V hs
  mulf (mulf v (broadcastTo S512x128 (rsqrt (addf (divf (shapeCast S512x1
    (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 w broadcasts_S1x128_S512x128)

theorem scaled_apply (V : FVec Ideal S512x512 .f32) (o : ℕ) (hs) (w : Vec Ideal S1x128 .f32) (r : Fin 512) (c : Fin 128)
    (e : Fin 128 → Fin 512) (he : ∀ k, (e k).val = o + k.val) :
    scaled V o hs w (ix2 r c) = norm 0x43000000#32 (fun k : Fin 128 => V (ix2 r (e k))) c * w (ix2 (0 : Fin 1) c) := by
  unfold scaled
  refine congrArg₂ (fun x y : EReal => x * y) ((norm_apply _ _ _ _ _ _ _).trans ?_) (broadcastTo_1b_ab_apply _ _ _ _)
  refine congrArg (fun f : Fin 128 → EReal => norm 0x43000000#32 f c) (funext fun k => ?_)
  refine extractStridedSlice_apply _ _ _ _ _ fun a => ?_
  fin_cases a
  · exact (Nat.zero_add _).symm
  · exact he k

/-- The four chunks of a group side by side. -/
def stack (V : FVec Ideal S512x128 .f32) : FVec Ideal S128x512 .bf16 :=
  have v : FVec Ideal S512x128 .bf16 := truncf .bf16 V bitsLt_bf16_f32
  concatenate S128x512 1 [⟨S128x128, extractStridedSlice S128x128 ![0, 0] v slices_S512x128_o0_0_S128x128⟩,
    ⟨S128x128, extractStridedSlice S128x128 ![128, 0] v slices_S512x128_o128_0_S128x128⟩,
    ⟨S128x128, extractStridedSlice S128x128 ![256, 0] v slices_S512x128_o256_0_S128x128⟩,
    ⟨S128x128, extractStridedSlice S128x128 ![384, 0] v slices_S512x128_o384_0_S128x128⟩]
    concatenates_S128x128_S128x128_S128x128_S128x128_S128x512_d1

theorem stack_apply (V : FVec Ideal S512x128 .f32) (q : Fin 128) (n : Fin 4) (c : Fin 128) :
    stack V (ix2 q (⟨128 * n.val + c.val, by omega⟩ : Fin 512)) = V (ix2 (chunk n q) c) := by
  have off : ∀ b : Fin 2, b ≠ 1 → ((ix2 q c : S128x128.Idx) b).val
      = ((ix2 q (⟨128 * n.val + c.val, by omega⟩ : Fin 512) : S128x512.Idx) b).val := by
    intro b hb
    fin_cases b
    · rfl
    · exact absurd rfl hb
  have cut : ∀ (o : ℕ) (hs : S512x128.Slices ![o, 0] S128x128), o = 128 * n.val →
      extractStridedSlice S128x128 ![o, 0] (truncf .bf16 V bitsLt_bf16_f32 : FVec Ideal S512x128 .bf16) hs (ix2 q c) = V (ix2 (chunk n q) c) := by
    intro o hs ho
    refine extractStridedSlice_apply _ _ _ _ _ fun a => ?_
    fin_cases a
    · exact congrArg (· + q.val) ho.symm
    · exact (Nat.zero_add _).symm
  let v : FVec Ideal S512x128 .bf16 := truncf .bf16 V bitsLt_bf16_f32
  let xs : List ((s : Shape) × (s.Idx → EReal)) := [⟨S128x128, extractStridedSlice S128x128 ![0, 0] v slices_S512x128_o0_0_S128x128⟩,
    ⟨S128x128, extractStridedSlice S128x128 ![128, 0] v slices_S512x128_o128_0_S128x128⟩,
    ⟨S128x128, extractStridedSlice S128x128 ![256, 0] v slices_S512x128_o256_0_S128x128⟩,
    ⟨S128x128, extractStridedSlice S128x128 ![384, 0] v slices_S512x128_o384_0_S128x128⟩]
  unfold stack
  fin_cases n
  · exact (concatenate_apply_piece 1 xs concatenates_S128x128_S128x128_S128x128_S128x128_S128x512_d1 _ 0 (show 0 < 4 by decide) S128x128 _ rfl rfl 0 rfl (ix2 q c) off rfl).trans (cut 0 _ rfl)
  · exact (concatenate_apply_piece 1 xs concatenates_S128x128_S128x128_S128x128_S128x128_S128x512_d1 _ 1 (show 1 < 4 by decide) S128x128 _ rfl rfl 128 rfl (ix2 q c) off rfl).trans (cut 128 _ rfl)
  · exact (concatenate_apply_piece 1 xs concatenates_S128x128_S128x128_S128x128_S128x128_S128x512_d1 _ 2 (show 2 < 4 by decide) S128x128 _ rfl rfl 256 rfl (ix2 q c) off rfl).trans (cut 256 _ rfl)
  · exact (concatenate_apply_piece 1 xs concatenates_S128x128_S128x128_S128x128_S128x128_S128x512_d1 _ 3 (show 3 < 4 by decide) S128x128 _ rfl rfl 384 rfl (ix2 q c) off rfl).trans (cut 384 _ rfl)

/-- A group's matrix times its chunks, plus the bias. -/
def gate (V : FVec Ideal S512x128 .f32) (sw : Vec Ideal S1x128x128 .bf16) (sb : Vec Ideal S128x1 .f32) : FVec Ideal S128x512 .f32 :=
  addf (matmul dot_S128x128_S128x512_S128x512_1_0_0_1_n_n none
      (shapeCast S128x128 sw shapeCasts_S1x128x128_S128x128 : FVec Ideal S128x128 .bf16) (stack V) (constant S128x512 .f32 0x00000000#32))
    (broadcastTo S128x512 sb broadcasts_S128x1_S128x512)

theorem gate_apply (V : FVec Ideal S512x128 .f32) (sw : Vec Ideal S1x128x128 .bf16) (sb : Vec Ideal S128x1 .f32) (p : Fin 128) (n : Fin 4) (c : Fin 128) :
    gate V sw sb (ix2 p (⟨128 * n.val + c.val, by omega⟩ : Fin 512))
      = (∑ q : Fin 128, sw (ix3 (0 : Fin 1) p q) * V (ix2 (chunk n q) c)) + sb (ix2 p (0 : Fin 1)) := by
  unfold gate
  refine congrArg₂ (fun x y : EReal => x + y) ?_ (column_apply sb _ _ _)
  refine Eq.trans (b := ∑ q : Fin 128, shapeCast S128x128 sw shapeCasts_S1x128x128_S128x128 (ix2 p q)
      * stack V (ix2 q (⟨128 * n.val + c.val, by omega⟩ : Fin 512))) ?_
    (Finset.sum_congr rfl fun q _ => congrArg₂ (fun x y : EReal => x * y) (shapeCast_1ab_ab_apply sw _ p q) (stack_apply V q n c))
  simp only [matmul]
  rw [Ideal.matmul_constant_zero_apply, ← (contrEquiv1 dot_S128x128_S128x512_S128x512_1_0_0_1_n_n 128 rfl rfl).sum_comp]
  refine Finset.sum_congr rfl fun q _ => ?_
  exact congrArg₂ (fun x y : EReal => x * y) (congrArg (shapeCast S128x128 sw _) (Shape.idx_ext₂ rfl rfl)) (congrArg (stack V) (Shape.idx_ext₂ rfl rfl))

/-- A tile of the first half times a tile of the gate. -/
theorem tile_apply (U : FVec Ideal S512x512 .f32) (s : FVec Ideal S128x512 .f32) (a b d : ℕ) (hU : S512x512.Slices ![a, b] S128x128)
    (hs : S128x512.Slices ![0, d] S128x128) (p c : Fin 128) (r e f : Fin 512) (hr : r.val = a + p.val) (he : e.val = b + c.val)
    (hf : f.val = d + c.val) :
    mulf (extractStridedSlice S128x128 ![a, b] U hU) (extractStridedSlice S128x128 ![0, d] s hs) (ix2 p c) = U (ix2 r e) * s (ix2 p f) := by
  refine congrArg₂ (fun x y : EReal => x * y) ?_ ?_
  · refine extractStridedSlice_apply _ _ _ _ _ fun x => ?_
    fin_cases x
    · exact hr
    · exact he
  · refine extractStridedSlice_apply _ _ _ _ _ fun x => ?_
    fin_cases x
    · exact (Nat.zero_add _).symm
    · exact hf

end Cert.Kernel3Ideal.Value

end
-- ==== Proof.RestPoint.lean ====
/-
  What one grid point of the second input projection leaves in its result blocks, read at an index.
-/
module

public import proofs.«01_k».proof.Proof.RestStep
public import proofs.«01_k».proof.Proof.Gen.Kernel3Ideal.Frame

@[expose] public section

noncomputable section

open Idealize.ShloMosaic Idealize.ShloMosaic.ValueIdx Idealize.SL.Sem

namespace Cert.Kernel3Ideal.Value

open Cert.Kernel3Ideal Cert.Kernel3Ideal.Gen Cert.Rows Cert.Projection Cert.Views

/-- A rectangle that is a whole block leaves an index alone. -/
theorem idx_whole {a b : ℕ} (inb) (y : (⟨2, ![a, b]⟩ : Shape).Idx) :
    (Rect.unit (s := ⟨2, ![a, b]⟩) ![0, 0] ![a, b] inb).idx y = y := by
  refine funext fun x => Fin.ext ?_
  refine (Rect.idx_unit_val _ _ _ _ _).trans ?_
  fin_cases x <;> simp

variable (x0 : Vec Ideal S512x2048 .f32) (x1 : Vec Ideal S1x2048 .f32) (x2 : Vec Ideal S2048x3584 .bf16) (x3 : Vec Ideal S1x512 .f32)
  (x4 : Vec Ideal S4x128x128 .bf16) (x5 : Vec Ideal S128x4 .f32)

/-- The row of the block that is row `q` of row `r`'s chunk. -/
def sameChunk (r : Fin 512) (q : Fin 128) : Fin 512 := ⟨r.val / 128 * 128 + q.val, by omega⟩

/-- The spatial unit on a block. -/
def blockSpatial (y : S512x512.Idx) : EReal :=
  spatial (a := 512) x0 x1 x2 x3 x4 x5 (y 0) (sameChunk (y 0)) ⟨(y 0).val % 128, Nat.mod_lt _ (by decide)⟩ (y 1)

/-- A group's gate, at row `p` and column `c` of chunk `n`. -/
theorem gate_block (g n : Fin 4) (o : ℕ) (ho : o = 128 * g.val) (hs) (inb inw inm inc) (p c : Fin 128) (j : Fin 512) (hj : j.val = o + c.val) :
    gate (scaled (k0_pay14 (k0_pay6 x0 x1) (cols x2 2560 inb)) o hs (View.ld x3 (Rect.unit (s := S1x512) ![0, o] ![1, 128] inw)))
        (View.ld x4 (Rect.unit (s := S4x128x128) ![g.val, 0, 0] ![1, 128, 128] inm))
        (View.ld x5 (Rect.unit (s := S128x4) ![0, g.val] ![128, 1] inc)) (ix2 p (⟨128 * n.val + c.val, by omega⟩ : Fin 512))
      = (∑ q : Fin 128, x4 (ix3 g p q) * unit (fun e => gelu (proj x0 x1 x2 (chunk n q) ⟨2560 + e.val, by omega⟩)) x3 j) + x5 (ix2 p g) := by
  refine (gate_apply _ _ _ p n c).trans ?_
  refine congrArg₂ (fun x y : EReal => x + y) (Finset.sum_congr rfl fun q _ => congrArg₂ (fun x y : EReal => x * y) ?_ ?_) ?_
  · refine congrArg x4 (funext fun a => Fin.ext ?_)
    refine (Rect.idx_unit_val _ _ _ _ _).trans ?_
    fin_cases a <;> simp [ix3]
  · refine (scaled_apply _ o hs _ (chunk n q) c (lane j) fun k => by unfold lane; dsimp only; omega).trans ?_
    unfold unit
    refine congrArg₂ (fun x y : EReal => x * y) ?_ (ld_part (p := 0) (q := o) x3 inw (0 : Fin 1) c (0 : Fin 1) j rfl hj)
    have hc : (⟨j.val % 128, Nat.mod_lt _ (by decide)⟩ : Fin 128) = c := Fin.ext (by dsimp only; omega)
    rw [hc]
    exact congrArg (fun f : Fin 128 → EReal => norm 0x43000000#32 f c) (funext fun k => pay14_apply x0 x1 x2 2560 inb _ _ _ rfl)
  · exact ld_part (p := 0) (q := g.val) x5 inc p (0 : Fin 1) p g (Nat.zero_add _).symm rfl

/-- A tile the body stores is the unit's. -/
theorem piece (g n : Fin 4) (a b : ℕ) (ha : a = 128 * n.val) (hb : b = 128 * g.val) (hU hs' hs) (inb' inb inw inm inc int) (x : S128x128.Idx) :
    mulf (extractStridedSlice S128x128 ![a, b] (k0_pay13 (k0_pay11 (k0_pay6 x0 x1) (cols x2 2048 inb')) (k0_pay12 (k0_pay6 x0 x1) (cols x2 2048 inb'))
        (Scalar.ofBits (F := Ideal) .f32 0x3F3504F3#32)) hU)
      (extractStridedSlice S128x128 ![0, a]
        (gate (scaled (k0_pay14 (k0_pay6 x0 x1) (cols x2 2560 inb)) b hs (View.ld x3 (Rect.unit (s := S1x512) ![0, b] ![1, 128] inw)))
          (View.ld x4 (Rect.unit (s := S4x128x128) ![g.val, 0, 0] ![1, 128, 128] inm))
          (View.ld x5 (Rect.unit (s := S128x4) ![0, g.val] ![128, 1] inc))) hs') x
      = blockSpatial x0 x1 x2 x3 x4 x5 ((Rect.unit (s := S512x512) ![a, b] ![128, 128] int).emb x) := by
  obtain ⟨p, c, rfl⟩ : ∃ p c, x = ix2 p c := ⟨x 0, x 1, eq_ix2 x⟩
  have hy : (Rect.unit (s := S512x512) ![a, b] ![128, 128] int).emb (ix2 p c)
      = ix2 (⟨a + p.val, by omega⟩ : Fin 512) (⟨b + c.val, by omega⟩ : Fin 512) := by
    refine funext fun k => Fin.ext ?_
    refine (Rect.idx_unit_val _ _ _ _ _).trans ?_
    fin_cases k <;> simp [ix2]
  rw [hy]
  refine (tile_apply _ _ a b a hU hs' p c ⟨a + p.val, by omega⟩ ⟨b + c.val, by omega⟩ ⟨128 * n.val + c.val, by omega⟩ rfl rfl (by dsimp only; omega)).trans ?_
  unfold blockSpatial spatial
  refine congrArg₂ (fun x y : EReal => x * y) (pay13_apply x0 x1 x2 2048 inb' _ _ _ rfl) ?_
  refine (gate_block x0 x1 x2 x3 x4 x5 g n b hb hs inb inw inm inc p c ⟨b + c.val, by omega⟩ rfl).trans ?_
  have hg : (⟨(b + c.val) / 128, by omega⟩ : Fin 4) = g := Fin.ext (by dsimp only; omega)
  have hp : (⟨(a + p.val) % 128, Nat.mod_lt _ (by decide)⟩ : Fin 128) = p := Fin.ext (by dsimp only; omega)
  have hq : ∀ q, sameChunk (⟨a + p.val, by omega⟩ : Fin 512) q = chunk n q := fun q => Fin.ext (by unfold sameChunk chunk; dsimp only; omega)
  simp only [hg, hp, hq]

variable (c : Dev nD) (i : grid0.Coords)
  (arg1 : Memref sig .tc .vmem S512x2048 .f32) (harg1 : arg1.IsWhole)
  (arg2 : Memref sig .tc .vmem S1x2048 .f32) (harg2 : arg2.IsWhole)
  (arg3 : Memref sig .tc .vmem S2048x3584 .bf16) (harg3 : arg3.IsWhole)
  (arg4 : Memref sig .tc .vmem S1x512 .f32) (harg4 : arg4.IsWhole)
  (arg5 : Memref sig .tc .vmem S4x128x128 .bf16) (harg5 : arg5.IsWhole)
  (arg6 : Memref sig .tc .vmem S128x4 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x512 .f32) (harg10 : arg10.IsWhole)
  (arg11 : Memref sig .tc .vmem S512x512 .f32) (harg11 : arg11.IsWhole)
  (arg12 : Memref sig .tc .vmem S512x2048 .bf16) (harg12 : arg12.IsWhole)

/-- The convolution's input, at a row and a column. -/
theorem out_A_6 (r j : Fin 512) :
    out0_A_6 c i arg1 harg1 arg2 harg2 arg3 harg3 arg4 harg4 arg5 harg5 arg6 harg6 arg7 harg7 arg8 harg8 arg9 harg9 arg10 harg10 arg11 harg11 arg12 harg12
      x0 x1 x2 x3 x4 x5 (ix2 r j) = proj x0 x1 x2 r ⟨1024 + j.val, by omega⟩ * proj x0 x1 x2 r ⟨j.val, by omega⟩ := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12
    x0 x1 x2 x3 x4 x5)]
  unfold kernelRun0_A
  dsimp only
  sl_unfold_words
  simp (discharger := decide) only [View.readAt_eq_ld, Memref.IsWhole.read_unread, View.readCov_eq_canon', ld_whole, canon_whole, idx_whole]
  exact pay7_apply x0 x1 x2 1024 _ 0 _ r j _ _ rfl (Nat.zero_add _).symm

/-- The plain columns, at a row and a column. -/
theorem out_A_7 (r j : Fin 512) :
    out0_A_7 c i arg1 harg1 arg2 harg2 arg3 harg3 arg4 harg4 arg5 harg5 arg6 harg6 arg7 harg7 arg8 harg8 arg9 harg9 arg10 harg10 arg11 harg11 arg12 harg12
      x0 x1 x2 x3 x4 x5 (ix2 r j) = proj x0 x1 x2 r ⟨512 + j.val, by omega⟩ := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12
    x0 x1 x2 x3 x4 x5)]
  unfold kernelRun0_A
  dsimp only
  sl_unfold_words
  simp (discharger := decide) only [View.readAt_eq_ld, Memref.IsWhole.read_unread, View.readCov_eq_canon', ld_whole, canon_whole, idx_whole]
  exact pay8_apply x0 x1 x2 512 _ r j _ rfl

/-- The convolution's gate, at a row and a column. -/
theorem out_A_8 (r j : Fin 512) :
    out0_A_8 c i arg1 harg1 arg2 harg2 arg3 harg3 arg4 harg4 arg5 harg5 arg6 harg6 arg7 harg7 arg8 harg8 arg9 harg9 arg10 harg10 arg11 harg11 arg12 harg12
      x0 x1 x2 x3 x4 x5 (ix2 r j) = silu (proj x0 x1 x2 r ⟨1536 + j.val, by omega⟩) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12
    x0 x1 x2 x3 x4 x5)]
  unfold kernelRun0_A
  dsimp only
  sl_unfold_words
  simp (discharger := decide) only [View.readAt_eq_ld, Memref.IsWhole.read_unread, View.readCov_eq_canon', ld_whole, canon_whole, idx_whole]
  exact pay9_apply x0 x1 x2 1536 _ r j _ rfl

/-- The spatial unit's gate, at a row and a column. -/
theorem out_A_10 (r j : Fin 512) :
    out0_A_10 c i arg1 harg1 arg2 harg2 arg3 harg3 arg4 harg4 arg5 harg5 arg6 harg6 arg7 harg7 arg8 harg8 arg9 harg9 arg10 harg10 arg11 harg11 arg12 harg12
      x0 x1 x2 x3 x4 x5 (ix2 r j) = silu (proj x0 x1 x2 r ⟨3072 + j.val, by omega⟩) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12
    x0 x1 x2 x3 x4 x5)]
  unfold kernelRun0_A
  dsimp only
  sl_unfold_words
  simp (discharger := decide) only [View.readAt_eq_ld, Memref.IsWhole.read_unread, View.readCov_eq_canon', ld_whole, canon_whole, idx_whole]
  exact pay10_apply x0 x1 x2 3072 _ r j _ rfl

/-- The spatial unit, at a row and a column: every tile the body stores is the unit's. -/
theorem out_A_9 (y : S512x512.Idx) :
    out0_A_9 c i arg1 harg1 arg2 harg2 arg3 harg3 arg4 harg4 arg5 harg5 arg6 harg6 arg7 harg7 arg8 harg8 arg9 harg9 arg10 harg10 arg11 harg11 arg12 harg12
      x0 x1 x2 x3 x4 x5 y = blockSpatial x0 x1 x2 x3 x4 x5 y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12
    x0 x1 x2 x3 x4 x5)]
  refine View.canon_apply_of_pieces (blockSpatial x0 x1 x2 x3 x4 x5) _ ?_ y (cover0_A_9 c i arg1 harg1 arg2 harg2 arg3 harg3 arg4 harg4 arg5 harg5 arg6 harg6 arg7 harg7 arg8 harg8 arg9 harg9 arg10 harg10 arg11 harg11 arg12 harg12
    x0 x1 x2 x3 x4 x5 y)
  unfold kernelRun0_A
  dsimp only
  sl_unfold_words
  simp (discharger := decide) only [View.readAt_eq_ld, Memref.IsWhole.read_unread, View.readCov_eq_canon', ld_whole, canon_whole, idx_whole, List.forall_mem_cons]
  exact ⟨fun x => piece x0 x1 x2 x3 x4 x5 3 3 384 384 rfl rfl _ _ _ _ _ _ _ _ _ x,
    fun x => piece x0 x1 x2 x3 x4 x5 3 2 256 384 rfl rfl _ _ _ _ _ _ _ _ _ x,
    fun x => piece x0 x1 x2 x3 x4 x5 3 1 128 384 rfl rfl _ _ _ _ _ _ _ _ _ x,
    fun x => piece x0 x1 x2 x3 x4 x5 3 0 0 384 rfl rfl _ _ _ _ _ _ _ _ _ x,
    fun x => piece x0 x1 x2 x3 x4 x5 2 3 384 256 rfl rfl _ _ _ _ _ _ _ _ _ x,
    fun x => piece x0 x1 x2 x3 x4 x5 2 2 256 256 rfl rfl _ _ _ _ _ _ _ _ _ x,
    fun x => piece x0 x1 x2 x3 x4 x5 2 1 128 256 rfl rfl _ _ _ _ _ _ _ _ _ x,
    fun x => piece x0 x1 x2 x3 x4 x5 2 0 0 256 rfl rfl _ _ _ _ _ _ _ _ _ x,
    fun x => piece x0 x1 x2 x3 x4 x5 1 3 384 128 rfl rfl _ _ _ _ _ _ _ _ _ x,
    fun x => piece x0 x1 x2 x3 x4 x5 1 2 256 128 rfl rfl _ _ _ _ _ _ _ _ _ x,
    fun x => piece x0 x1 x2 x3 x4 x5 1 1 128 128 rfl rfl _ _ _ _ _ _ _ _ _ x,
    fun x => piece x0 x1 x2 x3 x4 x5 1 0 0 128 rfl rfl _ _ _ _ _ _ _ _ _ x,
    fun x => piece x0 x1 x2 x3 x4 x5 0 3 384 0 rfl rfl _ _ _ _ _ _ _ _ _ x,
    fun x => piece x0 x1 x2 x3 x4 x5 0 2 256 0 rfl rfl _ _ _ _ _ _ _ _ _ x,
    fun x => piece x0 x1 x2 x3 x4 x5 0 1 128 0 rfl rfl _ _ _ _ _ _ _ _ _ x,
    fun x => piece x0 x1 x2 x3 x4 x5 0 0 0 0 rfl rfl _ _ _ _ _ _ _ _ _ x,
    fun p hp => nomatch hp⟩

end Cert.Kernel3Ideal.Value

end
-- ==== Proof.RestBlocks.lean ====
/-
  The second input projection's result arrays: every grid point stores 512 rows of each of the five.
-/
module

public import proofs.«01_k».proof.Proof.RestPoint
public import proofs.«01_k».proof.Proof.Gen.Kernel3Ideal.Value
public import Idealize.ShloMosaic.Lib.Pipeline.ValueKit.Geometry

@[expose] public section

noncomputable section

open Idealize.ShloMosaic Idealize.ShloMosaic.ValueIdx Idealize.ShloMosaic.TcCoe Idealize.SL.Sem
open Idealize.ShloMosaic.Pipeline (Dat)

namespace Cert.Kernel3Ideal.Value

open Cert.Kernel3Ideal Cert.Kernel3Ideal.Gen Cert.Rows Cert.Projection
open Cert.Mix (Mat)

/-! ## Which block each point sees -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)

theorem lt_32 (t : Fin cfg0.N) : t.val < 32 := N_0 ▸ t.isLt

/-- The row of the arrays that is row `r` of point `t`'s blocks. -/
def row (t : Fin cfg0.N) (r : Fin 512) : Fin 16384 := ⟨512 * t.val + r.val, by have := lt_32 t; omega⟩

variable (m : (ℓ : Loc nD τ sig) → Buf (Elt Ideal) ℓ) (c : Dev nD) (t : Fin cfg0.N)

theorem iblk_0_apply (r : Fin 512) (j : Fin 2048) :
    (iblk m c 0 t : Vec Ideal S512x2048 .f32) (ix2 r j) = (V m c main_arg0 : Mat 16384 2048) (ix2 (row t r) j) := by
  blk_simp [iblk]
  refine congrArg (V m c main_arg0) (funext fun a => Fin.ext ?_)
  fin_cases a <;> blk_simp [index_0] <;> simp [ix2, row] <;> omega

theorem iblk_1_apply (y : S1x2048.Idx) : (iblk m c 1 t : Vec Ideal S1x2048 .f32) y = (V m c main_arg1 : Mat 1 2048) y := by
  blk_simp [iblk]
  refine congrArg (V m c main_arg1) (funext fun a => Fin.ext ?_)
  fin_cases a <;> blk_simp [index_1]

theorem iblk_2_apply (y : S2048x3584.Idx) : (iblk m c 2 t : Vec Ideal S2048x3584 .bf16) y = (V m c main_arg2 : Mat 2048 3584) y := by
  blk_simp [iblk]
  refine congrArg (V m c main_arg2) (funext fun a => Fin.ext ?_)
  fin_cases a <;> blk_simp [index_2]

theorem iblk_3_apply (y : S1x512.Idx) : (iblk m c 3 t : Vec Ideal S1x512 .f32) y = (V m c main_arg3 : Mat 1 512) y := by
  blk_simp [iblk]
  refine congrArg (V m c main_arg3) (funext fun a => Fin.ext ?_)
  fin_cases a <;> blk_simp [index_3]

theorem iblk_4_apply (y : S4x128x128.Idx) : (iblk m c 4 t : Vec Ideal S4x128x128 .bf16) y = (V m c main_arg4 : S4x128x128.Idx → EReal) y := by
  blk_simp [iblk]
  refine congrArg (V m c main_arg4) (funext fun a => Fin.ext ?_)
  fin_cases a <;> blk_simp [index_4]

theorem iblk_5_apply (y : S128x4.Idx) : (iblk m c 5 t : Vec Ideal S128x4 .f32) y = (V m c main_arg5 : Mat 128 4) y := by
  blk_simp [iblk]
  refine congrArg (V m c main_arg5) (funext fun a => Fin.ext ?_)
  fin_cases a <;> blk_simp [index_5]

/-! ## The rows of a block are rows of the arrays -/

theorem proj_eq (r : Fin 512) (e : Fin 3584) :
    proj (a := 512) (n := 3584) (iblk m c 0 t) (iblk m c 1 t) (iblk m c 2 t) r e
      = proj (a := 16384) (n := 3584) (V m c main_arg0) (V m c main_arg1) (V m c main_arg2) (row t r) e := by
  unfold proj Cert.Projection.hidden
  simp only [iblk_0_apply, iblk_1_apply, iblk_2_apply]

theorem blockSpatial_eq (r j : Fin 512) :
    blockSpatial (iblk m c 0 t) (iblk m c 1 t) (iblk m c 2 t) (iblk m c 3 t) (iblk m c 4 t) (iblk m c 5 t) (ix2 r j)
      = spatialOut (V m c main_arg0) (V m c main_arg1) (V m c main_arg2) (V m c main_arg3) (V m c main_arg4) (V m c main_arg5) (row t r) j := by
  have hp : (⟨(row t r).val % 128, Nat.mod_lt _ (by decide)⟩ : Fin 128) = ⟨r.val % 128, Nat.mod_lt _ (by decide)⟩ :=
    Fin.ext (by simp only [row]; omega)
  have hq : ∀ q, chunkRow (row t r) q = row t (sameChunk r q) := fun q => Fin.ext (by simp only [chunkRow, sameChunk, row]; omega)
  unfold blockSpatial spatialOut spatial unit
  rw [hp]
  simp only [proj_eq, iblk_3_apply, iblk_4_apply, iblk_5_apply, hq]

/-! ## The results -/

/-- The convolution's input, as an array. -/
def convInput : S16384x512.Idx → EReal := fun y =>
  proj (a := 16384) (n := 3584) (V m c main_arg0) (V m c main_arg1) (V m c main_arg2) (y 0) ⟨1024 + (y 1).val, by have h := (y 1).isLt; change _ < 512 at h; omega⟩
    * proj (a := 16384) (n := 3584) (V m c main_arg0) (V m c main_arg1) (V m c main_arg2) (y 0) ⟨(y 1).val, by have h := (y 1).isLt; change _ < 512 at h; omega⟩

/-- The convolution's outer factor, as an array. -/
def convFactor : S16384x512.Idx → EReal := fun y =>
  proj (a := 16384) (n := 3584) (V m c main_arg0) (V m c main_arg1) (V m c main_arg2) (y 0) ⟨512 + (y 1).val, by have h := (y 1).isLt; change _ < 512 at h; omega⟩

/-- The convolution's gate, as an array. -/
def convGate : S16384x512.Idx → EReal := fun y =>
  silu (proj (a := 16384) (n := 3584) (V m c main_arg0) (V m c main_arg1) (V m c main_arg2) (y 0) ⟨1536 + (y 1).val, by have h := (y 1).isLt; change _ < 512 at h; omega⟩)

/-- The spatial unit's output, as an array. -/
def spatialArray : S16384x512.Idx → EReal := fun y =>
  spatialOut (V m c main_arg0) (V m c main_arg1) (V m c main_arg2) (V m c main_arg3) (V m c main_arg4) (V m c main_arg5) (y 0) (y 1)

/-- The spatial unit's gate, as an array. -/
def spatialGate : S16384x512.Idx → EReal := fun y =>
  silu (proj (a := 16384) (n := 3584) (V m c main_arg0) (V m c main_arg1) (V m c main_arg2) (y 0) ⟨3072 + (y 1).val, by have h := (y 1).isLt; change _ < 512 at h; omega⟩)

/-- The convolution's input after the run. -/
theorem final_6 : (dats m 0 c).arrAt 6 cfg0.N = convInput m c := by
  refine (dats m 0 c).arrAt_eq_of_covers 6 _ (by decide +kernel) fun t hf y => ?_
  blk_simp
  rw [after0_6]
  obtain ⟨r, j, e⟩ : ∃ (r : Fin 512) (j : Fin 512), (y : S512x512.Idx) = ix2 r j := ⟨_, _, eq_ix2 (y : S512x512.Idx)⟩
  have e1 : ((outsAt0 m c t).1 : Vec Ideal S512x512 .f32) (ix2 r j) = convInput m c (ix2 (row t r) j) := by
    unfold outsAt0
    dsimp only
    rw [out_A_6]
    simp only [proj_eq]
    rfl
  have e2 : (win0_6.blk t).view.emb (ix2 r j) = (ix2 (row t r) j : S16384x512.Idx) := by
    refine funext fun a => Fin.ext ?_
    fin_cases a <;> blk_simp [index_6] <;> simp [ix2, row] <;> omega
  rw [← e2, ← e] at e1
  exact e1

/-- The convolution's outer factor after the run. -/
theorem final_7 : (dats m 0 c).arrAt 7 cfg0.N = convFactor m c := by
  refine (dats m 0 c).arrAt_eq_of_covers 7 _ (by decide +kernel) fun t hf y => ?_
  blk_simp
  rw [after0_7]
  obtain ⟨r, j, e⟩ : ∃ (r : Fin 512) (j : Fin 512), (y : S512x512.Idx) = ix2 r j := ⟨_, _, eq_ix2 (y : S512x512.Idx)⟩
  have e1 : ((outsAt0 m c t).2.1 : Vec Ideal S512x512 .f32) (ix2 r j) = convFactor m c (ix2 (row t r) j) := by
    unfold outsAt0
    dsimp only
    rw [out_A_7]
    simp only [proj_eq]
    rfl
  have e2 : (win0_7.blk t).view.emb (ix2 r j) = (ix2 (row t r) j : S16384x512.Idx) := by
    refine funext fun a => Fin.ext ?_
    fin_cases a <;> blk_simp [index_7] <;> simp [ix2, row] <;> omega
  rw [← e2, ← e] at e1
  exact e1

/-- The convolution's gate after the run. -/
theorem final_8 : (dats m 0 c).arrAt 8 cfg0.N = convGate m c := by
  refine (dats m 0 c).arrAt_eq_of_covers 8 _ (by decide +kernel) fun t hf y => ?_
  blk_simp
  rw [after0_8]
  obtain ⟨r, j, e⟩ : ∃ (r : Fin 512) (j : Fin 512), (y : S512x512.Idx) = ix2 r j := ⟨_, _, eq_ix2 (y : S512x512.Idx)⟩
  have e1 : ((outsAt0 m c t).2.2.1 : Vec Ideal S512x512 .f32) (ix2 r j) = convGate m c (ix2 (row t r) j) := by
    unfold outsAt0
    dsimp only
    rw [out_A_8]
    simp only [proj_eq]
    rfl
  have e2 : (win0_8.blk t).view.emb (ix2 r j) = (ix2 (row t r) j : S16384x512.Idx) := by
    refine funext fun a => Fin.ext ?_
    fin_cases a <;> blk_simp [index_8] <;> simp [ix2, row] <;> omega
  rw [← e2, ← e] at e1
  exact e1

/-- The spatial unit's output after the run. -/
theorem final_9 : (dats m 0 c).arrAt 9 cfg0.N = spatialArray m c := by
  refine (dats m 0 c).arrAt_eq_of_covers 9 _ (by decide +kernel) fun t hf y => ?_
  blk_simp
  rw [after0_9]
  obtain ⟨r, j, e⟩ : ∃ (r : Fin 512) (j : Fin 512), (y : S512x512.Idx) = ix2 r j := ⟨_, _, eq_ix2 (y : S512x512.Idx)⟩
  have e1 : ((outsAt0 m c t).2.2.2.1 : Vec Ideal S512x512 .f32) (ix2 r j) = spatialArray m c (ix2 (row t r) j) := by
    unfold outsAt0
    dsimp only
    rw [out_A_9, blockSpatial_eq]
    rfl
  have e2 : (win0_9.blk t).view.emb (ix2 r j) = (ix2 (row t r) j : S16384x512.Idx) := by
    refine funext fun a => Fin.ext ?_
    fin_cases a <;> blk_simp [index_9] <;> simp [ix2, row] <;> omega
  rw [← e2, ← e] at e1
  exact e1

/-- The spatial unit's gate after the run. -/
theorem final_10 : (dats m 0 c).arrAt 10 cfg0.N = spatialGate m c := by
  refine (dats m 0 c).arrAt_eq_of_covers 10 _ (by decide +kernel) fun t hf y => ?_
  blk_simp
  rw [after0_10]
  obtain ⟨r, j, e⟩ : ∃ (r : Fin 512) (j : Fin 512), (y : S512x512.Idx) = ix2 r j := ⟨_, _, eq_ix2 (y : S512x512.Idx)⟩
  have e1 : ((outsAt0 m c t).2.2.2.2 : Vec Ideal S512x512 .f32) (ix2 r j) = spatialGate m c (ix2 (row t r) j) := by
    unfold outsAt0
    dsimp only
    rw [out_A_10]
    simp only [proj_eq]
    rfl
  have e2 : (win0_10.blk t).view.emb (ix2 r j) = (ix2 (row t r) j : S16384x512.Idx) := by
    refine funext fun a => Fin.ext ?_
    fin_cases a <;> blk_simp [index_10] <;> simp [ix2, row] <;> omega
  rw [← e2, ← e] at e1
  exact e1

end Cert.Kernel3Ideal.Value

end
-- ==== Proof.RestReference.lean ====
/-
  The second input projection's reference, operation by operation: its five results are the projection's.
-/
module

public import proofs.«01_k».proof.Proof.Projection
public import proofs.«01_k».proof.Proof.Gen.Reference3Ideal
public import proofs.«01_k».proof.Proof.Gen.Reference3Ideal.Read
public import Idealize.ShloMosaic.Lib.KernelVsHost
public import Idealize.ShloMosaic.Lib.Pipeline.Value

@[expose] public section

noncomputable section

open Idealize.ShloMosaic Idealize.ShloMosaic.ValueIdx Idealize.SL.Sem

namespace Cert.Reference3Ideal.Read

open Cert.Reference3Ideal Cert.Reference3Ideal.Gen Cert.Rows Cert.Projection
open Cert.Mix (Mat)

variable (x0 : Mat 16384 2048) (x1 : Mat 1 2048) (x2 : Mat 2048 3584) (x3 : Mat 1 512) (x4 : S4x128x128.Idx → EReal) (x5 : Mat 128 4)

/-- The normed rows. -/
theorem hidden_apply (T : Fin 16384) (k : Fin 2048) : val_main_v13 (F := Ideal) x0 x1 (ix2 T k) = Cert.Projection.hidden x0 x1 T k := by
  have hk := k.isLt
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v0_apply]
  refine congrArg₂ (fun x y : EReal => x * y) ?_ (congrArg x1 (Shape.idx_ext₂ rfl (Nat.mod_eq_of_lt hk)))
  refine norm_of 0x45000000#32 (fun l : Fin 2048 => x0 (ix2 T l))
    (fun l => val_main_v1 (F := Ideal) x0 (idx_main_v2 (idx_main_v3 (idx_main_v9 (ix2 T k))) l)) k fun l => ?_
  rw [val_main_v1_apply]
  exact congrArg (fun i => x0 i * x0 i) (Shape.idx_ext₂ rfl rfl)

/-- The product with the weight. -/
theorem proj_apply (T : Fin 16384) (e : Fin 3584) : val_main_v15 (F := Ideal) x0 x1 x2 (ix2 T e) = proj x0 x1 x2 T e := by
  rw [val_main_v15_apply]
  refine Finset.sum_congr rfl fun k _ => congrArg₂ (fun x y : EReal => x * y) ?_ ?_
  · rw [(Shape.idx_ext₂ rfl rfl : lidx_main_v15 (ix2 T e) k = ix2 T k)]
    exact hidden_apply x0 x1 T k
  · exact congrArg x2 (Shape.idx_ext₂ rfl rfl)

theorem proj_at (i : S16384x3584.Idx) (T : Fin 16384) (e : Fin 3584) (h : i = ix2 T e) :
    val_main_v15 (F := Ideal) x0 x1 x2 i = proj x0 x1 x2 T e := h ▸ proj_apply x0 x1 x2 T e

variable (T : Fin 16384) (j : Fin 512)

theorem v20_apply : val_main_v20 (F := Ideal) x0 x1 x2 (ix2 T j) = proj x0 x1 x2 T ⟨2048 + j.val, by omega⟩ :=
  (val_main_v20_apply _ _ _ _).trans (proj_at x0 x1 x2 _ _ _ (Shape.idx_ext₂ rfl rfl))

theorem v21_apply : val_main_v21 (F := Ideal) x0 x1 x2 (ix2 T j) = proj x0 x1 x2 T ⟨2560 + j.val, by omega⟩ :=
  (val_main_v21_apply _ _ _ _).trans (proj_at x0 x1 x2 _ _ _ (Shape.idx_ext₂ rfl rfl))

/-- The convolution's input. -/
theorem convInput_apply : val_main_v60 (F := Ideal) x0 x1 x2 (ix2 T j)
    = proj x0 x1 x2 T ⟨1024 + j.val, by omega⟩ * proj x0 x1 x2 T ⟨j.val, by omega⟩ := by
  rw [val_main_v60_apply, val_main_v18_apply, val_main_v16_apply]
  exact congrArg₂ (fun x y : EReal => x * y) (proj_at x0 x1 x2 _ _ _ (Shape.idx_ext₂ rfl rfl)) (proj_at x0 x1 x2 _ _ _ (Shape.idx_ext₂ rfl rfl))

/-- The convolution's outer factor. -/
theorem convFactor_apply : val_main_v17 (F := Ideal) x0 x1 x2 (ix2 T j) = proj x0 x1 x2 T ⟨512 + j.val, by omega⟩ :=
  (val_main_v17_apply _ _ _ _).trans (proj_at x0 x1 x2 _ _ _ (Shape.idx_ext₂ rfl rfl))

/-- The convolution's gate. -/
theorem convGate_apply : val_main_v61 (F := Ideal) x0 x1 x2 (ix2 T j) = silu (proj x0 x1 x2 T ⟨1536 + j.val, by omega⟩) := by
  have h : val_main_v19 (F := Ideal) x0 x1 x2 (ix2 T j) = proj x0 x1 x2 T ⟨1536 + j.val, by omega⟩ :=
    (val_main_v19_apply _ _ _ _).trans (proj_at x0 x1 x2 _ _ _ (Shape.idx_ext₂ rfl rfl))
  simp only [val_main_v61_apply, val_main_call0_v5_apply, val_main_call0_v4_apply, val_main_call0_v3_apply, val_main_call0_v2_apply,
    val_main_call0_v1_apply, val_main_call0_v0_apply, h]
  rfl

/-- The spatial unit's gate. -/
theorem spatialGate_apply : val_main_v64 (F := Ideal) x0 x1 x2 (ix2 T j) = silu (proj x0 x1 x2 T ⟨3072 + j.val, by omega⟩) := by
  have h : val_main_v22 (F := Ideal) x0 x1 x2 (ix2 T j) = proj x0 x1 x2 T ⟨3072 + j.val, by omega⟩ :=
    (val_main_v22_apply _ _ _ _).trans (proj_at x0 x1 x2 _ _ _ (Shape.idx_ext₂ rfl rfl))
  simp only [val_main_v64_apply, val_main_call1_v5_apply, val_main_call1_v4_apply, val_main_call1_v3_apply, val_main_call1_v2_apply,
    val_main_call1_v1_apply, val_main_call1_v0_apply, h]
  rfl

/-- The spatial unit's first half. -/
theorem half_apply : val_main_v29 (F := Ideal) x0 x1 x2 (ix2 T j) = gelu (proj x0 x1 x2 T ⟨2048 + j.val, by omega⟩) := by
  simp only [val_main_v29_apply, val_main_v28_apply, val_main_v27_apply, val_main_v26_apply, val_main_v25_apply, val_main_v24_apply,
    val_main_v23_apply, v20_apply]
  rfl

/-- The spatial unit's second half. -/
theorem other_apply : val_main_v36 (F := Ideal) x0 x1 x2 (ix2 T j) = gelu (proj x0 x1 x2 T ⟨2560 + j.val, by omega⟩) := by
  simp only [val_main_v36_apply, val_main_v35_apply, val_main_v34_apply, val_main_v33_apply, val_main_v32_apply, val_main_v31_apply,
    val_main_v30_apply, v21_apply]
  rfl

/-- The second half by groups. -/
theorem groups_apply (i : S16384x4x128.Idx) (c : Fin 128) (h : i = ix3 T (⟨j.val / 128, by omega⟩ : Fin 4) c) :
    val_main_v37 (F := Ideal) x0 x1 x2 i = gelu (proj x0 x1 x2 T ⟨2560 + (lane j c).val, by omega⟩) := by
  have hc := c.isLt
  have hj := j.isLt
  have hT := T.isLt
  rw [h, val_main_v37_apply, (Shape.idx_ext₂ (by simp [ix2, ix3]; omega) (by simp [ix2, ix3, lane]; omega) :
    idx_main_v37 (ix3 T (⟨j.val / 128, by omega⟩ : Fin 4) c) = ix2 T (lane j c))]
  exact other_apply x0 x1 x2 T (lane j c)

/-- The second half, each group scaled to unit mean square and weighted. -/
theorem unit_apply (i : S16384x4x128.Idx)
    (h : i = ix3 T (⟨j.val / 128, by omega⟩ : Fin 4) (⟨j.val % 128, Nat.mod_lt _ (by decide)⟩ : Fin 128)) :
    val_main_v51 (F := Ideal) x0 x1 x2 x3 i = Cert.Projection.unit (fun e => gelu (proj x0 x1 x2 T ⟨2560 + e.val, by omega⟩)) x3 j := by
  have hj := j.isLt
  subst h
  simp only [val_main_v51_apply, val_main_v50_apply, val_main_v49_apply, val_main_v48_apply, val_main_v47_apply, val_main_v46_apply,
    val_main_v45_apply, val_main_v44_apply, val_main_v43_apply, val_main_v42_apply, val_main_v41_apply, val_main_v40_apply, val_main_v38_apply]
  unfold Cert.Projection.unit
  refine congrArg₂ (fun x y : EReal => x * y) ?_ (congrArg x3 (Shape.idx_ext₂ rfl (by simp [ix2, ix3]; omega)))
  rw [groups_apply x0 x1 x2 T j _ _ rfl]
  refine norm_of 0x43000000#32 (fun k : Fin 128 => gelu (proj x0 x1 x2 T ⟨2560 + (lane j k).val, by omega⟩))
    (fun l => val_main_v39 (F := Ideal) x0 x1 x2 (idx_main_v40 (idx_main_v41 (idx_main_v47
      (ix3 T (⟨j.val / 128, by omega⟩ : Fin 4) (⟨j.val % 128, Nat.mod_lt _ (by decide)⟩ : Fin 128)))) l)) _ fun l => ?_
  rw [val_main_v39_apply, groups_apply x0 x1 x2 T j _ l (by funext a; fin_cases a <;> rfl)]
  rfl

/-- The spatial unit. -/
theorem spatial_apply : val_main_v63 (F := Ideal) x0 x1 x2 x3 x4 x5 (ix2 T j) = spatialOut x0 x1 x2 x3 x4 x5 T j := by
  have hj := j.isLt
  have hT := T.isLt
  rw [val_main_v63_apply, val_main_v62_apply, val_main_v59_apply, val_main_v58_apply, val_main_v57_apply, val_main_v56_apply,
    val_main_v55_apply, val_main_v54_apply]
  unfold spatialOut spatial
  refine congrArg₂ (fun x y : EReal => x * y) (half_apply x0 x1 x2 T j) (congrArg₂ (fun x y : EReal => x + y) ?_ ?_)
  · refine Finset.sum_congr rfl fun q _ => ?_
    have hq := q.isLt
    rw [val_main_v52_apply, val_main_v53_apply]
    refine (mul_comm _ _).trans (congrArg₂ (fun x y : EReal => x * y) (congrArg x4 ?_) (unit_apply x0 x1 x2 x3 (chunkRow T q) j _ ?_))
    · refine funext fun a => Fin.ext ?_
      fin_cases a
      all_goals simp [ix2, ix3]
      all_goals omega
    · refine funext fun a => Fin.ext ?_
      fin_cases a
      all_goals simp [ix2, ix3, chunkRow]
      all_goals omega
  · refine congrArg x5 (Shape.idx_ext₂ ?_ ?_)
    all_goals simp [ix2]
    all_goals omega

end Cert.Reference3Ideal.Read

end
-- ==== Proof.RestClaims.lean ====
/-
  The second input projection's claims: the reference's program leaves the semaphores alone, and kernel and reference agree on
  all five results.
-/
module

public import proofs.«01_k».proof.Defs
public import proofs.«01_k».proof.Proof.RestBlocks
public import proofs.«01_k».proof.Proof.RestReference
public import proofs.«01_k».proof.Proof.Gen.Kernel3Ideal.Frame
public import proofs.«01_k».proof.Proof.Gen.Reference3Ideal.Run

@[expose] public section

noncomputable section

open Idealize.ShloMosaic Idealize.ShloMosaic.ValueIdx Idealize.SL.Sem

namespace Cert.RestProjection

/-- The reference runs to the end, keeps its arguments and leaves every semaphore at zero. -/
theorem frame_reference : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- Kernel and reference, launched on the same arguments, both end with the convolution's input, its outer factor, its gate,
    the spatial unit and its gate. -/
theorem equal : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Value.convInput m c, fun c => Cert.Kernel3Ideal.Value.convFactor m c,
    fun c => Cert.Kernel3Ideal.Value.convGate m c, fun c => Cert.Kernel3Ideal.Value.spatialArray m c,
    fun c => Cert.Kernel3Ideal.Value.spatialGate m c, ?_, ?_⟩
  · exact (θ_run Cert.Kernel3Ideal.defs _ _).mono (fun r h c => ⟨((h c).1).trans (Cert.Kernel3Ideal.Value.final_6 m c),
      ((h c).2.1).trans (Cert.Kernel3Ideal.Value.final_7 m c), ((h c).2.2.1).trans (Cert.Kernel3Ideal.Value.final_8 m c),
      ((h c).2.2.2.1).trans (Cert.Kernel3Ideal.Value.final_9 m c), ((h c).2.2.2.2.1).trans (Cert.Kernel3Ideal.Value.final_10 m c), (h c).2.2.2.2.2⟩)
      (Cert.Kernel3Ideal.Value.run_blocks (F := Ideal) m g)
  · refine (θ_run Cert.Reference3Ideal.defs _ _).mono (fun r h c => ⟨((h c).1).trans ?_, ((h c).2.1).trans ?_, ((h c).2.2.1).trans ?_,
      ((h c).2.2.2.1).trans ?_, ((h c).2.2.2.2.1).trans ?_, (h c).2.2.2.2.2⟩) (Cert.Reference3Ideal.Value.run (F := Ideal) m' g')
    all_goals obtain ⟨a0, a1, a2, a3, a4, a5⟩ := hagree c
    · refine (Cert.Reference3Ideal.Read.val_main_v60_eq (F := Ideal) _ _ _).trans ?_
      rw [a0, a1, a2]
      funext y
      exact (congrArg _ (eq_ix2 y)).trans (Cert.Reference3Ideal.Read.convInput_apply _ _ _ (y 0) (y 1))
    · refine (Cert.Reference3Ideal.Read.val_main_v17_eq (F := Ideal) _ _ _).trans ?_
      rw [a0, a1, a2]
      funext y
      exact (congrArg _ (eq_ix2 y)).trans (Cert.Reference3Ideal.Read.convFactor_apply _ _ _ (y 0) (y 1))
    · refine (Cert.Reference3Ideal.Read.val_main_v61_eq (F := Ideal) _ _ _).trans ?_
      rw [a0, a1, a2]
      funext y
      exact (congrArg _ (eq_ix2 y)).trans (Cert.Reference3Ideal.Read.convGate_apply _ _ _ (y 0) (y 1))
    · refine (Cert.Reference3Ideal.Read.val_main_v63_eq (F := Ideal) m' c).trans ?_
      rw [a0, a1, a2, a3, a4, a5]
      funext y
      exact (congrArg _ (eq_ix2 y)).trans (Cert.Reference3Ideal.Read.spatial_apply _ _ _ _ _ _ (y 0) (y 1))
    · refine (Cert.Reference3Ideal.Read.val_main_v64_eq (F := Ideal) _ _ _).trans ?_
      rw [a0, a1, a2]
      funext y
      exact (congrArg _ (eq_ix2 y)).trans (Cert.Reference3Ideal.Read.spatialGate_apply _ _ _ (y 0) (y 1))

end Cert.RestProjection

end
-- ==== Proof.Rotary.lean ====
/-
  The queries and keys of the attention's input projection, as mathematics: each head's part of the projected row scaled to
  unit mean square and weighted, then turned by the position's angles.
-/
module

public import proofs.«01_k».proof.Proof.Projection

@[expose] public section

noncomputable section

open Idealize.ShloMosaic Idealize.ShloMosaic.ValueIdx

namespace Cert.Rotary

open Cert.Rows Cert.Projection
open Cert.Mix (Mat)

/-- The lane half an axis further on, around the end. -/
def ahead (d : Fin 128) : Fin 128 := ⟨(d.val + 32) % 128, Nat.mod_lt _ (by decide)⟩

/-- The lane half an axis back, around the end. -/
def behind (d : Fin 128) : Fin 128 := ⟨(d.val + 96) % 128, Nat.mod_lt _ (by decide)⟩

/-- The head with each axis's two halves exchanged, the second one negated. -/
def turned (f : Fin 128 → EReal) (d : Fin 128) : EReal := if d.val % 64 < 32 then -f (ahead d) else f (behind d)

/-- The head turned by the angle whose cosine and sine are given. -/
def rope (f : Fin 128 → EReal) (c s : EReal) (d : Fin 128) : EReal := f d * c + turned f d * s

/-- The same with two rotations of the lanes and two factors for them. -/
def ropeBy (f : Fin 128 → EReal) (c l h : EReal) (d : Fin 128) : EReal := f d * c + f (ahead d) * l + f (behind d) * h

/-- The two factors being the sine, masked by halves, with the first one negated, the two forms are one. -/
theorem ropeBy_eq (f : Fin 128 → EReal) (c s : EReal) (d : Fin 128) :
    ropeBy f c (if d.val % 64 < 32 then -s else 0) (if d.val % 64 < 32 then 0 else s) d = rope f c s d := by
  unfold ropeBy rope turned
  by_cases h : d.val % 64 < 32
  · simp only [if_pos h, mul_zero, add_zero, mul_neg, neg_mul]
  · simp only [if_neg h, mul_zero, add_zero]

/-- A head scaled to unit mean square and weighted. -/
def head (v : Fin 128 → EReal) (w : Mat 1 128) (d : Fin 128) : EReal := norm 0x43000000#32 v d * w (ix2 (0 : Fin 1) d)

/-- Lane `d` of the head that starts at column `o` of the projected row `T`, scaled and weighted. -/
def headAt {a : ℕ} (x : Mat a 2048) (nw : Mat 1 2048) (w : Mat 2048 2560) (hw : Mat 1 128) (T : Fin a) (o : ℕ) (ho : o + 128 ≤ 2560)
    (d : Fin 128) : EReal :=
  head (fun k => proj x nw w T ⟨o + k.val, by omega⟩) hw d

/-- The lane of a column in its head. -/
def laneOf {n : ℕ} (j : Fin n) : Fin 128 := ⟨j.val % 128, Nat.mod_lt _ (by decide)⟩

/-- The position of a row in its sequence. -/
def position (T : Fin 16384) : Fin 8192 := ⟨T.val % 8192, Nat.mod_lt _ (by decide)⟩

/-- The queries: normed, turned and scaled by the inverse square root of the head's width. -/
def query (x : Mat 16384 2048) (nw : Mat 1 2048) (w : Mat 2048 2560) (qw : Mat 1 128) (cos sin : Mat 8192 128)
    (T : Fin 16384) (j : Fin 1024) : EReal :=
  rope (headAt x nw w qw T (j.val / 128 * 128) (by omega)) (cos (ix2 (position T) (laneOf j))) (sin (ix2 (position T) (laneOf j))) (laneOf j)
    * word 0x3DB504F3#32

/-- The keys: normed and turned. -/
def key (x : Mat 16384 2048) (nw : Mat 1 2048) (w : Mat 2048 2560) (kw : Mat 1 128) (cos sin : Mat 8192 128)
    (T : Fin 16384) (j : Fin 256) : EReal :=
  rope (headAt x nw w kw T (1024 + j.val / 128 * 128) (by omega)) (cos (ix2 (position T) (laneOf j))) (sin (ix2 (position T) (laneOf j))) (laneOf j)

end Cert.Rotary

end
-- ==== Proof.RotaryHost.lean ====
/-
  The two factors that the attention's input projection is handed besides the cosine: the sine masked by halves, the first
  one negated. They are computed from the sine before the call.
-/
module

public import proofs.«01_k».proof.Proof.Rotary
public import proofs.«01_k».proof.Proof.Gen.Kernel4Ideal.Frame
public import Idealize.ShloMosaic.Lib.KernelVsHost
public import Idealize.ShloMosaic.Lib.Pipeline.Value

@[expose] public section

noncomputable section

open Idealize.ShloMosaic Idealize.ShloMosaic.ValueIdx Idealize.ShloMosaic.TcCoe Idealize.SL.Sem

namespace Cert.Kernel4Ideal.Value

open Cert.Kernel4Ideal Cert.Kernel4Ideal.Gen Cert.Rows Cert.Projection Cert.Rotary
open Cert.Mix (Mat)

variable (m : (ℓ : Loc nD τ sig) → Buf (Elt Ideal) ℓ) (c : Dev nD)

/-- The lanes' numbers within their axis, by the rounding remainder. -/
def axisLane : IVec S128 32 :=
  have n : IVec S_ 32 := select (cmpi .eq (constantI S_ 32 64#32) (constantI S_ 32 0#32)) (constantI S_ 32 1#32) (constantI S_ 32 64#32)
  have nb : IVec S128 32 := broadcastInDim S128 ![] bcast_S_S128 n
  have r : IVec S128 32 := Host.remsi (iotaInDim S128 32 0) nb
  have z : IVec S128 32 := broadcastInDim S128 ![] bcast_S_S128 (constantI S_ 32 0#32)
  select (andi (cmpi .ne (cmpi .slt r z) (broadcastInDim S128 ![] bcast_S_S128 (cmpi .slt n (constantI S_ 32 0#32)))) (cmpi .ne r z)) (addi r nb) r

/-- Whether a lane is in the first half of its axis. -/
def firstHalf : IVec S128 1 := cmpi .slt axisLane (broadcastInDim S128 ![] bcast_S_S128 (constantI S_ 32 32#32))

theorem firstHalf_apply : ∀ d : Fin 128, firstHalf (ix1 d) = if d.val % 64 < 32 then 1#1 else 0#1 := by
  decide +kernel

/-- A choice by the halves. -/
theorem half_select (x y : FVec Ideal S8192x128 .f32) (p : Fin 8192) (d : Fin 128) :
    select (broadcastInDim S8192x128 ![1] bcast_S128_S8192x128_1 firstHalf) x y (ix2 p d)
      = if d.val % 64 < 32 then x (ix2 p d) else y (ix2 p d) := by
  have e : broadcastInDim S8192x128 ![1] bcast_S128_S8192x128_1 firstHalf (ix2 p d) = firstHalf (ix1 d) :=
    broadcastInDim_apply _ _ firstHalf _ (ix1 d) fun a => match a with
      | ⟨0, _⟩ => rfl
  refine (congrArg (fun b => Scalar.select b (x (ix2 p d)) (y (ix2 p d))) (e.trans (firstHalf_apply d))).trans ?_
  by_cases h : d.val % 64 < 32
  · simp [h, Scalar.select]
  · simp [h, Scalar.select]

/-- The sine, as it was handed in. -/
abbrev sine : Mat 8192 128 := m ((c : Thread nD τ).loc main_arg6)

/-- The first factor: the negated sine in the first halves. -/
theorem low_apply (p : Fin 8192) (d : Fin 128) :
    (V m c main_v5 : Mat 8192 128) (ix2 p d) = if d.val % 64 < 32 then -sine m c (ix2 p d) else (0 : EReal) := by
  dsimp only [V, hostOps0, hostOps0_1, hostOps0_2, hostOps0_3, hostOps0_4, hostOps0_5, List.flatten, List.append]
  after_results
  refine (half_select (Host.negf (sine m c : FVec Ideal S8192x128 .f32)) (broadcastInDim S8192x128 ![] bcast_S_S8192x128 (constant (F := Ideal) S_ .f32 0x00000000#32)) p d).trans ?_
  refine congrArg (fun z : EReal => if d.val % 64 < 32 then -sine m c (ix2 p d) else z) ?_
  exact (broadcastInDim_apply _ bcast_S_S8192x128 _ _ (fun a => a.elim0) (fun a => a.elim0)).trans Ideal.ofBits_zero_f32

/-- The second factor: the sine in the second halves. -/
theorem high_apply (p : Fin 8192) (d : Fin 128) :
    (V m c main_v6 : Mat 8192 128) (ix2 p d) = if d.val % 64 < 32 then (0 : EReal) else sine m c (ix2 p d) := by
  dsimp only [V, hostOps0, hostOps0_1, hostOps0_2, hostOps0_3, hostOps0_4, hostOps0_5, List.flatten, List.append]
  after_results
  refine (half_select (broadcastInDim S8192x128 ![] bcast_S_S8192x128 (constant (F := Ideal) S_ .f32 0x00000000#32)) (sine m c) p d).trans ?_
  refine congrArg (fun z : EReal => if d.val % 64 < 32 then z else sine m c (ix2 p d)) ?_
  exact (broadcastInDim_apply _ bcast_S_S8192x128 _ _ (fun a => a.elim0) (fun a => a.elim0)).trans Ideal.ofBits_zero_f32

end Cert.Kernel4Ideal.Value

end
-- ==== Proof.RotaryStep.lean ====
/-
  What one grid point of the attention's input projection computes from its blocks, read at an index.
-/
module

public import proofs.«01_k».proof.Proof.Rotary
public import proofs.«01_k».proof.Proof.Views
public import proofs.«01_k».proof.Proof.Gen.Kernel4Ideal.Skeleton
public import Idealize.ShloMosaic.Lib.KernelVsHost

@[expose] public section

noncomputable section

open Idealize.ShloMosaic Idealize.ShloMosaic.ValueIdx Idealize.SL.Sem

namespace Cert.Kernel4Ideal.Value

open Cert.Kernel4Ideal Cert.Kernel4Ideal.Gen Cert.Rows Cert.Projection Cert.Rotary Cert.Views

variable (x0 : Vec Ideal S512x2048 .f32) (x1 : Vec Ideal S1x2048 .f32) (x2 : Vec Ideal S2048x2560 .bf16)

/-- The normed rows. -/
theorem pay3_apply (r : Fin 512) (k : Fin 2048) : k0_pay3 x0 x1 (ix2 r k) = Cert.Projection.hidden x0 x1 r k := by
  unfold k0_pay3
  dsimp only
  rw [shapeCast_self, truncf_apply]
  exact congrArg₂ (fun x y : EReal => x * y) (norm_apply _ _ _ _ _ _ _) (broadcastTo_1b_ab_apply _ _ _ _)

/-- The columns of the weight from column `q` on, `n` of them. -/
abbrev cols (n q : ℕ) (inb : ∀ a, (![0, q] : Fin 2 → ℕ) a + (![2048, n] : Fin 2 → ℕ) a ≤ S2048x2560.size a) :
    Vec Ideal ⟨2, ![2048, n]⟩ .bf16 := View.ld x2 (Rect.unit (s := S2048x2560) ![0, q] ![2048, n] inb)

/-- The product of the normed rows with 512 columns of the weight. -/
theorem dot_apply (q : ℕ) (inb) (r j : Fin 512) (e : Fin 2560) (he : e.val = q + j.val) :
    matmul (F := Ideal) (φ₁ := .bf16) (φ₂ := .bf16) dot_S512x2048_S2048x512_S512x512_1_0_0_1_n_n none (k0_pay3 x0 x1)
      (cols x2 512 q inb) (constant S512x512 .f32 0x00000000#32) (ix2 r j) = proj x0 x1 x2 r e := by
  refine Eq.trans (b := ∑ k : Fin 2048, k0_pay3 x0 x1 (ix2 r k) * cols x2 512 q inb (ix2 k j)) ?_
    (Finset.sum_congr rfl fun k _ => congrArg₂ (fun x y : EReal => x * y) (pay3_apply x0 x1 r k)
      (ld_part (p := 0) (q := q) x2 inb k j k e (Nat.zero_add _).symm he))
  simp only [matmul]
  rw [Ideal.matmul_constant_zero_apply, ← (contrEquiv1 dot_S512x2048_S2048x512_S512x512_1_0_0_1_n_n 2048 rfl rfl).sum_comp]
  refine Finset.sum_congr rfl fun k _ => ?_
  exact congrArg₂ (fun x y : EReal => x * y) (congrArg (k0_pay3 x0 x1) (Shape.idx_ext₂ rfl rfl)) (congrArg (cols x2 512 q inb) (Shape.idx_ext₂ rfl rfl))

/-- The product of the normed rows with 256 columns of the weight. -/
abbrev pair (q : ℕ) (inb : ∀ a, (![0, q] : Fin 2 → ℕ) a + (![2048, 256] : Fin 2 → ℕ) a ≤ S2048x2560.size a) : FVec Ideal S512x256 .f32 :=
  matmul (F := Ideal) (φ₁ := .bf16) (φ₂ := .bf16) dot_S512x2048_S2048x256_S512x256_1_0_0_1_n_n none (k0_pay3 x0 x1)
    (cols x2 256 q inb) (constant S512x256 .f32 0x00000000#32)

theorem pair_apply (q : ℕ) (inb) (r : Fin 512) (j : Fin 256) (e : Fin 2560) (he : e.val = q + j.val) :
    pair x0 x1 x2 q inb (ix2 r j) = proj x0 x1 x2 r e := by
  refine Eq.trans (b := ∑ k : Fin 2048, k0_pay3 x0 x1 (ix2 r k) * cols x2 256 q inb (ix2 k j)) ?_
    (Finset.sum_congr rfl fun k _ => congrArg₂ (fun x y : EReal => x * y) (pay3_apply x0 x1 r k)
      (ld_part (p := 0) (q := q) x2 inb k j k e (Nat.zero_add _).symm he))
  simp only [pair, matmul]
  rw [Ideal.matmul_constant_zero_apply, ← (contrEquiv1 dot_S512x2048_S2048x256_S512x256_1_0_0_1_n_n 2048 rfl rfl).sum_comp]
  refine Finset.sum_congr rfl fun k _ => ?_
  exact congrArg₂ (fun x y : EReal => x * y) (congrArg (k0_pay3 x0 x1) (Shape.idx_ext₂ rfl rfl)) (congrArg (cols x2 256 q inb) (Shape.idx_ext₂ rfl rfl))

/-- A gate's columns. -/
theorem pay1_apply (q : ℕ) (inb) (r j : Fin 512) (e : Fin 2560) (he : e.val = q + j.val) :
    k0_pay1 (k0_pay3 x0 x1) (cols x2 512 q inb) (ix2 r j) = silu (proj x0 x1 x2 r e) := by
  rw [← dot_apply x0 x1 x2 q inb r j e he, ← silu_eq]
  rfl

/-! ## A head -/

/-- Half of a pair's columns, scaled to unit mean square and weighted. -/
def normed (A : FVec Ideal S512x256 .f32) (o : ℕ) (hs : S512x256.Slices ![0, o] S512x128) (w : Vec Ideal S1x128 .f32) : FVec Ideal S512x128 .f32 :=
  have v := extractStridedSlice S512x128 ![0, o] A hs
  mulf (mulf v (broadcastTo S512x128 (rsqrt (addf (divf (shapeCast S512x1
    (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 w broadcasts_S1x128_S512x128)

theorem normed_apply (q o : ℕ) (inb) (hs) (w : Vec Ideal S1x128 .f32) (r : Fin 512) (d : Fin 128) (hq : q + o + 128 ≤ 2560) :
    normed (pair x0 x1 x2 q inb) o hs w (ix2 r d) = headAt x0 x1 x2 w r (q + o) hq d := by
  have ho : o + 128 ≤ 256 := by have := hs.2 1; simpa using this
  unfold normed headAt head
  refine congrArg₂ (fun x y : EReal => x * y) ((norm_apply _ _ _ _ _ _ _).trans ?_) (broadcastTo_1b_ab_apply _ _ _ _)
  refine congrArg (fun f : Fin 128 → EReal => norm 0x43000000#32 f d) (funext fun k => ?_)
  refine (extractStridedSlice_apply _ _ _ _ (ix2 r (⟨o + k.val, by omega⟩ : Fin 256)) fun a => ?_).trans
    (pair_apply x0 x1 x2 q inb r _ _ (by dsimp only; omega))
  fin_cases a
  · exact (Nat.zero_add _).symm
  · rfl

/-- A head turned by two rotations of its lanes. -/
def spun (t : FVec Ideal S512x128 .f32) (c l h : Vec Ideal S512x128 .f32) : FVec Ideal S512x128 .f32 :=
  addf (addf (mulf t c) (mulf (dynamicRotate 1 96#32 none t rotates_S512x128_d1) l))
    (mulf (dynamicRotate 1 32#32 none t rotates_S512x128_d1) h)

theorem spun_apply (t : FVec Ideal S512x128 .f32) (c l h : Vec Ideal S512x128 .f32) (r : Fin 512) (d : Fin 128) :
    spun t c l h (ix2 r d) = ropeBy (fun k => t (ix2 r k)) (c (ix2 r d)) (l (ix2 r d)) (h (ix2 r d)) d := by
  have hd := d.isLt
  unfold spun ropeBy
  refine congrArg₂ (fun x y : EReal => x + y) (congrArg (fun y : EReal => t (ix2 r d) * c (ix2 r d) + y) ?_) ?_
  · refine congrArg (fun y : EReal => y * l (ix2 r d)) (dynamicRotate_apply 1 96#32 t rotates_S512x128_d1 _ (ix2 r (ahead d)) fun b => ?_)
    fin_cases b
    · rfl
    · simp [ix2, ahead]
  · refine congrArg (fun y : EReal => y * h (ix2 r d)) (dynamicRotate_apply 1 32#32 t rotates_S512x128_d1 _ (ix2 r (behind d)) fun b => ?_)
    fin_cases b
    · rfl
    · simp [ix2, behind]

end Cert.Kernel4Ideal.Value

end
-- ==== Proof.RotaryPoint.lean ====
/-
  What one grid point of the attention's input projection leaves in its result blocks, read at an index.
-/
module

public import proofs.«01_k».proof.Proof.RotaryStep
public import proofs.«01_k».proof.Proof.Gen.Kernel4Ideal.Frame

@[expose] public section

noncomputable section

open Idealize.ShloMosaic Idealize.ShloMosaic.ValueIdx Idealize.SL.Sem

namespace Cert.Kernel4Ideal.Value

open Cert.Kernel4Ideal Cert.Kernel4Ideal.Gen Cert.Rows Cert.Projection Cert.Rotary Cert.Views

/-- A rectangle that is a whole block leaves an index alone. -/
theorem idx_whole {a b : ℕ} (inb) (y : (⟨2, ![a, b]⟩ : Shape).Idx) :
    (Rect.unit (s := ⟨2, ![a, b]⟩) ![0, 0] ![a, b] inb).idx y = y := by
  refine funext fun x => Fin.ext ?_
  refine (Rect.idx_unit_val _ _ _ _ _).trans ?_
  fin_cases x <;> simp

/-- A rectangle of all the rows from column `b` on moves an index's column by `b`. -/
theorem emb_cols {n w : ℕ} (b : ℕ) (inb) (p : Fin 512) (d : Fin w) (j : Fin n) (h : j.val = b + d.val) :
    (Rect.unit (s := ⟨2, ![512, n]⟩) ![0, b] ![512, w] inb).emb (ix2 p d) = ix2 p j := by
  refine funext fun k => Fin.ext ?_
  refine (Rect.idx_unit_val _ _ _ _ _).trans ?_
  fin_cases k <;> simp [ix2, h]

variable (x0 : Vec Ideal S512x2048 .f32) (x1 : Vec Ideal S1x2048 .f32) (x2 : Vec Ideal S2048x2560 .bf16) (x3 x4 : Vec Ideal S1x128 .f32)
  (x5 x6 x7 : Vec Ideal S512x128 .f32)

/-- A head of a block, turned. -/
def blockTurned (w : Vec Ideal S1x128 .f32) (r : Fin 512) (o : ℕ) (ho : o + 128 ≤ 2560) (d : Fin 128) : EReal :=
  ropeBy (headAt x0 x1 x2 w r o ho) (x5 (ix2 r d)) (x6 (ix2 r d)) (x7 (ix2 r d)) d

/-- The queries on a block. -/
def blockQuery (y : S512x1024.Idx) : EReal :=
  blockTurned x0 x1 x2 x5 x6 x7 x3 (y 0) ((y 1).val / 128 * 128) (by have h := (y 1).isLt; change _ < 1024 at h; omega)
    ⟨(y 1).val % 128, Nat.mod_lt _ (by decide)⟩ * word 0x3DB504F3#32

/-- The keys on a block. -/
def blockKey (y : S512x256.Idx) : EReal :=
  blockTurned x0 x1 x2 x5 x6 x7 x4 (y 0) (1024 + (y 1).val / 128 * 128) (by have h := (y 1).isLt; change _ < 256 at h; omega)
    ⟨(y 1).val % 128, Nat.mod_lt _ (by decide)⟩

/-- The gates on a block. -/
def blockGate (y : S512x1024.Idx) : EReal :=
  silu (proj x0 x1 x2 (y 0) ⟨1536 + (y 1).val, by have h := (y 1).isLt; change _ < 1024 at h; omega⟩)

/-- The head the body turns is the block's. -/
theorem spun_block (w : Vec Ideal S1x128 .f32) (q o : ℕ) (hq : q + o + 128 ≤ 2560) (inb hs) (r : Fin 512) (d : Fin 128) :
    spun (normed (pair x0 x1 x2 q inb) o hs w) x5 (k0_pay4 x6) (k0_pay5 x7) (ix2 r d) = blockTurned x0 x1 x2 x5 x6 x7 w r (q + o) hq d := by
  have e4 : k0_pay4 x6 = x6 := shapeCast_self _ _
  have e5 : k0_pay5 x7 = x7 := shapeCast_self _ _
  rw [e4, e5, spun_apply]
  unfold blockTurned
  exact congrArg (fun f : Fin 128 → EReal => ropeBy f (x5 (ix2 r d)) (x6 (ix2 r d)) (x7 (ix2 r d)) d)
    (funext fun k => normed_apply x0 x1 x2 q o inb hs w r k hq)

/-- A head of queries the body stores is the block's. -/
theorem query_piece (q o b : ℕ) (hb : b = q + o) (hd : b % 128 = 0 ∧ b + 128 ≤ 1024) (inb hs int) (x : S512x128.Idx) :
    truncf .bf16 (mulf (spun (normed (pair x0 x1 x2 q inb) o hs x3) x5 (k0_pay4 x6) (k0_pay5 x7))
        (broadcast S512x128 (Scalar.ofBits (F := Ideal) .f32 0x3DB504F3#32))) bitsLt_bf16_f32 x
      = blockQuery x0 x1 x2 x3 x5 x6 x7 ((Rect.unit (s := S512x1024) ![0, b] ![512, 128] int).emb x) := by
  obtain ⟨p, d, rfl⟩ : ∃ p d, x = ix2 p d := ⟨x 0, x 1, eq_ix2 x⟩
  obtain ⟨h1, h2⟩ := hd
  subst hb
  rw [emb_cols (n := 1024) (q + o) int p d ⟨q + o + d.val, by omega⟩ rfl, truncf_apply]
  refine congrArg (fun z : EReal => z * word 0x3DB504F3#32) ((spun_block x0 x1 x2 x5 x6 x7 x3 q o (by omega) inb hs p d).trans ?_)
  have e1 : (q + o + d.val) / 128 * 128 = q + o := by omega
  have e2 : (⟨(q + o + d.val) % 128, Nat.mod_lt _ (by decide)⟩ : Fin 128) = d := Fin.ext (by dsimp only; omega)
  simp only [ix2, Matrix.cons_val_zero, Matrix.cons_val_one, e1, e2]

/-- A head of keys the body stores is the block's. -/
theorem key_piece (o b : ℕ) (hb : b = o) (hd : b % 128 = 0 ∧ b + 128 ≤ 256) (inb hs int) (x : S512x128.Idx) :
    truncf .bf16 (spun (normed (pair x0 x1 x2 1024 inb) o hs x4) x5 (k0_pay4 x6) (k0_pay5 x7)) bitsLt_bf16_f32 x
      = blockKey x0 x1 x2 x4 x5 x6 x7 ((Rect.unit (s := S512x256) ![0, b] ![512, 128] int).emb x) := by
  obtain ⟨p, d, rfl⟩ : ∃ p d, x = ix2 p d := ⟨x 0, x 1, eq_ix2 x⟩
  obtain ⟨h1, h2⟩ := hd
  subst hb
  rw [emb_cols (n := 256) b int p d ⟨b + d.val, by omega⟩ rfl, truncf_apply]
  refine (spun_block x0 x1 x2 x5 x6 x7 x4 1024 b (by omega) inb hs p d).trans ?_
  have e1 : (b + d.val) / 128 * 128 = b := by omega
  have e2 : (⟨(b + d.val) % 128, Nat.mod_lt _ (by decide)⟩ : Fin 128) = d := Fin.ext (by dsimp only; omega)
  unfold blockKey
  simp only [ix2, Matrix.cons_val_zero, Matrix.cons_val_one, e1, e2]

/-- A half of the gates the body stores is the block's. -/
theorem gate_piece (q b : ℕ) (hb : q = 1536 + b) (hd : b + 512 ≤ 1024) (inb int) (x : S512x512.Idx) :
    k0_pay1 (k0_pay3 x0 x1) (cols x2 512 q inb) x = blockGate x0 x1 x2 ((Rect.unit (s := S512x1024) ![0, b] ![512, 512] int).emb x) := by
  obtain ⟨p, d, rfl⟩ : ∃ p d, x = ix2 p d := ⟨x 0, x 1, eq_ix2 x⟩
  rw [emb_cols (n := 1024) b int p d ⟨b + d.val, by omega⟩ rfl]
  exact pay1_apply x0 x1 x2 q inb p d _ (by simp [ix2]; omega)

variable (c : Dev nD) (i : grid0.Coords)
  (arg1 : Memref sig .tc .vmem S512x2048 .f32) (harg1 : arg1.IsWhole)
  (arg2 : Memref sig .tc .vmem S1x2048 .f32) (harg2 : arg2.IsWhole)
  (arg3 : Memref sig .tc .vmem S2048x2560 .bf16) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S512x1024 .bf16) (harg9 : arg9.IsWhole)
  (arg10 : Memref sig .tc .vmem S512x256 .bf16) (harg10 : arg10.IsWhole)
  (arg11 : Memref sig .tc .vmem S512x256 .bf16) (harg11 : arg11.IsWhole)
  (arg12 : Memref sig .tc .vmem S512x1024 .f32) (harg12 : arg12.IsWhole)
  (arg13 : Memref sig .tc .vmem S512x2048 .bf16) (harg13 : arg13.IsWhole)

/-- The values, at a row and a column. -/
theorem out_A_10 (r : Fin 512) (j : Fin 256) :
    out0_A_10 c i arg1 harg1 arg2 harg2 arg3 harg3 arg4 harg4 arg5 harg5 arg6 harg6 arg7 harg7 arg8 harg8 arg9 harg9 arg10 harg10 arg11 harg11 arg12 harg12 arg13 harg13
      x0 x1 x2 x3 x4 x5 x6 x7 (ix2 r j) = proj x0 x1 x2 r ⟨1280 + j.val, by omega⟩ := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7)]
  unfold kernelRun0_A
  dsimp only
  sl_unfold_words
  simp (discharger := decide) only [View.readAt_eq_ld, Memref.IsWhole.read_unread, View.readCov_eq_canon', ld_whole, canon_whole, idx_whole]
  exact pair_apply x0 x1 x2 1280 _ r j _ rfl

/-- The queries: every head the body stores is the block's. -/
theorem out_A_8 (y : S512x1024.Idx) :
    out0_A_8 c i arg1 harg1 arg2 harg2 arg3 harg3 arg4 harg4 arg5 harg5 arg6 harg6 arg7 harg7 arg8 harg8 arg9 harg9 arg10 harg10 arg11 harg11 arg12 harg12 arg13 harg13
      x0 x1 x2 x3 x4 x5 x6 x7 y = blockQuery x0 x1 x2 x3 x5 x6 x7 y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7)]
  refine View.canon_apply_of_pieces (blockQuery x0 x1 x2 x3 x5 x6 x7) _ ?_ y (cover0_A_8 c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7 y)
  unfold kernelRun0_A
  dsimp only
  sl_unfold_words
  simp (discharger := decide) only [View.readAt_eq_ld, Memref.IsWhole.read_unread, View.readCov_eq_canon', ld_whole, canon_whole, idx_whole, List.forall_mem_cons]
  exact ⟨fun x => query_piece x0 x1 x2 x3 x5 x6 x7 768 128 896 rfl (by decide) _ slices_S512x256_o0_128_S512x128 _ x,
    fun x => query_piece x0 x1 x2 x3 x5 x6 x7 768 0 768 rfl (by decide) _ slices_S512x256_o0_0_S512x128 _ x,
    fun x => query_piece x0 x1 x2 x3 x5 x6 x7 512 128 640 rfl (by decide) _ slices_S512x256_o0_128_S512x128 _ x,
    fun x => query_piece x0 x1 x2 x3 x5 x6 x7 512 0 512 rfl (by decide) _ slices_S512x256_o0_0_S512x128 _ x,
    fun x => query_piece x0 x1 x2 x3 x5 x6 x7 256 128 384 rfl (by decide) _ slices_S512x256_o0_128_S512x128 _ x,
    fun x => query_piece x0 x1 x2 x3 x5 x6 x7 256 0 256 rfl (by decide) _ slices_S512x256_o0_0_S512x128 _ x,
    fun x => query_piece x0 x1 x2 x3 x5 x6 x7 0 128 128 rfl (by decide) _ slices_S512x256_o0_128_S512x128 _ x,
    fun x => query_piece x0 x1 x2 x3 x5 x6 x7 0 0 0 rfl (by decide) _ slices_S512x256_o0_0_S512x128 _ x,
    fun p hp => nomatch hp⟩

/-- The keys: both heads the body stores are the block's. -/
theorem out_A_9 (y : S512x256.Idx) :
    out0_A_9 c i arg1 harg1 arg2 harg2 arg3 harg3 arg4 harg4 arg5 harg5 arg6 harg6 arg7 harg7 arg8 harg8 arg9 harg9 arg10 harg10 arg11 harg11 arg12 harg12 arg13 harg13
      x0 x1 x2 x3 x4 x5 x6 x7 y = blockKey x0 x1 x2 x4 x5 x6 x7 y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7)]
  refine View.canon_apply_of_pieces (blockKey x0 x1 x2 x4 x5 x6 x7) _ ?_ y (cover0_A_9 c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7 y)
  unfold kernelRun0_A
  dsimp only
  sl_unfold_words
  simp (discharger := decide) only [View.readAt_eq_ld, Memref.IsWhole.read_unread, View.readCov_eq_canon', ld_whole, canon_whole, idx_whole, List.forall_mem_cons]
  exact ⟨fun x => key_piece x0 x1 x2 x4 x5 x6 x7 128 128 rfl (by decide) _ slices_S512x256_o0_128_S512x128 _ x,
    fun x => key_piece x0 x1 x2 x4 x5 x6 x7 0 0 rfl (by decide) _ slices_S512x256_o0_0_S512x128 _ x,
    fun p hp => nomatch hp⟩

/-- The gates: both halves the body stores are the block's. -/
theorem out_A_11 (y : S512x1024.Idx) :
    out0_A_11 c i arg1 harg1 arg2 harg2 arg3 harg3 arg4 harg4 arg5 harg5 arg6 harg6 arg7 harg7 arg8 harg8 arg9 harg9 arg10 harg10 arg11 harg11 arg12 harg12 arg13 harg13
      x0 x1 x2 x3 x4 x5 x6 x7 y = blockGate x0 x1 x2 y := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7)]
  refine View.canon_apply_of_pieces (blockGate x0 x1 x2) _ ?_ y (cover0_A_11 c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 x7 y)
  unfold kernelRun0_A
  dsimp only
  sl_unfold_words
  simp (discharger := decide) only [View.readAt_eq_ld, Memref.IsWhole.read_unread, View.readCov_eq_canon', ld_whole, canon_whole, idx_whole, List.forall_mem_cons]
  exact ⟨fun x => gate_piece x0 x1 x2 2048 512 rfl (by decide) _ _ x,
    fun x => gate_piece x0 x1 x2 1536 0 rfl (by decide) _ _ x,
    fun p hp => nomatch hp⟩

end Cert.Kernel4Ideal.Value

end
-- ==== Proof.RotaryBlocks.lean ====
/-
  The attention's input projection's result arrays: every grid point stores 512 rows of each of the four.
-/
module

public import proofs.«01_k».proof.Proof.RotaryHost
public import proofs.«01_k».proof.Proof.RotaryPoint
public import proofs.«01_k».proof.Proof.Gen.Kernel4Ideal.Value
public import Idealize.ShloMosaic.Lib.Pipeline.ValueKit.Geometry

@[expose] public section

noncomputable section

open Idealize.ShloMosaic Idealize.ShloMosaic.ValueIdx Idealize.ShloMosaic.TcCoe Idealize.SL.Sem
open Idealize.ShloMosaic.Pipeline (Dat)

namespace Cert.Kernel4Ideal.Value

open Cert.Kernel4Ideal Cert.Kernel4Ideal.Gen Cert.Rows Cert.Projection Cert.Rotary
open Cert.Mix (Mat)

/-! ## Which block each point sees -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val % 16, 0] := (by decide +kernel : ∀ t : Fin grid0.N, _)
theorem index_6 : ∀ t : Fin cfg0.N, win0_6.index t = ![t.val % 16, 0] := (by decide +kernel : ∀ t : Fin grid0.N, _)
theorem index_7 : ∀ t : Fin cfg0.N, win0_7.index t = ![t.val % 16, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val, 0] := (by decide +kernel : ∀ t : Fin grid0.N, _)

theorem lt_32 (t : Fin cfg0.N) : t.val < 32 := N_0 ▸ t.isLt

/-- The row of the arrays that is row `r` of point `t`'s blocks. -/
def row (t : Fin cfg0.N) (r : Fin 512) : Fin 16384 := ⟨512 * t.val + r.val, by have := lt_32 t; omega⟩

variable (m : (ℓ : Loc nD τ sig) → Buf (Elt Ideal) ℓ) (c : Dev nD) (t : Fin cfg0.N)

/-- The arguments. -/
abbrev arg0 : Mat 16384 2048 := m ((c : Thread nD τ).loc main_arg0)
abbrev arg1 : Mat 1 2048 := m ((c : Thread nD τ).loc main_arg1)
abbrev arg2 : Mat 2048 2560 := m ((c : Thread nD τ).loc main_arg2)
abbrev arg3 : Mat 1 128 := m ((c : Thread nD τ).loc main_arg3)
abbrev arg4 : Mat 1 128 := m ((c : Thread nD τ).loc main_arg4)
abbrev arg5 : Mat 8192 128 := m ((c : Thread nD τ).loc main_arg5)

theorem iblk_0_apply (r : Fin 512) (j : Fin 2048) :
    (iblk m c 0 t : Vec Ideal S512x2048 .f32) (ix2 r j) = arg0 m c (ix2 (row t r) j) := by
  refine Eq.trans (b := (V m c main_arg0 : Mat 16384 2048) (ix2 (row t r) j)) ?_ (congrFun (V_main_arg0 m c) _)
  blk_simp [iblk]
  refine congrArg (V m c main_arg0) (funext fun a => Fin.ext ?_)
  fin_cases a <;> blk_simp [index_0] <;> simp [ix2, row] <;> omega

theorem iblk_1_apply (y : S1x2048.Idx) : (iblk m c 1 t : Vec Ideal S1x2048 .f32) y = arg1 m c y := by
  refine Eq.trans (b := (V m c main_arg1 : Mat 1 2048) y) ?_ (congrFun (V_main_arg1 m c) y)
  blk_simp [iblk]
  refine congrArg (V m c main_arg1) (funext fun a => Fin.ext ?_)
  fin_cases a <;> blk_simp [index_1]

theorem iblk_2_apply (y : S2048x2560.Idx) : (iblk m c 2 t : Vec Ideal S2048x2560 .bf16) y = arg2 m c y := by
  refine Eq.trans (b := (V m c main_arg2 : Mat 2048 2560) y) ?_ (congrFun (V_main_arg2 m c) y)
  blk_simp [iblk]
  refine congrArg (V m c main_arg2) (funext fun a => Fin.ext ?_)
  fin_cases a <;> blk_simp [index_2]

theorem iblk_3_apply (y : S1x128.Idx) : (iblk m c 3 t : Vec Ideal S1x128 .f32) y = arg3 m c y := by
  refine Eq.trans (b := (V m c main_arg3 : Mat 1 128) y) ?_ (congrFun (V_main_arg3 m c) y)
  blk_simp [iblk]
  refine congrArg (V m c main_arg3) (funext fun a => Fin.ext ?_)
  fin_cases a <;> blk_simp [index_3]

theorem iblk_4_apply (y : S1x128.Idx) : (iblk m c 4 t : Vec Ideal S1x128 .f32) y = arg4 m c y := by
  refine Eq.trans (b := (V m c main_arg4 : Mat 1 128) y) ?_ (congrFun (V_main_arg4 m c) y)
  blk_simp [iblk]
  refine congrArg (V m c main_arg4) (funext fun a => Fin.ext ?_)
  fin_cases a <;> blk_simp [index_4]

theorem iblk_5_apply (r : Fin 512) (d : Fin 128) : (iblk m c 5 t : Vec Ideal S512x128 .f32) (ix2 r d)
    = arg5 m c (ix2 (position (row t r)) d) := by
  have ht := lt_32 t
  have hr := r.isLt
  refine Eq.trans (b := (V m c main_arg5 : Mat 8192 128) (ix2 (position (row t r)) d)) ?_ (congrFun (V_main_arg5 m c) _)
  blk_simp [iblk]
  refine congrArg (V m c main_arg5) (funext fun a => Fin.ext ?_)
  fin_cases a <;> blk_simp [index_5] <;> simp [ix2, row, position] <;> omega

theorem iblk_6_apply (r : Fin 512) (d : Fin 128) : (iblk m c 6 t : Vec Ideal S512x128 .f32) (ix2 r d)
    = if d.val % 64 < 32 then -sine m c (ix2 (position (row t r)) d) else (0 : EReal) := by
  have ht := lt_32 t
  have hr := r.isLt
  refine Eq.trans (b := (V m c main_v5 : Mat 8192 128) (ix2 (position (row t r)) d)) ?_ (low_apply m c _ d)
  blk_simp [iblk]
  refine congrArg (V m c main_v5) (funext fun a => Fin.ext ?_)
  fin_cases a <;> blk_simp [index_6] <;> simp [ix2, row, position] <;> omega

theorem iblk_7_apply (r : Fin 512) (d : Fin 128) : (iblk m c 7 t : Vec Ideal S512x128 .f32) (ix2 r d)
    = if d.val % 64 < 32 then (0 : EReal) else sine m c (ix2 (position (row t r)) d) := by
  have ht := lt_32 t
  have hr := r.isLt
  refine Eq.trans (b := (V m c main_v6 : Mat 8192 128) (ix2 (position (row t r)) d)) ?_ (high_apply m c _ d)
  blk_simp [iblk]
  refine congrArg (V m c main_v6) (funext fun a => Fin.ext ?_)
  fin_cases a <;> blk_simp [index_7] <;> simp [ix2, row, position] <;> omega

/-! ## The rows of a block are rows of the arrays -/

theorem proj_eq (r : Fin 512) (e : Fin 2560) :
    proj (a := 512) (n := 2560) (iblk m c 0 t) (iblk m c 1 t) (iblk m c 2 t) r e = proj (arg0 m c) (arg1 m c) (arg2 m c) (row t r) e := by
  unfold proj Cert.Projection.hidden
  simp only [iblk_0_apply, iblk_1_apply, iblk_2_apply]

/-- A head of a block is a head of the arrays, for a weight that is. -/
theorem headAt_eq (w : Vec Ideal S1x128 .f32) (w' : Mat 1 128) (hw : ∀ y, w y = w' y) (r : Fin 512) (o : ℕ) (ho : o + 128 ≤ 2560) :
    headAt (a := 512) (iblk m c 0 t) (iblk m c 1 t) (iblk m c 2 t) w r o ho = headAt (arg0 m c) (arg1 m c) (arg2 m c) w' (row t r) o ho := by
  funext d
  unfold headAt head
  simp only [proj_eq, hw]

/-- The turn by two rotations and masked sines is the turn by the sine. -/
theorem blockTurned_eq (w : Vec Ideal S1x128 .f32) (w' : Mat 1 128) (hw : ∀ y, w y = w' y) (r : Fin 512) (o : ℕ) (ho : o + 128 ≤ 2560) (d : Fin 128) :
    blockTurned (iblk m c 0 t) (iblk m c 1 t) (iblk m c 2 t) (iblk m c 5 t) (iblk m c 6 t) (iblk m c 7 t) w r o ho d
      = rope (headAt (arg0 m c) (arg1 m c) (arg2 m c) w' (row t r) o ho) (arg5 m c (ix2 (position (row t r)) d)) (sine m c (ix2 (position (row t r)) d)) d := by
  unfold blockTurned
  rw [headAt_eq m c t w w' hw, iblk_5_apply, iblk_6_apply, iblk_7_apply]
  exact ropeBy_eq _ _ _ _

/-! ## The results -/

/-- The queries, as an array. -/
def queryArray : S16384x1024.Idx → EReal := fun y => query (arg0 m c) (arg1 m c) (arg2 m c) (arg3 m c) (arg5 m c) (sine m c) (y 0) (y 1)

/-- The keys, as an array. -/
def keyArray : S16384x256.Idx → EReal := fun y => key (arg0 m c) (arg1 m c) (arg2 m c) (arg4 m c) (arg5 m c) (sine m c) (y 0) (y 1)

/-- The values, as an array. -/
def valueArray : S16384x256.Idx → EReal := fun y =>
  proj (arg0 m c) (arg1 m c) (arg2 m c) (y 0) ⟨1280 + (y 1).val, by have h := (y 1).isLt; change _ < 256 at h; omega⟩

/-- The gates, as an array. -/
def gateArray : S16384x1024.Idx → EReal := fun y =>
  silu (proj (arg0 m c) (arg1 m c) (arg2 m c) (y 0) ⟨1536 + (y 1).val, by have h := (y 1).isLt; change _ < 1024 at h; omega⟩)

/-- The queries after the run. -/
theorem final_8 : (dats m 0 c).arrAt 8 cfg0.N = queryArray m c := by
  refine (dats m 0 c).arrAt_eq_of_covers 8 _ (by decide +kernel) fun t hf y => ?_
  blk_simp
  rw [after0_8]
  obtain ⟨r, j, e⟩ : ∃ (r : Fin 512) (j : Fin 1024), (y : S512x1024.Idx) = ix2 r j := ⟨_, _, eq_ix2 (y : S512x1024.Idx)⟩
  have e1 : ((outsAt0 m c t).1 : Vec Ideal S512x1024 .bf16) (ix2 r j) = queryArray m c (ix2 (row t r) j) := by
    unfold outsAt0
    dsimp only
    rw [out_A_8]
    unfold blockQuery
    rw [blockTurned_eq m c t _ (arg3 m c) (iblk_3_apply m c t)]
    rfl
  have e2 : (win0_8.blk t).view.emb (ix2 r j) = (ix2 (row t r) j : S16384x1024.Idx) := by
    refine funext fun a => Fin.ext ?_
    fin_cases a <;> blk_simp [index_8] <;> simp [ix2, row] <;> omega
  rw [← e2, ← e] at e1
  exact e1

/-- The keys after the run. -/
theorem final_9 : (dats m 0 c).arrAt 9 cfg0.N = keyArray m c := by
  refine (dats m 0 c).arrAt_eq_of_covers 9 _ (by decide +kernel) fun t hf y => ?_
  blk_simp
  rw [after0_9]
  obtain ⟨r, j, e⟩ : ∃ (r : Fin 512) (j : Fin 256), (y : S512x256.Idx) = ix2 r j := ⟨_, _, eq_ix2 (y : S512x256.Idx)⟩
  have e1 : ((outsAt0 m c t).2.1 : Vec Ideal S512x256 .bf16) (ix2 r j) = keyArray m c (ix2 (row t r) j) := by
    unfold outsAt0
    dsimp only
    rw [out_A_9]
    unfold blockKey
    rw [blockTurned_eq m c t _ (arg4 m c) (iblk_4_apply m c t)]
    rfl
  have e2 : (win0_9.blk t).view.emb (ix2 r j) = (ix2 (row t r) j : S16384x256.Idx) := by
    refine funext fun a => Fin.ext ?_
    fin_cases a <;> blk_simp [index_9] <;> simp [ix2, row] <;> omega
  rw [← e2, ← e] at e1
  exact e1

/-- The values after the run. -/
theorem final_10 : (dats m 0 c).arrAt 10 cfg0.N = valueArray m c := by
  refine (dats m 0 c).arrAt_eq_of_covers 10 _ (by decide +kernel) fun t hf y => ?_
  blk_simp
  rw [after0_10]
  obtain ⟨r, j, e⟩ : ∃ (r : Fin 512) (j : Fin 256), (y : S512x256.Idx) = ix2 r j := ⟨_, _, eq_ix2 (y : S512x256.Idx)⟩
  have e1 : ((outsAt0 m c t).2.2.1 : Vec Ideal S512x256 .bf16) (ix2 r j) = valueArray m c (ix2 (row t r) j) := by
    unfold outsAt0
    dsimp only
    rw [out_A_10, proj_eq]
    rfl
  have e2 : (win0_10.blk t).view.emb (ix2 r j) = (ix2 (row t r) j : S16384x256.Idx) := by
    refine funext fun a => Fin.ext ?_
    fin_cases a <;> blk_simp [index_10] <;> simp [ix2, row] <;> omega
  rw [← e2, ← e] at e1
  exact e1

/-- The gates after the run. -/
theorem final_11 : (dats m 0 c).arrAt 11 cfg0.N = gateArray m c := by
  refine (dats m 0 c).arrAt_eq_of_covers 11 _ (by decide +kernel) fun t hf y => ?_
  blk_simp
  rw [after0_11]
  obtain ⟨r, j, e⟩ : ∃ (r : Fin 512) (j : Fin 1024), (y : S512x1024.Idx) = ix2 r j := ⟨_, _, eq_ix2 (y : S512x1024.Idx)⟩
  have e1 : ((outsAt0 m c t).2.2.2 : Vec Ideal S512x1024 .f32) (ix2 r j) = gateArray m c (ix2 (row t r) j) := by
    unfold outsAt0
    dsimp only
    rw [out_A_11]
    unfold blockGate
    rw [proj_eq]
    rfl
  have e2 : (win0_11.blk t).view.emb (ix2 r j) = (ix2 (row t r) j : S16384x1024.Idx) := by
    refine funext fun a => Fin.ext ?_
    fin_cases a <;> blk_simp [index_11] <;> simp [ix2, row] <;> omega
  rw [← e2, ← e] at e1
  exact e1

end Cert.Kernel4Ideal.Value

end
-- ==== Proof.RotaryTurn.lean ====
/-
  How the attention's reference turns a head: it reads each of the two axes as two halves, exchanges them with the second negated,
  and joins them again. Read at an index this is `turned`.
-/
module

public import proofs.«01_k».proof.Proof.Rotary
public import Idealize.ShloMosaic.Lib.KernelVsHost
public import Idealize.ShloMosaic.Lib.Pipeline.Value
public import Idealize.ShloMosaic.Lib.ValueIdxRank6

@[expose] public section

noncomputable section

open Idealize.ShloMosaic Idealize.ShloMosaic.ValueIdx Idealize.SL.Sem

namespace Cert.Rotary

/-- All sequences, positions, heads and lanes. -/
abbrev Heads (H : ℕ) : Shape := ⟨4, ![2, 8192, H, 128]⟩
/-- The lanes as axis and place on the axis. -/
abbrev Axes (H : ℕ) : Shape := ⟨5, ![2, 8192, H, 2, 32]⟩
/-- The lanes as axis, half (`k` of them) and place in the half. -/
abbrev Halves (H k : ℕ) : Shape := ⟨6, ![2, 8192, H, 2, k, 32]⟩

variable {H : ℕ} (b : Fin 2) (p : Fin 8192) (h : Fin H)

abbrev inHeads (d : Fin 128) : (Heads H).Idx := fun a => match a with
  | ⟨0, _⟩ => b
  | ⟨1, _⟩ => p
  | ⟨2, _⟩ => h
  | ⟨3, _⟩ => d
abbrev inAxes (x : Fin 2) (z : Fin 32) : (Axes H).Idx := fun a => match a with
  | ⟨0, _⟩ => b
  | ⟨1, _⟩ => p
  | ⟨2, _⟩ => h
  | ⟨3, _⟩ => x
  | ⟨4, _⟩ => z
abbrev inHalves {k : ℕ} (x : Fin 2) (y : Fin k) (z : Fin 32) : (Halves H k).Idx := fun a => match a with
  | ⟨0, _⟩ => b
  | ⟨1, _⟩ => p
  | ⟨2, _⟩ => h
  | ⟨3, _⟩ => x
  | ⟨4, _⟩ => y
  | ⟨5, _⟩ => z

theorem place_heads (d : Fin 128) : ((Heads H).rowMajor (inHeads b p h d)).val = ((b.val * 8192 + p.val) * H + h.val) * 128 + d.val :=
  Shape.rowMajor_val_four _

theorem place_axes (x : Fin 2) (z : Fin 32) :
    ((Axes H).rowMajor (inAxes b p h x z)).val = (((b.val * 8192 + p.val) * H + h.val) * 2 + x.val) * 32 + z.val :=
  Shape.rowMajor_val_five _

theorem place_halves {k : ℕ} (x : Fin 2) (y : Fin k) (z : Fin 32) :
    ((Halves H k).rowMajor (inHalves b p h x y z)).val = ((((b.val * 8192 + p.val) * H + h.val) * 2 + x.val) * k + y.val) * 32 + z.val :=
  Shape.rowMajor_val_six _

variable (f : FVec Ideal (Heads H) .f32)

/-- A half of the lanes, taken out. -/
theorem part_apply (o : ℕ) (ho : o < 2) (h46 : (Heads H).ShapeCasts (Halves H 2)) (hs : (Halves H 2).Slices ![0, 0, 0, 0, o, 0] (Halves H 1))
    (h65 : (Halves H 1).ShapeCasts (Axes H)) (x : Fin 2) (z : Fin 32) (d : Fin 128) (hd : d.val = x.val * 64 + o * 32 + z.val) :
    shapeCast (Axes H) (extractStridedSlice (Halves H 1) ![0, 0, 0, 0, o, 0] (shapeCast (Halves H 2) f h46) hs) h65 (inAxes b p h x z)
      = f (inHeads b p h d) := by
  refine (shapeCast_apply _ h65 _ (inHalves b p h x (0 : Fin 1) z) ?_).trans ?_
  · rw [place_halves, place_axes]
    simp
  refine (extractStridedSlice_apply _ _ _ _ (inHalves b p h x (⟨o, ho⟩ : Fin 2) z) fun a => ?_).trans ?_
  · fin_cases a <;> simp
  refine shapeCast_apply _ h46 _ _ ?_
  rw [place_halves, place_heads]
  dsimp only
  omega

/-- Two arrays of halves joined and read as heads: the first in the first halves of the axes, the second in the others. -/
theorem join_apply (g₁ g₂ : (Axes H).Idx → EReal)
    (hb : (Axes H).BroadcastsInDim (Halves H 1) (![0, 1, 2, 3, 5] : Fin 5 → Fin (Halves H 1).rank))
    (hc : Shape.Concatenates [Halves H 1, Halves H 1] (Halves H 2) 4) (h64 : (Halves H 2).ShapeCasts (Heads H)) (d : Fin 128) :
    shapeCast (Heads H) (concatenate (Halves H 2) 4
      [⟨Halves H 1, broadcastInDim (Halves H 1) ![0, 1, 2, 3, 5] hb g₁⟩, ⟨Halves H 1, broadcastInDim (Halves H 1) ![0, 1, 2, 3, 5] hb g₂⟩] hc)
      h64 (inHeads b p h d)
      = if d.val % 64 < 32 then g₁ (inAxes b p h (⟨d.val / 64, by omega⟩ : Fin 2) (⟨d.val % 32, by omega⟩ : Fin 32))
        else g₂ (inAxes b p h (⟨d.val / 64, by omega⟩ : Fin 2) (⟨d.val % 32, by omega⟩ : Fin 32)) := by
  have hd := d.isLt
  have hh := h.isLt
  have spread : ∀ (g : (Axes H).Idx → EReal) (x : Fin 2) (z : Fin 32),
      broadcastInDim (Halves H 1) ![0, 1, 2, 3, 5] hb g (inHalves b p h x (0 : Fin 1) z) = g (inAxes b p h x z) := fun g x z =>
    broadcastInDim_apply _ hb g _ _ fun a => by
      fin_cases a
      · rfl
      · rfl
      · change h.val = if H = 1 then 0 else h.val
        by_cases e : H = 1
        · rw [if_pos e]; omega
        · rw [if_neg e]
      · rfl
      · rfl
  refine (shapeCast_apply _ h64 _ (inHalves b p h (⟨d.val / 64, by omega⟩ : Fin 2) (⟨d.val / 32 % 2, by omega⟩ : Fin 2) (⟨d.val % 32, by omega⟩ : Fin 32)) ?_).trans ?_
  · rw [place_halves, place_heads]
    dsimp only
    omega
  rw [← spread g₁, ← spread g₂]
  generalize broadcastInDim (Halves H 1) ![0, 1, 2, 3, 5] hb g₁ = X
  generalize broadcastInDim (Halves H 1) ![0, 1, 2, 3, 5] hb g₂ = Y
  by_cases hk : d.val % 64 < 32
  · rw [if_pos hk]
    refine concatenate_pair_apply_left (t := Halves H 2) (s₁ := Halves H 1) (s₂ := Halves H 1) 4 X Y hc _ rfl _ fun a => ?_
    fin_cases a
    · rfl
    · rfl
    · rfl
    · rfl
    · change 0 = d.val / 32 % 2
      omega
    · rfl
  · rw [if_neg hk]
    refine concatenate_pair_apply_right (t := Halves H 2) (s₁ := Halves H 1) (s₂ := Halves H 1) 4 X Y hc _ rfl rfl _ (fun a ha => ?_) ?_
    · fin_cases a
      · rfl
      · rfl
      · rfl
      · rfl
      · exact absurd rfl ha
      · rfl
    · change 0 + 1 = d.val / 32 % 2
      omega

/-- The turned heads: the two halves exchanged, the second one negated. -/
theorem turn_apply (h46 : (Heads H).ShapeCasts (Halves H 2)) (hs1 : (Halves H 2).Slices ![0, 0, 0, 0, 1, 0] (Halves H 1))
    (hs0 : (Halves H 2).Slices ![0, 0, 0, 0, 0, 0] (Halves H 1)) (h65 : (Halves H 1).ShapeCasts (Axes H))
    (hb : (Axes H).BroadcastsInDim (Halves H 1) (![0, 1, 2, 3, 5] : Fin 5 → Fin (Halves H 1).rank))
    (hc : Shape.Concatenates [Halves H 1, Halves H 1] (Halves H 2) 4) (h64 : (Halves H 2).ShapeCasts (Heads H)) (d : Fin 128) :
    shapeCast (Heads H) (concatenate (Halves H 2) 4
      [⟨Halves H 1, broadcastInDim (Halves H 1) ![0, 1, 2, 3, 5] hb
        (Host.negf (shapeCast (Axes H) (extractStridedSlice (Halves H 1) ![0, 0, 0, 0, 1, 0] (shapeCast (Halves H 2) f h46) hs1) h65 : FVec Ideal (Axes H) .f32))⟩,
       ⟨Halves H 1, broadcastInDim (Halves H 1) ![0, 1, 2, 3, 5] hb
        (shapeCast (Axes H) (extractStridedSlice (Halves H 1) ![0, 0, 0, 0, 0, 0] (shapeCast (Halves H 2) f h46) hs0) h65)⟩] hc) h64 (inHeads b p h d)
      = turned (fun k => f (inHeads b p h k)) d := by
  have hd := d.isLt
  refine (join_apply b p h _ _ hb hc h64 d).trans ?_
  unfold turned
  by_cases hk : d.val % 64 < 32
  · rw [if_pos hk, if_pos hk]
    exact congrArg (fun v : EReal => -v) (part_apply b p h f 1 (by decide) h46 hs1 h65 _ _ (ahead d) (by simp only [ahead]; omega))
  · rw [if_neg hk, if_neg hk]
    exact part_apply b p h f 0 (by decide) h46 hs0 h65 _ _ (behind d) (by simp only [behind]; omega)

end Cert.Rotary

end
-- ==== Proof.RotaryReference.lean ====
/-
  The attention's input projection's reference, operation by operation: its four results are the projection's.
-/
module

public import proofs.«01_k».proof.Proof.RotaryTurn
public import proofs.«01_k».proof.Proof.Gen.Reference4Ideal
public import proofs.«01_k».proof.Proof.Gen.Reference4Ideal.Read

@[expose] public section

noncomputable section

open Idealize.ShloMosaic Idealize.ShloMosaic.ValueIdx Idealize.SL.Sem

namespace Cert.Reference4Ideal.Read

open Cert.Reference4Ideal Cert.Reference4Ideal.Gen Cert.Rows Cert.Projection Cert.Rotary
open Cert.Mix (Mat)

variable (x0 : Mat 16384 2048) (x1 : Mat 1 2048) (x2 : Mat 2048 2560) (x3 x4 : Mat 1 128) (x5 x6 : Mat 8192 128)

/-- The normed rows. -/
theorem hidden_apply (T : Fin 16384) (k : Fin 2048) : val_main_v13 (F := Ideal) x0 x1 (ix2 T k) = Cert.Projection.hidden x0 x1 T k := by
  have hk := k.isLt
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v0_apply]
  refine congrArg₂ (fun x y : EReal => x * y) ?_ (congrArg x1 (Shape.idx_ext₂ rfl (Nat.mod_eq_of_lt hk)))
  refine norm_of 0x45000000#32 (fun l : Fin 2048 => x0 (ix2 T l))
    (fun l => val_main_v1 (F := Ideal) x0 (idx_main_v2 (idx_main_v3 (idx_main_v9 (ix2 T k))) l)) k fun l => ?_
  rw [val_main_v1_apply]
  exact congrArg (fun i => x0 i * x0 i) (Shape.idx_ext₂ rfl rfl)

/-- The product with the weight. -/
theorem proj_apply (T : Fin 16384) (e : Fin 2560) : val_main_v15 (F := Ideal) x0 x1 x2 (ix2 T e) = proj x0 x1 x2 T e := by
  rw [val_main_v15_apply]
  refine Finset.sum_congr rfl fun k _ => congrArg₂ (fun x y : EReal => x * y) ?_ ?_
  · rw [(Shape.idx_ext₂ rfl rfl : lidx_main_v15 (ix2 T e) k = ix2 T k)]
    exact hidden_apply x0 x1 T k
  · exact congrArg x2 (Shape.idx_ext₂ rfl rfl)

theorem proj_at (i : S16384x2560.Idx) (T : Fin 16384) (e : Fin 2560) (h : i = ix2 T e) :
    val_main_v15 (F := Ideal) x0 x1 x2 i = proj x0 x1 x2 T e := h ▸ proj_apply x0 x1 x2 T e

/-- The sequence of a row. -/
abbrev batch (T : Fin 16384) : Fin 2 := ⟨T.val / 8192, by omega⟩

/-- The values. -/
theorem value_apply (T : Fin 16384) (j : Fin 256) : val_main_v88 (F := Ideal) x0 x1 x2 (ix2 T j) = proj x0 x1 x2 T ⟨1280 + j.val, by omega⟩ :=
  (val_main_v18_apply _ _ _ _).trans (proj_at x0 x1 x2 _ _ _ (Shape.idx_ext₂ rfl rfl))

/-- The gates. -/
theorem gate_apply (T : Fin 16384) (j : Fin 1024) : val_main_v89 (F := Ideal) x0 x1 x2 (ix2 T j)
    = silu (proj x0 x1 x2 T ⟨1536 + j.val, by omega⟩) := by
  have h : val_main_v19 (F := Ideal) x0 x1 x2 (ix2 T j) = proj x0 x1 x2 T ⟨1536 + j.val, by omega⟩ :=
    (val_main_v19_apply _ _ _ _).trans (proj_at x0 x1 x2 _ _ _ (Shape.idx_ext₂ rfl rfl))
  simp only [val_main_v89_apply, val_main_call0_v5_apply, val_main_call0_v4_apply, val_main_call0_v3_apply, val_main_call0_v2_apply,
    val_main_call0_v1_apply, val_main_call0_v0_apply, h]
  rfl

variable (T : Fin 16384) (b : Fin 2) (p : Fin 8192) (hT : T.val = b.val * 8192 + p.val)
include hT

/-- The columns of the queries, head by head. -/
theorem query_heads (h : Fin 8) (d : Fin 128) : val_main_v20 (F := Ideal) x0 x1 x2 (inHeads b p h d)
    = proj x0 x1 x2 T ⟨h.val * 128 + d.val, by omega⟩ := by
  have hh := h.isLt
  have hd := d.isLt
  have hb := b.isLt
  have hp := p.isLt
  rw [val_main_v20_apply, val_main_v16_apply]
  refine proj_at x0 x1 x2 _ _ _ (Shape.idx_ext₂ ?_ ?_)
  all_goals simp [ix2, inHeads]
  all_goals omega

/-- The columns of the queries, each head scaled to unit mean square and weighted. -/
theorem query_normed (h : Fin 8) (d : Fin 128) : val_main_v34 (F := Ideal) x0 x1 x2 x3 (inHeads b p h d)
    = headAt x0 x1 x2 x3 T (h.val * 128) (by omega) d := by
  have hd := d.isLt
  simp only [val_main_v34_apply, val_main_v33_apply, val_main_v32_apply, val_main_v21_apply, val_main_v31_apply, val_main_v30_apply, val_main_v29_apply, val_main_v28_apply, val_main_v27_apply, val_main_v26_apply, val_main_v25_apply, val_main_v24_apply, val_main_v23_apply]
  unfold headAt head
  refine congrArg₂ (fun x y : EReal => x * y) ?_ (congrArg x3 (Shape.idx_ext₂ rfl (Nat.mod_eq_of_lt hd)))
  rw [query_heads x0 x1 x2 T b p hT h d]
  refine norm_of 0x43000000#32 (fun k : Fin 128 => proj x0 x1 x2 T ⟨h.val * 128 + k.val, by omega⟩)
    (fun l => val_main_v22 (F := Ideal) x0 x1 x2 (idx_main_v23 (idx_main_v24 (idx_main_v30 (inHeads b p h d))) l)) d fun l => ?_
  rw [val_main_v22_apply, (funext fun a => Fin.ext (by fin_cases a <;> rfl) :
    idx_main_v23 (idx_main_v24 (idx_main_v30 (inHeads b p h d))) l = inHeads b p h l), query_heads x0 x1 x2 T b p hT h l]
  rfl

/-- The columns of the queries, each head with the halves of its axes exchanged and the second one negated. -/
theorem query_exchanged (h : Fin 8) (d : Fin 128) : val_main_v63 (F := Ideal) x0 x1 x2 x3 (inHeads b p h d)
    = turned (headAt x0 x1 x2 x3 T (h.val * 128) (by omega)) d := by
  unfold val_main_v63 val_main_v62 val_main_v60 val_main_v57 val_main_v56 val_main_v55 val_main_v61 val_main_v59 val_main_v58 val_main_v54
  refine (turn_apply b p h (val_main_v34 (F := Ideal) x0 x1 x2 x3) _ _ _ _ _ _ _ d).trans ?_
  exact congrArg (fun f : Fin 128 → EReal => turned f d) (funext fun k => query_normed x0 x1 x2 x3 T b p hT h k)

/-- The columns of the queries, each head turned. -/
theorem query_turned (h : Fin 8) (d : Fin 128) : val_main_v66 (F := Ideal) x0 x1 x2 x3 x5 x6 (inHeads b p h d)
    = rope (headAt x0 x1 x2 x3 T (h.val * 128) (by omega)) (x5 (ix2 p d)) (x6 (ix2 p d)) d := by
  rw [val_main_v66_apply, val_main_v53_apply, val_main_v65_apply, val_main_v52_apply, val_main_v50_apply,
    val_main_v64_apply, val_main_v51_apply, query_normed x0 x1 x2 x3 T b p hT h d, query_exchanged x0 x1 x2 x3 T b p hT h d]
  have ec : idx_main_v50 (idx_main_v52 (inHeads b p h d)) = ix2 p d := Shape.idx_ext₂ rfl rfl
  have es : idx_main_v51 (idx_main_v64 (inHeads b p h d)) = ix2 p d := Shape.idx_ext₂ rfl rfl
  rw [ec, es]
  rfl

/-- The columns of the keys, head by head. -/
theorem key_heads (h : Fin 2) (d : Fin 128) : val_main_v35 (F := Ideal) x0 x1 x2 (inHeads b p h d)
    = proj x0 x1 x2 T ⟨1024 + h.val * 128 + d.val, by omega⟩ := by
  have hh := h.isLt
  have hd := d.isLt
  have hb := b.isLt
  have hp := p.isLt
  rw [val_main_v35_apply, val_main_v17_apply]
  refine proj_at x0 x1 x2 _ _ _ (Shape.idx_ext₂ ?_ ?_)
  all_goals simp [ix2, inHeads]
  all_goals omega

/-- The columns of the keys, each head scaled to unit mean square and weighted. -/
theorem key_normed (h : Fin 2) (d : Fin 128) : val_main_v49 (F := Ideal) x0 x1 x2 x4 (inHeads b p h d)
    = headAt x0 x1 x2 x4 T (1024 + h.val * 128) (by omega) d := by
  have hd := d.isLt
  simp only [val_main_v49_apply, val_main_v48_apply, val_main_v47_apply, val_main_v36_apply, val_main_v46_apply, val_main_v45_apply, val_main_v44_apply, val_main_v43_apply, val_main_v42_apply, val_main_v41_apply, val_main_v40_apply, val_main_v39_apply, val_main_v38_apply]
  unfold headAt head
  refine congrArg₂ (fun x y : EReal => x * y) ?_ (congrArg x4 (Shape.idx_ext₂ rfl (Nat.mod_eq_of_lt hd)))
  rw [key_heads x0 x1 x2 T b p hT h d]
  refine norm_of 0x43000000#32 (fun k : Fin 128 => proj x0 x1 x2 T ⟨1024 + h.val * 128 + k.val, by omega⟩)
    (fun l => val_main_v37 (F := Ideal) x0 x1 x2 (idx_main_v38 (idx_main_v39 (idx_main_v45 (inHeads b p h d))) l)) d fun l => ?_
  rw [val_main_v37_apply, (funext fun a => Fin.ext (by fin_cases a <;> rfl) :
    idx_main_v38 (idx_main_v39 (idx_main_v45 (inHeads b p h d))) l = inHeads b p h l), key_heads x0 x1 x2 T b p hT h l]
  rfl

/-- The columns of the keys, each head with the halves of its axes exchanged and the second one negated. -/
theorem key_exchanged (h : Fin 2) (d : Fin 128) : val_main_v80 (F := Ideal) x0 x1 x2 x4 (inHeads b p h d)
    = turned (headAt x0 x1 x2 x4 T (1024 + h.val * 128) (by omega)) d := by
  unfold val_main_v80 val_main_v79 val_main_v77 val_main_v74 val_main_v73 val_main_v72 val_main_v78 val_main_v76 val_main_v75 val_main_v71
  refine (turn_apply b p h (val_main_v49 (F := Ideal) x0 x1 x2 x4) _ _ _ _ _ _ _ d).trans ?_
  exact congrArg (fun f : Fin 128 → EReal => turned f d) (funext fun k => key_normed x0 x1 x2 x4 T b p hT h k)

/-- The columns of the keys, each head turned. -/
theorem key_turned (h : Fin 2) (d : Fin 128) : val_main_v83 (F := Ideal) x0 x1 x2 x4 x5 x6 (inHeads b p h d)
    = rope (headAt x0 x1 x2 x4 T (1024 + h.val * 128) (by omega)) (x5 (ix2 p d)) (x6 (ix2 p d)) d := by
  rw [val_main_v83_apply, val_main_v70_apply, val_main_v82_apply, val_main_v69_apply, val_main_v50_apply,
    val_main_v81_apply, val_main_v51_apply, key_normed x0 x1 x2 x4 T b p hT h d, key_exchanged x0 x1 x2 x4 T b p hT h d]
  have ec : idx_main_v50 (idx_main_v69 (inHeads b p h d)) = ix2 p d := Shape.idx_ext₂ rfl rfl
  have es : idx_main_v51 (idx_main_v81 (inHeads b p h d)) = ix2 p d := Shape.idx_ext₂ rfl rfl
  rw [ec, es]
  rfl

omit hT

/-- The queries. -/
theorem query_apply (j : Fin 1024) : val_main_v85 (F := Ideal) x0 x1 x2 x3 x5 x6 (ix2 T j) = query x0 x1 x2 x3 x5 x6 T j := by
  have hj := j.isLt
  have ht := T.isLt
  have e : idx_main_v84 (ix2 T j) = inHeads (batch T) (position T) (⟨j.val / 128, by omega⟩ : Fin 8) (laneOf j) := by
    refine funext fun a => Fin.ext ?_
    fin_cases a
    all_goals simp [ix2, position, laneOf]
    all_goals omega
  rw [val_main_v85_apply, val_main_v84_apply, val_main_v68_apply, e, query_turned x0 x1 x2 x3 x5 x6 T (batch T) (position T) (by simp only [position]; omega), val_main_v67_apply]
  rfl

/-- The keys. -/
theorem key_apply (j : Fin 256) : val_main_v87 (F := Ideal) x0 x1 x2 x4 x5 x6 (ix2 T j) = key x0 x1 x2 x4 x5 x6 T j := by
  have hj := j.isLt
  have ht := T.isLt
  have e : idx_main_v86 (ix2 T j) = inHeads (batch T) (position T) (⟨j.val / 128, by omega⟩ : Fin 2) (laneOf j) := by
    refine funext fun a => Fin.ext ?_
    fin_cases a
    all_goals simp [ix2, position, laneOf]
    all_goals omega
  rw [val_main_v87_apply, val_main_v86_apply, e, key_turned x0 x1 x2 x4 x5 x6 T (batch T) (position T) (by simp only [position]; omega)]
  rfl

end Cert.Reference4Ideal.Read

end
-- ==== Proof.RotaryClaims.lean ====
/-
  The attention's input projection's claims: the reference's program leaves the semaphores alone, and kernel and reference agree
  on all four results.
-/
module

public import proofs.«01_k».proof.Defs
public import proofs.«01_k».proof.Proof.RotaryBlocks
public import proofs.«01_k».proof.Proof.RotaryReference
public import proofs.«01_k».proof.Proof.Gen.Kernel4Ideal.Frame
public import proofs.«01_k».proof.Proof.Gen.Reference4Ideal.Run

@[expose] public section

noncomputable section

open Idealize.ShloMosaic Idealize.ShloMosaic.ValueIdx Idealize.SL.Sem

namespace Cert.Rotary

/-- The reference runs to the end, keeps its arguments and leaves every semaphore at zero. -/
theorem frame_reference : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- Kernel and reference, launched on the same arguments, both end with the queries, the keys, the values and the gates. -/
theorem equal : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Value.queryArray m c, fun c => Cert.Kernel4Ideal.Value.keyArray m c,
    fun c => Cert.Kernel4Ideal.Value.valueArray m c, fun c => Cert.Kernel4Ideal.Value.gateArray m c, ?_, ?_⟩
  · exact (θ_run Cert.Kernel4Ideal.defs _ _).mono (fun r h c => ⟨((h c).1).trans (Cert.Kernel4Ideal.Value.final_8 m c),
      ((h c).2.1).trans (Cert.Kernel4Ideal.Value.final_9 m c), ((h c).2.2.1).trans (Cert.Kernel4Ideal.Value.final_10 m c),
      ((h c).2.2.2.1).trans (Cert.Kernel4Ideal.Value.final_11 m c), (h c).2.2.2.2⟩)
      (Cert.Kernel4Ideal.Value.run_blocks (F := Ideal) m g)
  · refine (θ_run Cert.Reference4Ideal.defs _ _).mono (fun r h c => ⟨((h c).1).trans ?_, ((h c).2.1).trans ?_, ((h c).2.2.1).trans ?_,
      ((h c).2.2.2.1).trans ?_, (h c).2.2.2.2⟩) (Cert.Reference4Ideal.Value.run (F := Ideal) m' g')
    all_goals obtain ⟨a0, a1, a2, a3, a4, a5, a6⟩ := hagree c
    · refine (Cert.Reference4Ideal.Read.val_main_v85_eq (F := Ideal) m' c).trans ?_
      rw [a0, a1, a2, a3, a5, a6]
      funext y
      exact (congrArg _ (eq_ix2 y)).trans (Cert.Reference4Ideal.Read.query_apply _ _ _ _ _ _ (y 0) (y 1))
    · refine (Cert.Reference4Ideal.Read.val_main_v87_eq (F := Ideal) m' c).trans ?_
      rw [a0, a1, a2, a4, a5, a6]
      funext y
      exact (congrArg _ (eq_ix2 y)).trans (Cert.Reference4Ideal.Read.key_apply _ _ _ _ _ _ (y 0) (y 1))
    · refine (Cert.Reference4Ideal.Read.val_main_v88_eq (F := Ideal) _ _ _).trans ?_
      rw [a0, a1, a2]
      funext y
      exact (congrArg _ (eq_ix2 y)).trans (Cert.Reference4Ideal.Read.value_apply _ _ _ (y 0) (y 1))
    · refine (Cert.Reference4Ideal.Read.val_main_v89_eq (F := Ideal) _ _ _).trans ?_
      rw [a0, a1, a2]
      funext y
      exact (congrArg _ (eq_ix2 y)).trans (Cert.Reference4Ideal.Read.gate_apply _ _ _ (y 0) (y 1))

end Cert.Rotary

end
-- ==== Proof.InnerStep.lean ====
/-
  What one grid point of the mixing kernel without the last norm computes from its blocks, read at an index.
-/
module

public import proofs.«01_k».proof.Proof.Mix
public import proofs.«01_k».proof.Proof.Gen.Kernel5Ideal.Skeleton
public import Idealize.ShloMosaic.Lib.KernelVsHost

@[expose] public section

noncomputable section

open Idealize.ShloMosaic Idealize.ShloMosaic.ValueIdx Idealize.SL.Sem

namespace Cert.Kernel5Ideal.Value

open Cert.Kernel5Ideal Cert.Kernel5Ideal.Gen Cert.Rows Cert.Mix

/-- The attention branch's part of the mixed rows. -/
theorem pay1_apply (v0 : Vec Ideal S512x1024 .f32) (v11 : Vec Ideal S1x1024 .f32) (v14 : Vec Ideal S512x1024 .f32) (r : Fin 512) (j : Fin 1024) :
    k0_pay1 v0 v11 v14 (ix2 r j) = norm 0x44800000#32 (fun k : Fin 1024 => v0 (ix2 r k)) j * v11 (ix2 (0 : Fin 1) j) * v14 (ix2 r j) := by
  unfold k0_pay1
  dsimp only
  rw [shapeCast_self, truncf_apply]
  refine congrArg₂ (fun x y : EReal => x * y) ?_ rfl
  exact congrArg₂ (fun x y : EReal => x * y) (norm_apply _ _ _ _ _ _ _) (broadcastTo_1b_ab_apply _ _ _ _)

/-- The spatial branch's part. -/
theorem pay5_apply (v84 : Vec Ideal S512x512 .f32) (v95 : Vec Ideal S1x512 .f32) (v98 : Vec Ideal S512x512 .f32) (r j : Fin 512) :
    k0_pay5 v84 v95 v98 (ix2 r j) = norm 0x44000000#32 (fun k : Fin 512 => v84 (ix2 r k)) j * v95 (ix2 (0 : Fin 1) j) * v98 (ix2 r j) := by
  unfold k0_pay5
  dsimp only
  rw [shapeCast_self, truncf_apply]
  refine congrArg₂ (fun x y : EReal => x * y) ?_ rfl
  exact congrArg₂ (fun x y : EReal => x * y) (norm_apply _ _ _ _ _ _ _) (broadcastTo_1b_ab_apply _ _ _ _)

/-- The convolution's part, from its scaled rows. -/
theorem pay4_apply (v74 : Vec Ideal S512x512 .f32) (v75 : Vec Ideal S1x512 .f32) (v78 : Vec Ideal S512x512 .f32) (r j : Fin 512) :
    k0_pay4 v74 v75 v78 (ix2 r j) = v74 (ix2 r j) * v75 (ix2 (0 : Fin 1) j) * v78 (ix2 r j) := by
  unfold k0_pay4
  rw [shapeCast_self, truncf_apply]
  refine congrArg₂ (fun x y : EReal => x * y) ?_ rfl
  exact congrArg (fun y : EReal => v74 (ix2 r j) * y) (broadcastTo_1b_ab_apply _ _ _ _)

/-- What the point stores: the residual and the product with the output weight. -/
theorem pay6_apply (v104 : Vec Ideal S512x2048 .f32) (v105 : Vec Ideal S512x2048 .bf16) (v106 : Vec Ideal S2048x2048 .bf16) (r : Fin 512) (j : Fin 2048) :
    k0_pay6 v104 v105 v106 (ix2 r j) = v104 (ix2 r j) + ∑ e : Fin 2048, v105 (ix2 r e) * v106 (ix2 e j) := by
  unfold k0_pay6
  rw [addf_apply]
  refine congrArg (fun y : EReal => v104 (ix2 r j) + y) ?_
  simp only [matmul]
  rw [Ideal.matmul_constant_zero_apply, ← (contrEquiv1 dot_S512x2048_S2048x2048_S512x2048_1_0_0_1_n_n 2048 rfl rfl).sum_comp]
  refine Finset.sum_congr rfl fun e _ => ?_
  exact congrArg₂ (fun x y : EReal => x * y) (congrArg v105 (Shape.idx_ext₂ rfl rfl)) (congrArg v106 (Shape.idx_ext₂ rfl rfl))

/-- The tile's number within its sequence, as the word the kernel computes. -/
def tileWord (n : ℕ) : BitVec 32 :=
  Scalar.select (Scalar.andi (Scalar.xori (Scalar.cmpi .slt (Scalar.remsi (BitVec.ofNat 32 n)
      (Scalar.select (Scalar.cmpi .eq (16#32 : BitVec 32) 0#32) 1#32 16#32)) 0#32)
      (Scalar.cmpi .slt (Scalar.select (Scalar.cmpi .eq (16#32 : BitVec 32) 0#32) 1#32 16#32) (0#32 : BitVec 32)))
      (Scalar.cmpi .ne (Scalar.remsi (BitVec.ofNat 32 n) (Scalar.select (Scalar.cmpi .eq (16#32 : BitVec 32) 0#32) 1#32 16#32)) 0#32))
    (Scalar.addi (Scalar.remsi (BitVec.ofNat 32 n) (Scalar.select (Scalar.cmpi .eq (16#32 : BitVec 32) 0#32) 1#32 16#32))
      (Scalar.select (Scalar.cmpi .eq (16#32 : BitVec 32) 0#32) 1#32 16#32))
    (Scalar.remsi (BitVec.ofNat 32 n) (Scalar.select (Scalar.cmpi .eq (16#32 : BitVec 32) 0#32) 1#32 16#32))

theorem tileWord_eq : ∀ n : Fin 32, tileWord n.val = BitVec.ofNat 32 (n.val % 16) := by decide +kernel

/-- The row above the tile: zero at the start of a sequence. -/
theorem pay2_apply (i : grid0.Coords) (v32 : Vec Ideal S1x512 .f32) (j : Fin 512) :
    k0_pay2 i v32 (ix2 (0 : Fin 1) j) = if (i 0).val % 16 = 0 then 0 else v32 (ix2 (0 : Fin 1) j) := by
  have hi : (i 0).val < 32 := (i 0).isLt
  have hw := tileWord_eq ⟨(i 0).val, hi⟩
  have hz : FloatOps.ofBits (F := Ideal) .f32 0x00000000#32 = (0 : EReal) := Ideal.ofBits_zero_f32
  unfold k0_pay2
  dsimp only
  change Scalar.select (Scalar.cmpi .eq (tileWord (i 0).val) 0#32) (broadcast S1x512 (Scalar.ofBits (F := Ideal) .f32 0x00000000#32) : S1x512.Idx → EReal) v32 _ = _
  dsimp only at hw
  rw [hw]
  refine (congrFun (select_eq (by omega) (by decide : 0 < 2 ^ 32) _ _) _).trans ?_
  by_cases h : (i 0).val % 16 = 0
  · rw [if_pos h, if_pos h]
    exact hz
  · rw [if_neg h, if_neg h]

/-- The two taps beside the row itself and the row, weighted, gated and scaled. -/
theorem pay3_apply (v20 : Vec Ideal S512x512 .f32) (n : Fin 32) (v34 v36 : Vec Ideal S1x512 .f32) (v52 : Vec Ideal S512x512 .f32)
    (v53 v56 v60 : Vec Ideal S1x512 .f32) (r j : Fin 512) :
    k0_pay3 v20 (tileWord n.val) v34 v36 v52 v53 v56 v60 (ix2 r j)
      = norm 0x44000000#32 (fun k : Fin 512 => v52 (ix2 r k)
          * ((if r.val = 0 then v34 (ix2 (0 : Fin 1) k) else v20 (ix2 (⟨(r.val + 511) % 512, Nat.mod_lt _ (by decide)⟩ : Fin 512) k)) * v53 (ix2 (0 : Fin 1) k)
            + v20 (ix2 r k) * v56 (ix2 (0 : Fin 1) k)
            + (if r.val = 511 then (if n.val % 16 = 15 then 0 else v36 (ix2 (0 : Fin 1) k))
                else v20 (ix2 (⟨(r.val + 1) % 512, Nat.mod_lt _ (by decide)⟩ : Fin 512) k)) * v60 (ix2 (0 : Fin 1) k))) j := by
  have hz : FloatOps.ofBits (F := Ideal) .f32 0x00000000#32 = (0 : EReal) := Ideal.ofBits_zero_f32
  unfold k0_pay3
  dsimp only
  refine (norm_apply _ _ _ _ _ _ _).trans ?_
  congr 1
  funext k
  rw [mulf_apply, addf_apply, addf_apply, mulf_apply, mulf_apply, mulf_apply, broadcastTo_1b_ab_apply, broadcastTo_1b_ab_apply,
    broadcastTo_1b_ab_apply, shapeCast_self, shapeCast_self]
  have hsel : ∀ (b : ℕ) (hb : b < 512) (x y : Vec Ideal S512x512 .f32),
      select (cmpi .eq (iota .tc S512x512 32 [0] iota_S512x512_d0_w32) (broadcast S512x512 (BitVec.ofNat 32 b))) x y (ix2 r k)
        = if r.val = b then x (ix2 r k) else y (ix2 r k) := by
    intro b hb x y
    have hr := r.isLt
    show Scalar.select (Scalar.cmpi .eq (BitVec.ofNat 32 (0 * 512 + r.val)) (BitVec.ofNat 32 b)) (x (ix2 r k)) (y (ix2 r k)) = _
    rw [Nat.zero_mul, Nat.zero_add]
    exact select_eq (by omega) (by omega) _ _
  rw [hsel 0 (by decide), hsel 511 (by decide), broadcastTo_1b_ab_apply, broadcastTo_1b_ab_apply]
  rw [dynamicRotate_apply (0 : Fin 2) 1#32 v20 _ (ix2 r k) (ix2 (⟨(r.val + 511) % 512, Nat.mod_lt _ (by decide)⟩ : Fin 512) k)
      (by intro b; fin_cases b <;> simp [ix2]),
    dynamicRotate_apply (0 : Fin 2) 511#32 v20 _ (ix2 r k) (ix2 (⟨(r.val + 1) % 512, Nat.mod_lt _ (by decide)⟩ : Fin 512) k)
      (by intro b; fin_cases b <;> simp [ix2])]
  have hlast : Scalar.select (Scalar.cmpi .eq (tileWord n.val) 15#32) (broadcast S1x512 (Scalar.ofBits (F := Ideal) .f32 0x00000000#32)
      : S1x512.Idx → EReal) v36 (ix2 (0 : Fin 1) k) = if n.val % 16 = 15 then 0 else v36 (ix2 (0 : Fin 1) k) := by
    rw [tileWord_eq]
    refine (congrFun (select_eq (by omega) (by decide : 15 < 2 ^ 32) _ _) _).trans ?_
    by_cases h : n.val % 16 = 15
    · rw [if_pos h, if_pos h]
      exact hz
    · rw [if_neg h, if_neg h]
  rw [← hlast]

end Cert.Kernel5Ideal.Value

end
-- ==== Proof.InnerPoint.lean ====
/-
  One grid point of the mixing kernel without the last norm as a whole: what its body stores into its block of the result.
-/
module

public import proofs.«01_k».proof.Proof.InnerStep
public import proofs.«01_k».proof.Proof.Views
public import proofs.«01_k».proof.Proof.Gen.Kernel5Ideal.Frame

@[expose] public section

noncomputable section

open Idealize.ShloMosaic Idealize.ShloMosaic.ValueIdx Idealize.SL.Sem

namespace Cert.Kernel5Ideal.Value

open Cert.Kernel5Ideal Cert.Kernel5Ideal.Gen Cert.Rows Cert.Mix Cert.Views

variable (c : Dev nD) (i : grid0.Coords)
  (x0 : Vec Ideal S512x2048 .f32) (x1 : Vec Ideal S512x1024 .f32) (x2 : Vec Ideal S512x1024 .f32) (x3 : Vec Ideal S512x512 .f32)
  (x4 : Vec Ideal S8x512 .f32) (x5 : Vec Ideal S8x512 .f32) (x6 x7 x8 x9 : Vec Ideal S512x512 .f32) (x10 : Vec Ideal S3x512 .f32)
  (x11 : Vec Ideal S1x2048 .f32) (x12 : Vec Ideal S2048x2048 .bf16) (x13 : Vec Ideal S1x2048 .f32)

/-- The gated convolution of the block's row `r`: the rows beside it come from the block, or at the block's edges from the
    neighbouring blocks, or are zero at the edges of the sequence. -/
def blockConv (n : ℕ) (r k : Fin 512) : EReal :=
  x6 (ix2 r k)
    * ((if r.val = 0 then (if n % 16 = 0 then 0 else x4 (ix2 (7 : Fin 8) k)) else x3 (ix2 (⟨(r.val + 511) % 512, Nat.mod_lt _ (by decide)⟩ : Fin 512) k))
        * x10 (ix2 (0 : Fin 3) k)
      + x3 (ix2 r k) * x10 (ix2 (1 : Fin 3) k)
      + (if r.val = 511 then (if n % 16 = 15 then 0 else x5 (ix2 (0 : Fin 8) k)) else x3 (ix2 (⟨(r.val + 1) % 512, Nat.mod_lt _ (by decide)⟩ : Fin 512) k))
        * x10 (ix2 (2 : Fin 3) k))

/-- The three branches of the block's row `r`, side by side. -/
def blockMixed (n : ℕ) (r : Fin 512) (e : Fin 2048) : EReal :=
  if h₁ : e.val < 1024 then
    norm 0x44800000#32 (fun k : Fin 1024 => x1 (ix2 r k)) ⟨e.val, h₁⟩ * x11 (ix2 (0 : Fin 1) e) * x2 (ix2 r (⟨e.val, h₁⟩ : Fin 1024))
  else if h₂ : e.val < 1536 then
    norm 0x44000000#32 (blockConv x3 x4 x5 x6 x10 n r) ⟨e.val - 1024, by omega⟩ * x11 (ix2 (0 : Fin 1) e)
      * x7 (ix2 r (⟨e.val - 1024, by omega⟩ : Fin 512))
  else
    norm 0x44000000#32 (fun k : Fin 512 => x8 (ix2 r k)) ⟨e.val - 1536, by omega⟩ * x11 (ix2 (0 : Fin 1) e)
      * x9 (ix2 r (⟨e.val - 1536, by omega⟩ : Fin 512))

/-- What the body stores, at a row and a column. -/
theorem out_A (arg1 : Memref sig .tc .vmem S512x2048 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x512 .f32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S512x512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S3x512 .f32) (harg11 : arg11.IsWhole) (arg12 : Memref sig .tc .vmem S1x2048 .f32) (harg12 : arg12.IsWhole)
    (arg13 : Memref sig .tc .vmem S2048x2048 .bf16) (harg13 : arg13.IsWhole) (arg14 : Memref sig .tc .vmem S1x2048 .f32) (harg14 : arg14.IsWhole)
    (arg15 : Memref sig .tc .vmem S512x2048 .f32) (harg15 : arg15.IsWhole) (arg16 : Memref sig .tc .vmem S512x2048 .bf16) (harg16 : arg16.IsWhole)
    (r : Fin 512) (j : Fin 2048) :
    out0_A_14 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x1 x2 x3 x4 x5 x6 x7 x8 x9 x10 x11 x12 x13 (ix2 r j)
      = x0 (ix2 r j) + ∑ e : Fin 2048, blockMixed x1 x2 x3 x4 x5 x6 x7 x8 x9 x10 x11 (i 0).val r e * x12 (ix2 e j) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 x0 x1 x2 x3 x4 x5 x6 x7 x8 x9 x10 x11 x12 x13)]
  unfold kernelRun0_A
  dsimp only
  sl_unfold_words
  simp (discharger := decide) only [View.readAt_eq_ld, Memref.IsWhole.read_unread, View.readCov_eq_canon', ld_whole, canon_whole]
  refine (pay6_apply _ _ _ r j).trans ?_
  refine congrArg (fun z : EReal => x0 (ix2 r j) + z) (Finset.sum_congr rfl fun e _ => congrArg (fun z : EReal => z * x12 (ix2 e j)) ?_)
  have hi : (i 0).val < 32 := (i 0).isLt
  have he : (Rect.unit (s := S512x2048) ![0, 0] ![512, 2048] inb_S512x2048_S512x2048_0_0).idx (ix2 r e) = ix2 r e := by
    refine funext fun x => Fin.ext ?_
    refine (Rect.idx_unit_val _ _ _ _ _).trans ?_
    fin_cases x <;> simp
  rw [he]
  unfold blockMixed
  by_cases h₁ : e.val < 1024
  · rw [dif_pos h₁]
    refine (canon_cols_skip _ _ _ r e (by omega)).trans ((canon_cols_skip _ _ _ r e (by omega)).trans
      ((canon_cols_hit _ _ _ r e (⟨e.val, h₁⟩ : Fin 1024) (by simp)).trans ((pay1_apply _ _ _ _ _).trans ?_)))
    rw [ld_part (p := 0) (q := 0) x11 _ (0 : Fin 1) (⟨e.val, h₁⟩ : Fin 1024) (0 : Fin 1) e rfl (by simp)]
  · rw [dif_neg h₁]
    by_cases h₂ : e.val < 1536
    · rw [dif_pos h₂]
      refine (canon_cols_skip _ _ _ r e (by omega)).trans ((canon_cols_hit _ _ _ r e (⟨e.val - 1024, by omega⟩ : Fin 512) (by simp; omega)).trans
        ((pay4_apply _ _ _ _ _).trans ?_))
      rw [ld_part (p := 0) (q := 1024) x11 _ (0 : Fin 1) (⟨e.val - 1024, by omega⟩ : Fin 512) (0 : Fin 1) e rfl (by simp; omega)]
      refine congrArg (fun z : EReal => z * x11 (ix2 (0 : Fin 1) e) * x7 (ix2 r (⟨e.val - 1024, by omega⟩ : Fin 512))) ?_
      refine (pay3_apply x3 ⟨(i 0).val, hi⟩ _ _ _ _ _ _ r _).trans ?_
      refine congrArg (fun f : Fin 512 → EReal => norm 0x44000000#32 f _) (funext fun k => ?_)
      unfold blockConv
      rw [pay2_apply, ld_part (p := 7) (q := 0) x4 _ (0 : Fin 1) k (7 : Fin 8) k rfl (by simp), ld_part (p := 0) (q := 0) x5 _ (0 : Fin 1) k (0 : Fin 8) k rfl (by simp),
        ld_part (p := 0) (q := 0) x10 _ (0 : Fin 1) k (0 : Fin 3) k rfl (by simp), ld_part (p := 1) (q := 0) x10 _ (0 : Fin 1) k (1 : Fin 3) k rfl (by simp),
        ld_part (p := 2) (q := 0) x10 _ (0 : Fin 1) k (2 : Fin 3) k rfl (by simp)]
    · rw [dif_neg h₂]
      refine (canon_cols_hit _ _ _ r e (⟨e.val - 1536, by omega⟩ : Fin 512) (by simp; omega)).trans ((pay5_apply _ _ _ _ _).trans ?_)
      rw [ld_part (p := 0) (q := 1536) x11 _ (0 : Fin 1) (⟨e.val - 1536, by omega⟩ : Fin 512) (0 : Fin 1) e rfl (by simp; omega)]

end Cert.Kernel5Ideal.Value

end
-- ==== Proof.InnerBlocks.lean ====
/-
  The mixing kernel without the last norm: the result array. Every grid point stores 512 rows of the residual and the mixed branches' product.
-/
module

public import proofs.«01_k».proof.Proof.InnerPoint
public import proofs.«01_k».proof.Proof.Gen.Kernel5Ideal.Value
public import Idealize.ShloMosaic.Lib.Pipeline.ValueKit.Geometry

@[expose] public section

noncomputable section

open Idealize.ShloMosaic Idealize.ShloMosaic.ValueIdx Idealize.ShloMosaic.TcCoe Idealize.SL.Sem
open Idealize.ShloMosaic.Pipeline (Dat)

namespace Cert.Kernel5Ideal.Value

open Cert.Kernel5Ideal Cert.Kernel5Ideal.Gen Cert.Rows Cert.Mix

/-! ## Which block each point sees -/

theorem coords_eq : ∀ t : Fin cfg0.N, (grid0.coords t 0).val = t.val :=
  (by decide +kernel : ∀ t : Fin grid0.N, _)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![64 * t.val - 1, 0] := (by decide +kernel : ∀ t : Fin grid0.N, _)
theorem index_5 : ∀ t : Fin cfg0.N, win0_5.index t = ![min (64 * t.val + 64) 2047, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![t.val, 0] := (by decide +kernel : ∀ t : Fin grid0.N, _)

theorem lt_32 (t : Fin cfg0.N) : t.val < 32 := N_0 ▸ t.isLt

/-- The row of the arrays that is row `r` of point `t`'s blocks. -/
def row (t : Fin cfg0.N) (r : Fin 512) : Fin 16384 := ⟨512 * t.val + r.val, by have := lt_32 t; omega⟩

variable (m : (ℓ : Loc nD τ sig) → Buf (Elt Ideal) ℓ) (c : Dev nD) (t : Fin cfg0.N)

theorem iblk_0_apply (r : Fin 512) (j : Fin 2048) :
    (iblk m c 0 t : Vec Ideal S512x2048 .f32) (ix2 r j) = (V m c main_arg0 : Mat 16384 2048) (ix2 (row t r) j) := by
  blk_simp [iblk]
  refine congrArg (V m c main_arg0) (funext fun a => Fin.ext ?_)
  fin_cases a <;> blk_simp [index_0] <;> simp [ix2, row] <;> omega

theorem iblk_1_apply (r : Fin 512) (j : Fin 1024) :
    (iblk m c 1 t : Vec Ideal S512x1024 .f32) (ix2 r j) = (V m c main_arg1 : Mat 16384 1024) (ix2 (row t r) j) := by
  blk_simp [iblk]
  refine congrArg (V m c main_arg1) (funext fun a => Fin.ext ?_)
  fin_cases a <;> blk_simp [index_1] <;> simp [ix2, row] <;> omega

theorem iblk_2_apply (r : Fin 512) (j : Fin 1024) :
    (iblk m c 2 t : Vec Ideal S512x1024 .f32) (ix2 r j) = (V m c main_arg2 : Mat 16384 1024) (ix2 (row t r) j) := by
  blk_simp [iblk]
  refine congrArg (V m c main_arg2) (funext fun a => Fin.ext ?_)
  fin_cases a <;> blk_simp [index_2] <;> simp [ix2, row] <;> omega

theorem iblk_3_apply (r : Fin 512) (j : Fin 512) :
    (iblk m c 3 t : Vec Ideal S512x512 .f32) (ix2 r j) = (V m c main_arg3 : Mat 16384 512) (ix2 (row t r) j) := by
  blk_simp [iblk]
  refine congrArg (V m c main_arg3) (funext fun a => Fin.ext ?_)
  fin_cases a <;> blk_simp [index_3] <;> simp [ix2, row] <;> omega

/-- The last row of the block of eight rows before the tile is the row before the tile. -/
theorem iblk_4_apply (ht : t.val ≠ 0) (T : Fin 16384) (hT : T.val + 1 = 512 * t.val) (j : Fin 512) :
    (iblk m c 4 t : Vec Ideal S8x512 .f32) (ix2 (7 : Fin 8) j) = (V m c main_arg3 : Mat 16384 512) (ix2 T j) := by
  blk_simp [iblk]
  refine congrArg (V m c main_arg3) (funext fun a => Fin.ext ?_)
  fin_cases a <;> blk_simp [index_4] <;> simp [ix2] <;> omega

/-- The first row of the block of eight rows after the tile is the row after the tile. -/
theorem iblk_5_apply (ht : t.val ≠ 31) (T : Fin 16384) (hT : T.val = 512 * t.val + 512) (j : Fin 512) :
    (iblk m c 5 t : Vec Ideal S8x512 .f32) (ix2 (0 : Fin 8) j) = (V m c main_arg3 : Mat 16384 512) (ix2 T j) := by
  have := lt_32 t
  blk_simp [iblk]
  refine congrArg (V m c main_arg3) (funext fun a => Fin.ext ?_)
  fin_cases a <;> blk_simp [index_5] <;> simp [ix2] <;> omega

theorem iblk_6_apply (r : Fin 512) (j : Fin 512) :
    (iblk m c 6 t : Vec Ideal S512x512 .f32) (ix2 r j) = (V m c main_arg4 : Mat 16384 512) (ix2 (row t r) j) := by
  blk_simp [iblk]
  refine congrArg (V m c main_arg4) (funext fun a => Fin.ext ?_)
  fin_cases a <;> blk_simp [index_6] <;> simp [ix2, row] <;> omega

theorem iblk_7_apply (r : Fin 512) (j : Fin 512) :
    (iblk m c 7 t : Vec Ideal S512x512 .f32) (ix2 r j) = (V m c main_arg5 : Mat 16384 512) (ix2 (row t r) j) := by
  blk_simp [iblk]
  refine congrArg (V m c main_arg5) (funext fun a => Fin.ext ?_)
  fin_cases a <;> blk_simp [index_7] <;> simp [ix2, row] <;> omega

theorem iblk_8_apply (r : Fin 512) (j : Fin 512) :
    (iblk m c 8 t : Vec Ideal S512x512 .f32) (ix2 r j) = (V m c main_arg6 : Mat 16384 512) (ix2 (row t r) j) := by
  blk_simp [iblk]
  refine congrArg (V m c main_arg6) (funext fun a => Fin.ext ?_)
  fin_cases a <;> blk_simp [index_8] <;> simp [ix2, row] <;> omega

theorem iblk_9_apply (r : Fin 512) (j : Fin 512) :
    (iblk m c 9 t : Vec Ideal S512x512 .f32) (ix2 r j) = (V m c main_arg7 : Mat 16384 512) (ix2 (row t r) j) := by
  blk_simp [iblk]
  refine congrArg (V m c main_arg7) (funext fun a => Fin.ext ?_)
  fin_cases a <;> blk_simp [index_9] <;> simp [ix2, row] <;> omega

theorem iblk_10_apply (y : S3x512.Idx) : (iblk m c 10 t : Vec Ideal S3x512 .f32) y = (V m c main_arg8 : Mat 3 512) y := by
  blk_simp [iblk]
  refine congrArg (V m c main_arg8) (funext fun a => Fin.ext ?_)
  fin_cases a <;> blk_simp [index_10]

theorem iblk_11_apply (y : S1x2048.Idx) : (iblk m c 11 t : Vec Ideal S1x2048 .f32) y = (V m c main_arg9 : Mat 1 2048) y := by
  blk_simp [iblk]
  refine congrArg (V m c main_arg9) (funext fun a => Fin.ext ?_)
  fin_cases a <;> blk_simp [index_11]

theorem iblk_12_apply (y : S2048x2048.Idx) : (iblk m c 12 t : Vec Ideal S2048x2048 .bf16) y = (V m c main_arg10 : Mat 2048 2048) y := by
  blk_simp [iblk]
  refine congrArg (V m c main_arg10) (funext fun a => Fin.ext ?_)
  fin_cases a <;> blk_simp [index_12]

/-! ## The rows of a block are rows of the arrays -/

theorem blockConv_eq (r k : Fin 512) :
    blockConv (iblk m c 3 t) (iblk m c 4 t) (iblk m c 5 t) (iblk m c 6 t) (iblk m c 10 t) t.val r k
      = conv (V m c main_arg3) (V m c main_arg4) (V m c main_arg8) (row t r) k := by
  have ht := lt_32 t
  have hr := r.isLt
  unfold blockConv conv
  rw [iblk_6_apply, iblk_3_apply m c t r k, iblk_10_apply, iblk_10_apply, iblk_10_apply]
  have hb : (if r.val = 0 then (if t.val % 16 = 0 then (0 : EReal) else (iblk m c 4 t : Vec Ideal S8x512 .f32) (ix2 (7 : Fin 8) k))
      else (iblk m c 3 t : Vec Ideal S512x512 .f32) (ix2 (⟨(r.val + 511) % 512, Nat.mod_lt _ (by decide)⟩ : Fin 512) k))
      = before (V m c main_arg3) (row t r) k := by
    unfold before
    by_cases h0 : r.val = 0
    · rw [if_pos h0]
      by_cases h1 : t.val % 16 = 0
      · rw [if_pos h1, if_pos (by simp only [row]; omega)]
      · rw [if_neg h1, if_neg (by simp only [row]; omega)]
        exact iblk_4_apply m c t (by omega) _ (by simp only [row]; omega) k
    · rw [if_neg h0, if_neg (by simp only [row]; omega), iblk_3_apply]
      exact congrArg (fun T : Fin 16384 => (V m c main_arg3 : Mat 16384 512) (ix2 T k)) (Fin.ext (by simp only [row]; omega))
  have ha : (if r.val = 511 then (if t.val % 16 = 15 then (0 : EReal) else (iblk m c 5 t : Vec Ideal S8x512 .f32) (ix2 (0 : Fin 8) k))
      else (iblk m c 3 t : Vec Ideal S512x512 .f32) (ix2 (⟨(r.val + 1) % 512, Nat.mod_lt _ (by decide)⟩ : Fin 512) k))
      = after (V m c main_arg3) (row t r) k := by
    unfold after
    by_cases h0 : r.val = 511
    · rw [if_pos h0]
      by_cases h1 : t.val % 16 = 15
      · rw [if_pos h1, if_pos (by simp only [row]; omega)]
      · rw [if_neg h1, if_neg (by simp only [row]; omega)]
        exact iblk_5_apply m c t (by omega) _ (by simp only [row]; omega) k
    · rw [if_neg h0, if_neg (by simp only [row]; omega), iblk_3_apply]
      exact congrArg (fun T : Fin 16384 => (V m c main_arg3 : Mat 16384 512) (ix2 T k)) (Fin.ext (by simp only [row]; omega))
  rw [hb, ha]

theorem blockMixed_eq (r : Fin 512) (e : Fin 2048) :
    blockMixed (iblk m c 1 t) (iblk m c 2 t) (iblk m c 3 t) (iblk m c 4 t) (iblk m c 5 t) (iblk m c 6 t) (iblk m c 7 t) (iblk m c 8 t)
        (iblk m c 9 t) (iblk m c 10 t) (iblk m c 11 t) t.val r e
      = mixed (V m c main_arg1) (V m c main_arg2) (V m c main_arg3) (V m c main_arg4) (V m c main_arg5) (V m c main_arg6) (V m c main_arg7)
          (V m c main_arg8) (V m c main_arg9) (row t r) e := by
  unfold blockMixed mixed
  simp only [iblk_1_apply, iblk_2_apply, iblk_7_apply, iblk_8_apply, iblk_9_apply, iblk_11_apply]
  rw [show blockConv (iblk m c 3 t) (iblk m c 4 t) (iblk m c 5 t) (iblk m c 6 t) (iblk m c 10 t) t.val r
    = conv (V m c main_arg3) (V m c main_arg4) (V m c main_arg8) (row t r) from funext fun k => blockConv_eq m c t r k]

/-! ## The result -/

/-- The call's result as an array. -/
def resultArray : S16384x2048.Idx → EReal := fun y =>
  summed (V m c main_arg0) (mixed (V m c main_arg1) (V m c main_arg2) (V m c main_arg3) (V m c main_arg4) (V m c main_arg5)
    (V m c main_arg6) (V m c main_arg7) (V m c main_arg8) (V m c main_arg9)) (V m c main_arg10) (y 0) (y 1)

/-- What a point stores is its rows of the result. -/
theorem out_eq (r : Fin 512) (j : Fin 2048) :
    (outsAt0 m c t : Vec Ideal S512x2048 .f32) (ix2 r j) = resultArray m c (ix2 (row t r) j) := by
  unfold outsAt0
  rw [out_A]
  unfold resultArray summed
  simp only [coords_eq, iblk_0_apply, iblk_12_apply, blockMixed_eq]

/-- The result array after the run. -/
theorem final : (dats m 0 c).arrAt 14 cfg0.N = resultArray m c := by
  refine (dats m 0 c).arrAt_eq_of_covers 14 _ (by decide +kernel) fun t hf y => ?_
  blk_simp
  rw [after0_14]
  obtain ⟨r, j, e⟩ : ∃ (r : Fin 512) (j : Fin 2048), (y : S512x2048.Idx) = ix2 r j := ⟨_, _, eq_ix2 (y : S512x2048.Idx)⟩
  have e1 := out_eq m c t r j
  have e2 : (win0_14.blk t).view.emb (ix2 r j) = (ix2 (row t r) j : S16384x2048.Idx) := by
    refine funext fun a => Fin.ext ?_
    fin_cases a <;> blk_simp [index_14] <;> simp [ix2, row] <;> omega
  rw [← e2, ← e] at e1
  exact e1

end Cert.Kernel5Ideal.Value

end
-- ==== Proof.InnerReference.lean ====
/-
  The mixing reference without the last norm: its result, operation by operation: it is the residual and the mixed branches' product.
-/
module

public import proofs.«01_k».proof.Proof.Mix
public import proofs.«01_k».proof.Proof.Gen.Reference5Ideal
public import proofs.«01_k».proof.Proof.Gen.Reference5Ideal.Read
public import Idealize.ShloMosaic.Lib.KernelVsHost
public import Idealize.ShloMosaic.Lib.Pipeline.Value

@[expose] public section

noncomputable section

open Idealize.ShloMosaic Idealize.ShloMosaic.ValueIdx Idealize.SL.Sem

namespace Cert.Reference5Ideal.Read

open Cert.Reference5Ideal Cert.Reference5Ideal.Gen Cert.Rows Cert.Mix

variable (x0 : Mat 16384 2048) (x1 x2 : Mat 16384 1024) (x3 x4 x5 x6 x7 : Mat 16384 512) (x8 : Mat 3 512) (x9 : Mat 1 2048)
  (x10 : Mat 2048 2048)

/-- The padded rows: zero before the first and after the last row of a sequence. -/
theorem pad_apply (b : Fin 2) (s : Fin 8194) (j : Fin 512) :
    val_main_v2 (F := Ideal) x3 (ix3 b s j)
      = if h : 1 ≤ s.val ∧ s.val ≤ 8192 then x3 (ix2 (⟨8192 * b.val + (s.val - 1), by omega⟩ : Fin 16384) j) else 0 := by
  unfold val_main_v2
  by_cases h : 1 ≤ s.val ∧ s.val ≤ 8192
  · rw [dif_pos h]
    refine (pad_apply_of_inside _ _ _ _ _ _ _ (ix3 b s j) (ix3 b (⟨s.val - 1, by omega⟩ : Fin 8192) j) ?_).trans ?_
    · intro a
      fin_cases a
      · simp [ix3]
      · simp [ix3]; omega
      · simp [ix3]
    · rw [val_main_v1_apply]
      refine congrArg x3 (Shape.idx_ext₂ ?_ ?_)
      · simp [ix2, ix3]; omega
      · simp [ix2, ix3]
  · rw [dif_neg h]
    refine (pad_apply_of_not_inside _ _ _ _ _ _ _ (ix3 b s j) 1 ?_).trans ?_
    · intro h1
      apply h
      simp [ix3] at h1
      omega
    · rw [val_main_call0_v0_apply, val_main_c_apply]
      show (((0#32 : BitVec 32).toInt : ℝ) : EReal) = 0
      simp

/-- The convolution. -/
theorem conv_apply (T : Fin 16384) (j : Fin 512) : val_main_v24 (F := Ideal) x3 x4 x8 (ix2 T j) = conv x3 x4 x8 T j := by
  have hT := T.isLt
  have hi : idx_main_v23 (ix2 T j) = ix3 (⟨T.val / 8192, by omega⟩ : Fin 2) (⟨T.val % 8192, Nat.mod_lt _ (by decide)⟩ : Fin 8192) j := by
    refine funext fun a => Fin.ext ?_
    fin_cases a
    all_goals simp [ix2, ix3]
    all_goals omega
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_v5_apply,
    val_main_v4_apply, val_main_v3_apply, hi]
  have e3 : idx_main_v3 (ix3 (⟨T.val / 8192, by omega⟩ : Fin 2) (⟨T.val % 8192, Nat.mod_lt _ (by decide)⟩ : Fin 8192) j)
      = ix3 (⟨T.val / 8192, by omega⟩ : Fin 2) (⟨T.val % 8192, by omega⟩ : Fin 8194) j := by
    funext a; fin_cases a <;> rfl
  have e9 : idx_main_v9 (ix3 (⟨T.val / 8192, by omega⟩ : Fin 2) (⟨T.val % 8192, Nat.mod_lt _ (by decide)⟩ : Fin 8192) j)
      = ix3 (⟨T.val / 8192, by omega⟩ : Fin 2) (⟨1 + T.val % 8192, by omega⟩ : Fin 8194) j := by
    funext a; fin_cases a <;> rfl
  have e16 : idx_main_v16 (ix3 (⟨T.val / 8192, by omega⟩ : Fin 2) (⟨T.val % 8192, Nat.mod_lt _ (by decide)⟩ : Fin 8192) j)
      = ix3 (⟨T.val / 8192, by omega⟩ : Fin 2) (⟨2 + T.val % 8192, by omega⟩ : Fin 8194) j := by
    funext a; fin_cases a <;> rfl
  rw [e3, e9, e16, pad_apply, pad_apply, pad_apply]
  unfold conv
  refine congrArg (fun z : EReal => x4 (ix2 T j) * z) ?_
  refine congrArg₂ (fun x y : EReal => x + y) (congrArg₂ (fun x y : EReal => x + y) ?_ ?_) ?_
  · refine congrArg₂ (fun x y : EReal => x * y) ?_ (congrArg x8 (Shape.idx_ext₂ rfl (by simp [ix2, ix3])))
    unfold before
    by_cases h : T.val % 8192 = 0
    · rw [if_pos h, dif_neg (by simp only; omega)]
    · rw [if_neg h, dif_pos (by simp only; omega)]
      exact congrArg x3 (Shape.idx_ext₂ (by simp [ix2]; omega) rfl)
  · refine congrArg₂ (fun x y : EReal => x * y) ?_ (congrArg x8 (Shape.idx_ext₂ rfl (by simp [ix2, ix3])))
    rw [dif_pos (by simp only; omega)]
    exact congrArg x3 (Shape.idx_ext₂ (by simp [ix2]; omega) rfl)
  · refine congrArg₂ (fun x y : EReal => x * y) ?_ (congrArg x8 (Shape.idx_ext₂ rfl (by simp [ix2, ix3])))
    unfold after
    by_cases h : T.val % 8192 = 8191
    · rw [if_pos h, dif_neg (by simp only; omega)]
    · rw [if_neg h, dif_pos (by simp only; omega)]
      exact congrArg x3 (Shape.idx_ext₂ (by simp [ix2]; omega) rfl)

/-- The attention branch, scaled and gated. -/
theorem branch_a (T : Fin 16384) (j : Fin 1024) :
    val_main_v39 (F := Ideal) x1 x2 x9 (ix2 T j)
      = norm 0x44800000#32 (fun k : Fin 1024 => x1 (ix2 T k)) j * x9 (ix2 (0 : Fin 1) (⟨j.val, by omega⟩ : Fin 2048)) * x2 (ix2 T j) := by
  simp only [val_main_v39_apply, val_main_v38_apply, val_main_v37_apply, val_main_v36_apply, val_main_v35_apply, val_main_v34_apply,
    val_main_v33_apply, val_main_v32_apply, val_main_v31_apply, val_main_v30_apply, val_main_v29_apply, val_main_v28_apply, val_main_v27_apply,
    val_main_v25_apply, val_main_v0_apply]
  refine congrArg₂ (fun x y : EReal => x * y) (congrArg₂ (fun x y : EReal => x * y) ?_ (congrArg x9 (Shape.idx_ext₂ rfl ?_))) rfl
  · refine norm_of 0x44800000#32 (fun k : Fin 1024 => x1 (ix2 T k))
      (fun k => val_main_v26 (F := Ideal) x1 (idx_main_v27 (idx_main_v28 (idx_main_v34 (ix2 T j))) k)) j fun k => ?_
    rw [val_main_v26_apply]
    exact congrArg (fun i => x1 i * x1 i) (Shape.idx_ext₂ rfl rfl)
  · have := j.isLt
    simp [ix2]
    omega

/-- The convolution branch, scaled and gated. -/
theorem branch_c (T : Fin 16384) (j : Fin 512) :
    val_main_v54 (F := Ideal) x3 x4 x5 x8 x9 (ix2 T j)
      = norm 0x44000000#32 (conv x3 x4 x8 T) j * x9 (ix2 (0 : Fin 1) (⟨1024 + j.val, by omega⟩ : Fin 2048)) * x5 (ix2 T j) := by
  simp only [val_main_v54_apply, val_main_v53_apply, val_main_v52_apply, val_main_v51_apply, val_main_v50_apply, val_main_v49_apply,
    val_main_v48_apply, val_main_v47_apply, val_main_v46_apply, val_main_v45_apply, val_main_v44_apply, val_main_v43_apply, val_main_v42_apply,
    val_main_v40_apply, val_main_v0_apply, conv_apply]
  refine congrArg₂ (fun x y : EReal => x * y) (congrArg₂ (fun x y : EReal => x * y) ?_ (congrArg x9 (Shape.idx_ext₂ rfl ?_))) rfl
  · refine norm_of 0x44000000#32 (conv x3 x4 x8 T)
      (fun k => val_main_v41 (F := Ideal) x3 x4 x8 (idx_main_v42 (idx_main_v43 (idx_main_v49 (ix2 T j))) k)) j fun k => ?_
    rw [val_main_v41_apply]
    refine Eq.trans ?_ (congrArg (fun z : EReal => z * z) (conv_apply x3 x4 x8 T k))
    exact congrArg (fun i => val_main_v24 (F := Ideal) x3 x4 x8 i * val_main_v24 (F := Ideal) x3 x4 x8 i) (Shape.idx_ext₂ rfl rfl)
  · have := j.isLt
    simp [ix2]
    omega

/-- The spatial branch, scaled and gated. -/
theorem branch_s (T : Fin 16384) (j : Fin 512) :
    val_main_v69 (F := Ideal) x6 x7 x9 (ix2 T j)
      = norm 0x44000000#32 (fun k : Fin 512 => x6 (ix2 T k)) j * x9 (ix2 (0 : Fin 1) (⟨1536 + j.val, by omega⟩ : Fin 2048)) * x7 (ix2 T j) := by
  simp only [val_main_v69_apply, val_main_v68_apply, val_main_v67_apply, val_main_v66_apply, val_main_v65_apply, val_main_v64_apply,
    val_main_v63_apply, val_main_v62_apply, val_main_v61_apply, val_main_v60_apply, val_main_v59_apply, val_main_v58_apply, val_main_v57_apply,
    val_main_v55_apply, val_main_v0_apply]
  refine congrArg₂ (fun x y : EReal => x * y) (congrArg₂ (fun x y : EReal => x * y) ?_ (congrArg x9 (Shape.idx_ext₂ rfl ?_))) rfl
  · refine norm_of 0x44000000#32 (fun k : Fin 512 => x6 (ix2 T k))
      (fun k => val_main_v56 (F := Ideal) x6 (idx_main_v57 (idx_main_v58 (idx_main_v64 (ix2 T j))) k)) j fun k => ?_
    rw [val_main_v56_apply]
    exact congrArg (fun i => x6 i * x6 i) (Shape.idx_ext₂ rfl rfl)
  · have := j.isLt
    simp [ix2]
    omega

/-- The three branches side by side. -/
theorem mixed_apply (T : Fin 16384) (e : Fin 2048) :
    val_main_v70 (F := Ideal) x1 x2 x3 x4 x5 x6 x7 x8 x9 (ix2 T e) = mixed x1 x2 x3 x4 x5 x6 x7 x8 x9 T e := by
  unfold val_main_v70 mixed
  have off : ∀ {n : ℕ} (k : Fin n) (b : Fin 2), b ≠ 1 → ((ix2 T k : (⟨2, ![16384, n]⟩ : Shape).Idx) b).val = ((ix2 T e : S16384x2048.Idx) b).val := by
    intro n k b hb
    fin_cases b
    · rfl
    · exact absurd rfl hb
  by_cases h₁ : e.val < 1024
  · rw [dif_pos h₁]
    refine (concatenate_apply_piece 1 [⟨S16384x1024, val_main_v39 (F := Ideal) x1 x2 x9⟩, ⟨S16384x512, val_main_v54 (F := Ideal) x3 x4 x5 x8 x9⟩,
      ⟨S16384x512, val_main_v69 (F := Ideal) x6 x7 x9⟩] _ (ix2 T e) 0 (show 0 < 3 by decide) S16384x1024 _ rfl rfl 0 rfl (ix2 T (⟨e.val, h₁⟩ : Fin 1024))
      (off _) (by simp [ix2])).trans (branch_a x1 x2 x9 T ⟨e.val, h₁⟩)
  · rw [dif_neg h₁]
    by_cases h₂ : e.val < 1536
    · rw [dif_pos h₂]
      refine (concatenate_apply_piece 1 [⟨S16384x1024, val_main_v39 (F := Ideal) x1 x2 x9⟩, ⟨S16384x512, val_main_v54 (F := Ideal) x3 x4 x5 x8 x9⟩,
      ⟨S16384x512, val_main_v69 (F := Ideal) x6 x7 x9⟩] _ (ix2 T e) 1 (show 1 < 3 by decide) S16384x512 _ rfl rfl 1024 rfl (ix2 T (⟨e.val - 1024, by omega⟩ : Fin 512))
        (off _) (by simp [ix2]; omega)).trans ((branch_c x3 x4 x5 x8 x9 T ⟨e.val - 1024, by omega⟩).trans ?_)
      rw [show (⟨1024 + (e.val - 1024), by omega⟩ : Fin 2048) = e from Fin.ext (by simp only; omega)]
    · rw [dif_neg h₂]
      refine (concatenate_apply_piece 1 [⟨S16384x1024, val_main_v39 (F := Ideal) x1 x2 x9⟩, ⟨S16384x512, val_main_v54 (F := Ideal) x3 x4 x5 x8 x9⟩,
      ⟨S16384x512, val_main_v69 (F := Ideal) x6 x7 x9⟩] _ (ix2 T e) 2 (show 2 < 3 by decide) S16384x512 _ rfl rfl 1536 rfl (ix2 T (⟨e.val - 1536, by omega⟩ : Fin 512))
        (off _) (by simp [ix2]; omega)).trans ((branch_s x6 x7 x9 T ⟨e.val - 1536, by omega⟩).trans ?_)
      rw [show (⟨1536 + (e.val - 1536), by omega⟩ : Fin 2048) = e from Fin.ext (by simp only; omega)]

/-- The reference's result: the residual and the product. -/
theorem summed_apply (T : Fin 16384) (j : Fin 2048) :
    val_main_v73 (F := Ideal) x0 x1 x2 x3 x4 x5 x6 x7 x8 x9 x10 (ix2 T j)
      = summed x0 (mixed x1 x2 x3 x4 x5 x6 x7 x8 x9) x10 T j := by
  rw [val_main_v73_apply, val_main_v72_apply]
  unfold summed
  refine congrArg (fun z : EReal => x0 (ix2 T j) + z) (Finset.sum_congr rfl fun e _ => ?_)
  rw [val_main_v71_apply]
  refine congrArg₂ (fun x y : EReal => x * y) ?_ (congrArg x10 (Shape.idx_ext₂ rfl rfl))
  exact (congrArg _ (Shape.idx_ext₂ rfl rfl : lidx_main_v72 (ix2 T j) e = ix2 T e)).trans (mixed_apply x1 x2 x3 x4 x5 x6 x7 x8 x9 T e)

end Cert.Reference5Ideal.Read

end
-- ==== Proof.InnerClaims.lean ====
/-
  The claims of the mixing call without the last norm: the reference's program leaves the semaphores alone, and kernel and reference agree.
-/
module

public import proofs.«01_k».proof.Defs
public import proofs.«01_k».proof.Proof.InnerBlocks
public import proofs.«01_k».proof.Proof.InnerReference
public import proofs.«01_k».proof.Proof.Gen.Kernel5Ideal.Frame
public import proofs.«01_k».proof.Proof.Gen.Reference5Ideal.Run

@[expose] public section

noncomputable section

open Idealize.ShloMosaic Idealize.ShloMosaic.ValueIdx Idealize.SL.Sem

namespace Cert.InnerMix

/-- The reference runs to the end, keeps its arguments and leaves every semaphore at zero. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference, launched on the same arguments, both end with the mixed branches' result. -/
theorem equal : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Value.resultArray m c, ?_, ?_⟩
  · exact (θ_run Cert.Kernel5Ideal.defs _ _).mono (fun r h c => ⟨((h c).1).trans (Cert.Kernel5Ideal.Value.final m c), (h c).2⟩)
      (Cert.Kernel5Ideal.Value.run_blocks (F := Ideal) m g)
  · refine (θ_run Cert.Reference5Ideal.defs _ _).mono (fun r h c => ⟨((h c).1).trans ?_, (h c).2⟩)
      (Cert.Reference5Ideal.Value.run (F := Ideal) m' g')
    obtain ⟨a0, a1, a2, a3, a4, a5, a6, a7, a8, a9, a10, _⟩ := hagree c
    refine (Cert.Reference5Ideal.Read.val_main_v73_eq (F := Ideal) m' c).trans ?_
    rw [a0, a1, a2, a3, a4, a5, a6, a7, a8, a9, a10]
    funext y
    refine (congrArg _ (eq_ix2 y)).trans ?_
    exact Cert.Reference5Ideal.Read.summed_apply _ _ _ _ _ _ _ _ _ _ _ (y 0) (y 1)

end Cert.InnerMix

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.AttentionClaims
public import proofs.«01_k».proof.Proof.MixClaims
public import proofs.«01_k».proof.Proof.RestClaims
public import proofs.«01_k».proof.Proof.RotaryClaims
public import proofs.«01_k».proof.Proof.InnerClaims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Attention.pre_facts,
  fun m ρ _ => Cert.Kernel.Gen.frame m ρ,
  fun m ρ _ => Cert.KernelIdeal.Gen.frame m ρ,
  fun m ρ _ => Cert.KernelIdeal.Gen.frame m ρ,
  Cert.Attention.frame_reference,
  fun m ρ _ => Cert.Attention.frame_reference m ρ trivial,
  fun m ρ _ => Cert.Kernel2.Gen.frame m ρ,
  fun m ρ _ => Cert.Kernel2Ideal.Gen.frame m ρ,
  Cert.Mix.frame_reference,
  fun m ρ _ => Cert.Kernel3.Gen.frame m ρ,
  fun m ρ _ => Cert.Kernel3Ideal.Gen.frame m ρ,
  Cert.RestProjection.frame_reference,
  fun m ρ _ => Cert.Kernel4.Gen.frame m ρ,
  fun m ρ _ => Cert.Kernel4Ideal.Gen.frame m ρ,
  Cert.Rotary.frame_reference,
  fun m ρ _ => Cert.Kernel5.Gen.frame m ρ,
  fun m ρ _ => Cert.Kernel5Ideal.Gen.frame m ρ,
  Cert.InnerMix.frame_reference,
  trivial,
  Cert.Attention.equal,
  trivial,
  Cert.Mix.equal,
  trivial,
  Cert.RestProjection.equal,
  trivial,
  Cert.Rotary.equal,
  trivial,
  Cert.InnerMix.equal⟩

end Cert.Proof

end
